-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvRefIdeal (m : (ℓ : Loc Cert.WkvRefIdeal.nD Cert.WkvRefIdeal.τ Cert.WkvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2)
      ∧ r.2.mem ((c.tc : Thread Cert.Wkv.nD Cert.Wkv.τ).loc Cert.Wkv.main_arg3) = m ((c.tc : Thread Cert.Wkv.nD Cert.Wkv.τ).loc Cert.Wkv.main_arg3)
      ∧ r.2.mem ((c.tc : Thread Cert.Wkv.nD Cert.Wkv.τ).loc Cert.Wkv.main_arg4) = m ((c.tc : Thread Cert.Wkv.nD Cert.Wkv.τ).loc Cert.Wkv.main_arg4)
      ∧ r.2.mem ((c.tc : Thread Cert.Wkv.nD Cert.Wkv.τ).loc Cert.Wkv.main_arg5) = m ((c.tc : Thread Cert.Wkv.nD Cert.Wkv.τ).loc Cert.Wkv.main_arg5)
      ∧ r.2.mem ((c.tc : Thread Cert.Wkv.nD Cert.Wkv.τ).loc Cert.Wkv.main_arg6) = m ((c.tc : Thread Cert.Wkv.nD Cert.Wkv.τ).loc Cert.Wkv.main_arg6)
      ∧ r.2.mem ((c.tc : Thread Cert.Wkv.nD Cert.Wkv.τ).loc Cert.Wkv.main_arg7) = m ((c.tc : Thread Cert.Wkv.nD Cert.Wkv.τ).loc Cert.Wkv.main_arg7)
      ∧ r.2.mem ((c.tc : Thread Cert.Wkv.nD Cert.Wkv.τ).loc Cert.Wkv.main_arg8) = m ((c.tc : Thread Cert.Wkv.nD Cert.Wkv.τ).loc Cert.Wkv.main_arg8)
      ∧ r.2.mem ((c.tc : Thread Cert.Wkv.nD Cert.Wkv.τ).loc Cert.Wkv.main_arg9) = m ((c.tc : Thread Cert.Wkv.nD Cert.Wkv.τ).loc Cert.Wkv.main_arg9))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
      ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
      ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
      ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7)
      ∧ r.2.mem ((c.tc : Thread Cert.WkvIdeal.nD Cert.WkvIdeal.τ).loc Cert.WkvIdeal.main_arg8) = m ((c.tc : Thread Cert.WkvIdeal.nD Cert.WkvIdeal.τ).loc Cert.WkvIdeal.main_arg8)
      ∧ r.2.mem ((c.tc : Thread Cert.WkvIdeal.nD Cert.WkvIdeal.τ).loc Cert.WkvIdeal.main_arg9) = m ((c.tc : Thread Cert.WkvIdeal.nD Cert.WkvIdeal.τ).loc Cert.WkvIdeal.main_arg9))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1)
      ∧ r.2.mem ((c.tc : Thread Cert.WkvRefIdeal.nD Cert.WkvRefIdeal.τ).loc Cert.WkvRefIdeal.main_arg2) = m ((c.tc : Thread Cert.WkvRefIdeal.nD Cert.WkvRefIdeal.τ).loc Cert.WkvRefIdeal.main_arg2)
      ∧ r.2.mem ((c.tc : Thread Cert.WkvRefIdeal.nD Cert.WkvRefIdeal.τ).loc Cert.WkvRefIdeal.main_arg3) = m ((c.tc : Thread Cert.WkvRefIdeal.nD Cert.WkvRefIdeal.τ).loc Cert.WkvRefIdeal.main_arg3)
      ∧ r.2.mem ((c.tc : Thread Cert.WkvRefIdeal.nD Cert.WkvRefIdeal.τ).loc Cert.WkvRefIdeal.main_arg4) = m ((c.tc : Thread Cert.WkvRefIdeal.nD Cert.WkvRefIdeal.τ).loc Cert.WkvRefIdeal.main_arg4)
      ∧ r.2.mem ((c.tc : Thread Cert.WkvRefIdeal.nD Cert.WkvRefIdeal.τ).loc Cert.WkvRefIdeal.main_arg5) = m ((c.tc : Thread Cert.WkvRefIdeal.nD Cert.WkvRefIdeal.τ).loc Cert.WkvRefIdeal.main_arg5)
      ∧ r.2.mem ((c.tc : Thread Cert.WkvRefIdeal.nD Cert.WkvRefIdeal.τ).loc Cert.WkvRefIdeal.main_arg6) = m ((c.tc : Thread Cert.WkvRefIdeal.nD Cert.WkvRefIdeal.τ).loc Cert.WkvRefIdeal.main_arg6)
      ∧ r.2.mem ((c.tc : Thread Cert.WkvRefIdeal.nD Cert.WkvRefIdeal.τ).loc Cert.WkvRefIdeal.main_arg7) = m ((c.tc : Thread Cert.WkvRefIdeal.nD Cert.WkvRefIdeal.τ).loc Cert.WkvRefIdeal.main_arg7)
      ∧ r.2.mem ((c.tc : Thread Cert.WkvRefIdeal.nD Cert.WkvRefIdeal.τ).loc Cert.WkvRefIdeal.main_arg8) = m ((c.tc : Thread Cert.WkvRefIdeal.nD Cert.WkvRefIdeal.τ).loc Cert.WkvRefIdeal.main_arg8)
      ∧ r.2.mem ((c.tc : Thread Cert.WkvRefIdeal.nD Cert.WkvRefIdeal.τ).loc Cert.WkvRefIdeal.main_arg9) = m ((c.tc : Thread Cert.WkvRefIdeal.nD Cert.WkvRefIdeal.τ).loc Cert.WkvRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)) →
    ∃ (v0 : (c : Dev Cert.FfnIdeal.nD) → Buf (Elt Ideal) ((c.tc : Thread Cert.FfnIdeal.nD Cert.FfnIdeal.τ).loc Cert.FfnIdeal.main_v38)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v38) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v85) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12))

def preserves_Wkv_WkvIdeal : Prop :=
  True

def algebraic_WkvIdeal_WkvRefIdeal_on_gate_and_bonus [hWkvIdeal : Cert.WkvIdeal.Facts] [hWkvRefIdeal : Cert.WkvRefIdeal.Facts] [hOn_gate_and_bonus : Cert.On_gate_and_bonus.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvIdeal m →
    (∀ c : Dev Cert.WkvIdeal.nD,
      m' ((c.tc : Thread Cert.WkvRefIdeal.nD Cert.WkvRefIdeal.τ).loc Cert.WkvRefIdeal.main_arg0) = m ((c.tc : Thread Cert.WkvIdeal.nD Cert.WkvIdeal.τ).loc Cert.WkvIdeal.main_arg0)
      ∧ m' ((c.tc : Thread Cert.WkvRefIdeal.nD Cert.WkvRefIdeal.τ).loc Cert.WkvRefIdeal.main_arg1) = m ((c.tc : Thread Cert.WkvIdeal.nD Cert.WkvIdeal.τ).loc Cert.WkvIdeal.main_arg1)
      ∧ m' ((c.tc : Thread Cert.WkvRefIdeal.nD Cert.WkvRefIdeal.τ).loc Cert.WkvRefIdeal.main_arg2) = m ((c.tc : Thread Cert.WkvIdeal.nD Cert.WkvIdeal.τ).loc Cert.WkvIdeal.main_arg2)
      ∧ m' ((c.tc : Thread Cert.WkvRefIdeal.nD Cert.WkvRefIdeal.τ).loc Cert.WkvRefIdeal.main_arg3) = m ((c.tc : Thread Cert.WkvIdeal.nD Cert.WkvIdeal.τ).loc Cert.WkvIdeal.main_arg3)
      ∧ m' ((c.tc : Thread Cert.WkvRefIdeal.nD Cert.WkvRefIdeal.τ).loc Cert.WkvRefIdeal.main_arg4) = m ((c.tc : Thread Cert.WkvIdeal.nD Cert.WkvIdeal.τ).loc Cert.WkvIdeal.main_arg4)
      ∧ m' ((c.tc : Thread Cert.WkvRefIdeal.nD Cert.WkvRefIdeal.τ).loc Cert.WkvRefIdeal.main_arg5) = m ((c.tc : Thread Cert.WkvIdeal.nD Cert.WkvIdeal.τ).loc Cert.WkvIdeal.main_arg5)
      ∧ m' ((c.tc : Thread Cert.WkvRefIdeal.nD Cert.WkvRefIdeal.τ).loc Cert.WkvRefIdeal.main_arg6) = m ((c.tc : Thread Cert.WkvIdeal.nD Cert.WkvIdeal.τ).loc Cert.WkvIdeal.main_arg6)
      ∧ m' ((c.tc : Thread Cert.WkvRefIdeal.nD Cert.WkvRefIdeal.τ).loc Cert.WkvRefIdeal.main_arg7) = m ((c.tc : Thread Cert.WkvIdeal.nD Cert.WkvIdeal.τ).loc Cert.WkvIdeal.main_arg7)
      ∧ m' ((c.tc : Thread Cert.WkvRefIdeal.nD Cert.WkvRefIdeal.τ).loc Cert.WkvRefIdeal.main_arg8) = m ((c.tc : Thread Cert.WkvIdeal.nD Cert.WkvIdeal.τ).loc Cert.WkvIdeal.main_arg8)
      ∧ m' ((c.tc : Thread Cert.WkvRefIdeal.nD Cert.WkvRefIdeal.τ).loc Cert.WkvRefIdeal.main_arg9) = m ((c.tc : Thread Cert.WkvIdeal.nD Cert.WkvIdeal.τ).loc Cert.WkvIdeal.main_arg9)) →
    ∃ (v0 : (c : Dev Cert.WkvIdeal.nD) → Buf (Elt Ideal) ((c.tc : Thread Cert.WkvIdeal.nD Cert.WkvIdeal.τ).loc Cert.WkvIdeal.main_v27_0)) (v1 : (c : Dev Cert.WkvIdeal.nD) → Buf (Elt Ideal) ((c.tc : Thread Cert.WkvIdeal.nD Cert.WkvIdeal.τ).loc Cert.WkvIdeal.main_v27_1)) (v2 : (c : Dev Cert.WkvIdeal.nD) → Buf (Elt Ideal) ((c.tc : Thread Cert.WkvIdeal.nD Cert.WkvIdeal.τ).loc Cert.WkvIdeal.main_v27_2)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          (∀ i : (⟨3, ![2, 8192, 512]⟩ : Shape).Idx, (Cert.On_gate_and_bonus.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7)) (m ((c.tc : Thread Cert.WkvIdeal.nD Cert.WkvIdeal.τ).loc Cert.WkvIdeal.main_arg8)) (m ((c.tc : Thread Cert.WkvIdeal.nD Cert.WkvIdeal.τ).loc Cert.WkvIdeal.main_arg9))).1 i = 1#1 → r.2.mem ((c.tc : Thread Cert.WkvIdeal.nD Cert.WkvIdeal.τ).loc Cert.WkvIdeal.main_v27_0) i = v0 c i)
          ∧ (∀ i : (⟨3, ![2, 8192, 512]⟩ : Shape).Idx, (Cert.On_gate_and_bonus.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7)) (m ((c.tc : Thread Cert.WkvIdeal.nD Cert.WkvIdeal.τ).loc Cert.WkvIdeal.main_arg8)) (m ((c.tc : Thread Cert.WkvIdeal.nD Cert.WkvIdeal.τ).loc Cert.WkvIdeal.main_arg9))).2.1 i = 1#1 → r.2.mem ((c.tc : Thread Cert.WkvIdeal.nD Cert.WkvIdeal.τ).loc Cert.WkvIdeal.main_v27_1) i = v1 c i)
          ∧ (∀ i : (⟨3, ![2, 8192, 512]⟩ : Shape).Idx, (Cert.On_gate_and_bonus.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7)) (m ((c.tc : Thread Cert.WkvIdeal.nD Cert.WkvIdeal.τ).loc Cert.WkvIdeal.main_arg8)) (m ((c.tc : Thread Cert.WkvIdeal.nD Cert.WkvIdeal.τ).loc Cert.WkvIdeal.main_arg9))).2.2 i = 1#1 → r.2.mem ((c.tc : Thread Cert.WkvIdeal.nD Cert.WkvIdeal.τ).loc Cert.WkvIdeal.main_v27_2) i = v2 c i)
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
          ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
          ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
          ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
          ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
          ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
          ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7)
          ∧ r.2.mem ((c.tc : Thread Cert.WkvIdeal.nD Cert.WkvIdeal.τ).loc Cert.WkvIdeal.main_arg8) = m ((c.tc : Thread Cert.WkvIdeal.nD Cert.WkvIdeal.τ).loc Cert.WkvIdeal.main_arg8)
          ∧ r.2.mem ((c.tc : Thread Cert.WkvIdeal.nD Cert.WkvIdeal.τ).loc Cert.WkvIdeal.main_arg9) = m ((c.tc : Thread Cert.WkvIdeal.nD Cert.WkvIdeal.τ).loc Cert.WkvIdeal.main_arg9))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          (∀ i : (⟨3, ![2, 8192, 512]⟩ : Shape).Idx, (Cert.On_gate_and_bonus.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7)) (m ((c.tc : Thread Cert.WkvIdeal.nD Cert.WkvIdeal.τ).loc Cert.WkvIdeal.main_arg8)) (m ((c.tc : Thread Cert.WkvIdeal.nD Cert.WkvIdeal.τ).loc Cert.WkvIdeal.main_arg9))).1 i = 1#1 → r.2.mem ((c.tc : Thread Cert.WkvRefIdeal.nD Cert.WkvRefIdeal.τ).loc Cert.WkvRefIdeal.main_v80) i = v0 c i)
          ∧ (∀ i : (⟨3, ![2, 8192, 512]⟩ : Shape).Idx, (Cert.On_gate_and_bonus.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7)) (m ((c.tc : Thread Cert.WkvIdeal.nD Cert.WkvIdeal.τ).loc Cert.WkvIdeal.main_arg8)) (m ((c.tc : Thread Cert.WkvIdeal.nD Cert.WkvIdeal.τ).loc Cert.WkvIdeal.main_arg9))).2.1 i = 1#1 → r.2.mem ((c.tc : Thread Cert.WkvRefIdeal.nD Cert.WkvRefIdeal.τ).loc Cert.WkvRefIdeal.main_v102) i = v1 c i)
          ∧ (∀ i : (⟨3, ![2, 8192, 512]⟩ : Shape).Idx, (Cert.On_gate_and_bonus.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7)) (m ((c.tc : Thread Cert.WkvIdeal.nD Cert.WkvIdeal.τ).loc Cert.WkvIdeal.main_arg8)) (m ((c.tc : Thread Cert.WkvIdeal.nD Cert.WkvIdeal.τ).loc Cert.WkvIdeal.main_arg9))).2.2 i = 1#1 → r.2.mem ((c.tc : Thread Cert.WkvRefIdeal.nD Cert.WkvRefIdeal.τ).loc Cert.WkvRefIdeal.main_v150) i = v2 c i)
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1)
          ∧ r.2.mem ((c.tc : Thread Cert.WkvRefIdeal.nD Cert.WkvRefIdeal.τ).loc Cert.WkvRefIdeal.main_arg2) = m' ((c.tc : Thread Cert.WkvRefIdeal.nD Cert.WkvRefIdeal.τ).loc Cert.WkvRefIdeal.main_arg2)
          ∧ r.2.mem ((c.tc : Thread Cert.WkvRefIdeal.nD Cert.WkvRefIdeal.τ).loc Cert.WkvRefIdeal.main_arg3) = m' ((c.tc : Thread Cert.WkvRefIdeal.nD Cert.WkvRefIdeal.τ).loc Cert.WkvRefIdeal.main_arg3)
          ∧ r.2.mem ((c.tc : Thread Cert.WkvRefIdeal.nD Cert.WkvRefIdeal.τ).loc Cert.WkvRefIdeal.main_arg4) = m' ((c.tc : Thread Cert.WkvRefIdeal.nD Cert.WkvRefIdeal.τ).loc Cert.WkvRefIdeal.main_arg4)
          ∧ r.2.mem ((c.tc : Thread Cert.WkvRefIdeal.nD Cert.WkvRefIdeal.τ).loc Cert.WkvRefIdeal.main_arg5) = m' ((c.tc : Thread Cert.WkvRefIdeal.nD Cert.WkvRefIdeal.τ).loc Cert.WkvRefIdeal.main_arg5)
          ∧ r.2.mem ((c.tc : Thread Cert.WkvRefIdeal.nD Cert.WkvRefIdeal.τ).loc Cert.WkvRefIdeal.main_arg6) = m' ((c.tc : Thread Cert.WkvRefIdeal.nD Cert.WkvRefIdeal.τ).loc Cert.WkvRefIdeal.main_arg6)
          ∧ r.2.mem ((c.tc : Thread Cert.WkvRefIdeal.nD Cert.WkvRefIdeal.τ).loc Cert.WkvRefIdeal.main_arg7) = m' ((c.tc : Thread Cert.WkvRefIdeal.nD Cert.WkvRefIdeal.τ).loc Cert.WkvRefIdeal.main_arg7)
          ∧ r.2.mem ((c.tc : Thread Cert.WkvRefIdeal.nD Cert.WkvRefIdeal.τ).loc Cert.WkvRefIdeal.main_arg8) = m' ((c.tc : Thread Cert.WkvRefIdeal.nD Cert.WkvRefIdeal.τ).loc Cert.WkvRefIdeal.main_arg8)
          ∧ r.2.mem ((c.tc : Thread Cert.WkvRefIdeal.nD Cert.WkvRefIdeal.τ).loc Cert.WkvRefIdeal.main_arg9) = m' ((c.tc : Thread Cert.WkvRefIdeal.nD Cert.WkvRefIdeal.τ).loc Cert.WkvRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v38_0)) (v1 : (c : Dev Cert.ProjIdeal.nD) → Buf (Elt Ideal) ((c.tc : Thread Cert.ProjIdeal.nD Cert.ProjIdeal.τ).loc Cert.ProjIdeal.main_v38_1)) (v2 : (c : Dev Cert.ProjIdeal.nD) → Buf (Elt Ideal) ((c.tc : Thread Cert.ProjIdeal.nD Cert.ProjIdeal.τ).loc Cert.ProjIdeal.main_v38_2)) (v3 : (c : Dev Cert.ProjIdeal.nD) → Buf (Elt Ideal) ((c.tc : Thread Cert.ProjIdeal.nD Cert.ProjIdeal.τ).loc Cert.ProjIdeal.main_v38_3)) (v4 : (c : Dev Cert.ProjIdeal.nD) → Buf (Elt Ideal) ((c.tc : Thread Cert.ProjIdeal.nD Cert.ProjIdeal.τ).loc Cert.ProjIdeal.main_v38_4)) (v5 : (c : Dev Cert.ProjIdeal.nD) → Buf (Elt Ideal) ((c.tc : Thread Cert.ProjIdeal.nD Cert.ProjIdeal.τ).loc Cert.ProjIdeal.main_v38_5)) (v6 : (c : Dev Cert.ProjIdeal.nD) → Buf (Elt Ideal) ((c.tc : Thread Cert.ProjIdeal.nD Cert.ProjIdeal.τ).loc Cert.ProjIdeal.main_v38_6)) (v7 : (c : Dev Cert.ProjIdeal.nD) → Buf (Elt Ideal) ((c.tc : Thread Cert.ProjIdeal.nD Cert.ProjIdeal.τ).loc Cert.ProjIdeal.main_v38_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38_0) = v0 c
          ∧ r.2.mem ((c.tc : Thread Cert.ProjIdeal.nD Cert.ProjIdeal.τ).loc Cert.ProjIdeal.main_v38_1) = v1 c
          ∧ r.2.mem ((c.tc : Thread Cert.ProjIdeal.nD Cert.ProjIdeal.τ).loc Cert.ProjIdeal.main_v38_2) = v2 c
          ∧ r.2.mem ((c.tc : Thread Cert.ProjIdeal.nD Cert.ProjIdeal.τ).loc Cert.ProjIdeal.main_v38_3) = v3 c
          ∧ r.2.mem ((c.tc : Thread Cert.ProjIdeal.nD Cert.ProjIdeal.τ).loc Cert.ProjIdeal.main_v38_4) = v4 c
          ∧ r.2.mem ((c.tc : Thread Cert.ProjIdeal.nD Cert.ProjIdeal.τ).loc Cert.ProjIdeal.main_v38_5) = v5 c
          ∧ r.2.mem ((c.tc : Thread Cert.ProjIdeal.nD Cert.ProjIdeal.τ).loc Cert.ProjIdeal.main_v38_6) = v6 c
          ∧ r.2.mem ((c.tc : Thread Cert.ProjIdeal.nD Cert.ProjIdeal.τ).loc Cert.ProjIdeal.main_v38_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v93) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v18) = v2 c
          ∧ r.2.mem ((c.tc : Thread Cert.ProjRefIdeal.nD Cert.ProjRefIdeal.τ).loc Cert.ProjRefIdeal.main_v104) = v3 c
          ∧ r.2.mem ((c.tc : Thread Cert.ProjRefIdeal.nD Cert.ProjRefIdeal.τ).loc Cert.ProjRefIdeal.main_v116) = v4 c
          ∧ r.2.mem ((c.tc : Thread Cert.ProjRefIdeal.nD Cert.ProjRefIdeal.τ).loc Cert.ProjRefIdeal.main_v124) = v5 c
          ∧ r.2.mem ((c.tc : Thread Cert.ProjRefIdeal.nD Cert.ProjRefIdeal.τ).loc Cert.ProjRefIdeal.main_v126) = v6 c
          ∧ r.2.mem ((c.tc : Thread Cert.ProjRefIdeal.nD Cert.ProjRefIdeal.τ).loc Cert.ProjRefIdeal.main_v24) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hFfn : Cert.Ffn.Facts) (hFfnIdeal : Cert.FfnIdeal.Facts) (hFfnRefIdeal : Cert.FfnRefIdeal.Facts) (hWkv : Cert.Wkv.Facts) (hWkvIdeal : Cert.WkvIdeal.Facts) (hWkvRefIdeal : Cert.WkvRefIdeal.Facts) (hProj : Cert.Proj.Facts) (hProjIdeal : Cert.ProjIdeal.Facts) (hProjRefIdeal : Cert.ProjRefIdeal.Facts) (hOn_gate_and_bonus : Cert.On_gate_and_bonus.Facts),
    quiescent_Ffn (hFfn := hFfn)
    ∧ quiescent_FfnIdeal (hFfnIdeal := hFfnIdeal)
    ∧ quiescent_FfnRefIdeal (hFfnRefIdeal := hFfnRefIdeal)
    ∧ quiescent_Wkv (hWkv := hWkv)
    ∧ quiescent_WkvIdeal (hWkvIdeal := hWkvIdeal)
    ∧ quiescent_WkvRefIdeal (hWkvRefIdeal := hWkvRefIdeal)
    ∧ quiescent_Proj (hProj := hProj)
    ∧ quiescent_ProjIdeal (hProjIdeal := hProjIdeal)
    ∧ quiescent_ProjRefIdeal (hProjRefIdeal := hProjRefIdeal)
    ∧ preserves_Ffn_FfnIdeal
    ∧ algebraic_FfnIdeal_FfnRefIdeal (hFfnIdeal := hFfnIdeal) (hFfnRefIdeal := hFfnRefIdeal)
    ∧ preserves_Wkv_WkvIdeal
    ∧ algebraic_WkvIdeal_WkvRefIdeal_on_gate_and_bonus (hWkvIdeal := hWkvIdeal) (hWkvRefIdeal := hWkvRefIdeal) (hOn_gate_and_bonus := hOn_gate_and_bonus)
    ∧ preserves_Proj_ProjIdeal
    ∧ algebraic_ProjIdeal_ProjRefIdeal (hProjIdeal := hProjIdeal) (hProjRefIdeal := hProjRefIdeal)
-- ==== On_gate_and_bonus.lean ====
abbrev S2x8192x1792 : Shape := ⟨3, ![2, 8192, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S_ : Shape := ⟨0, ![]⟩
abbrev S2x8192x512 : Shape := ⟨3, ![2, 8192, 512]⟩

class Facts : Prop where
  bcast_S_S2x8192x512 : S_.BroadcastsInDim S2x8192x512 (![] : Fin 0 → Fin S2x8192x512.rank)

variable [Facts]

def fn {F : FTy → Type} [FloatOps F] (main_arg0 : FVec F S2x8192x1792 .f32) (main_arg1 : FVec F S1x1792 .f32) (main_arg2 : FVec F S1x512 .f32) (main_arg3 : FVec F S1x64x512 .f32) (main_arg4 : FVec F S1x512 .f32) (main_arg5 : FVec F S1x64x512 .f32) (main_arg6 : FVec F S1x128x512 .f32) (main_arg7 : FVec F S1x512 .f32) (main_arg8 : FVec F S1x512 .f32) (main_arg9 : FVec F S1x8x64 .f32) : IVec S2x8192x512 1 × IVec S2x8192x512 1 × IVec S2x8192x512 1 :=
  let main_c : IVec S_ 1 := constantI S_ 1 0#1
  let main_v0 : IVec S2x8192x512 1 := broadcastInDim S2x8192x512 ![] bcast_S_S2x8192x512 main_c
  let main_v1 : IVec S2x8192x512 1 := noti main_v0
  let main_v2 : IVec S2x8192x512 1 := noti main_v0
  (main_v0, main_v1, main_v2)
-- ==== Ffn.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S512 : Shape := ⟨1, ![512]⟩
abbrev S512x1 : Shape := ⟨2, ![512, 1]⟩
abbrev S_ : Shape := ⟨0, ![]⟩
abbrev S512x512 : Shape := ⟨2, ![512, 512]⟩
abbrev S1024x5632 : Shape := ⟨2, ![1024, 5632]⟩
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S3x5632 : Shape := ⟨2, ![3, 5632]⟩
abbrev S3x2816 : Shape := ⟨2, ![3, 2816]⟩
abbrev S5632 : Shape := ⟨1, ![5632]⟩
abbrev S2816 : Shape := ⟨1, ![2816]⟩
abbrev S1x2816 : Shape := ⟨2, ![1, 2816]⟩
abbrev S2816x1024 : Shape := ⟨2, ![2816, 1024]⟩
abbrev S512x1024 : Shape := ⟨2, ![512, 1024]⟩
abbrev S16x1024 : Shape := ⟨2, ![16, 1024]⟩
abbrev S16x512 : Shape := ⟨2, ![16, 512]⟩
abbrev S528x1024 : Shape := ⟨2, ![528, 1024]⟩
abbrev S2x528x256 : Shape := ⟨3, ![2, 528, 256]⟩
abbrev S512x2816 : Shape := ⟨2, ![512, 2816]⟩
abbrev S528x512 : Shape := ⟨2, ![528, 512]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩
abbrev S1x528x256 : Shape := ⟨3, ![1, 528, 256]⟩
abbrev S1x256 : Shape := ⟨2, ![1, 256]⟩
abbrev S1x512x256 : Shape := ⟨3, ![1, 512, 256]⟩
abbrev S512x256 : Shape := ⟨2, ![512, 256]⟩

abbrev nBuf : Space → Nat
  | .hbm => 86
  | .vmem => 39
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x3x5632, .f32⟩
  | .hbm, ⟨11, _⟩ => ⟨S1x5632, .f32⟩
  | .hbm, ⟨12, _⟩ => ⟨S1x2816x1024, .f32⟩
  | .hbm, ⟨13, _⟩ => ⟨S512, .i32⟩
  | .hbm, ⟨14, _⟩ => ⟨S512x1, .i32⟩
  | .hbm, ⟨15, _⟩ => ⟨S_, .i32⟩
  | .hbm, ⟨16, _⟩ => ⟨S_, .i32⟩
  | .hbm, ⟨17, _⟩ => ⟨S512x1, .i32⟩
  | .hbm, ⟨18, _⟩ => ⟨S512x1, .i32⟩
  | .hbm, ⟨19, _⟩ => ⟨S512x1, .i32⟩
  | .hbm, ⟨20, _⟩ => ⟨S_, .i32⟩
  | .hbm, ⟨21, _⟩ => ⟨S512x1, .i32⟩
  | .hbm, ⟨22, _⟩ => ⟨S512x1, .i1⟩
  | .hbm, ⟨23, _⟩ => ⟨S512x1, .i32⟩
  | .hbm, ⟨24, _⟩ => ⟨S512x1, .i32⟩
  | .hbm, ⟨25, _⟩ => ⟨S_, .i32⟩
  | .hbm, ⟨26, _⟩ => ⟨S512x1, .i32⟩
  | .hbm, ⟨27, _⟩ => ⟨S512x1, .i1⟩
  | .hbm, ⟨28, _⟩ => ⟨S512x1, .i1⟩
  | .hbm, ⟨29, _⟩ => ⟨S_, .i32⟩
  | .hbm, ⟨30, _⟩ => ⟨S512x1, .i32⟩
  | .hbm, ⟨31, _⟩ => ⟨S512x1, .i32⟩
  | .hbm, ⟨32, _⟩ => ⟨S512x1, .i32⟩
  | .hbm, ⟨33, _⟩ => ⟨S1x512, .i32⟩
  | .hbm, ⟨34, _⟩ => ⟨S_, .i32⟩
  | .hbm, ⟨35, _⟩ => ⟨S_, .i32⟩
  | .hbm, ⟨36, _⟩ => ⟨S1x512, .i32⟩
  | .hbm, ⟨37, _⟩ => ⟨S1x512, .i32⟩
  | .hbm, ⟨38, _⟩ => ⟨S1x512, .i32⟩
  | .hbm, ⟨39, _⟩ => ⟨S_, .i32⟩
  | .hbm, ⟨40, _⟩ => ⟨S1x512, .i32⟩
  | .hbm, ⟨41, _⟩ => ⟨S1x512, .i1⟩
  | .hbm, ⟨42, _⟩ => ⟨S1x512, .i32⟩
  | .hbm, ⟨43, _⟩ => ⟨S1x512, .i32⟩
  | .hbm, ⟨44, _⟩ => ⟨S_, .i32⟩
  | .hbm, ⟨45, _⟩ => ⟨S1x512, .i32⟩
  | .hbm, ⟨46, _⟩ => ⟨S1x512, .i1⟩
  | .hbm, ⟨47, _⟩ => ⟨S1x512, .i1⟩
  | .hbm, ⟨48, _⟩ => ⟨S_, .i32⟩
  | .hbm, ⟨49, _⟩ => ⟨S1x512, .i32⟩
  | .hbm, ⟨50, _⟩ => ⟨S1x512, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S512x512, .bf16⟩
  | .hbm, ⟨56, _⟩ => ⟨S1024x5632, .f32⟩
  | .hbm, ⟨57, _⟩ => ⟨S1024x5632, .bf16⟩
  | .hbm, ⟨58, _⟩ => ⟨S16384x1024, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S512, .f32⟩
  | .hbm, ⟨64, _⟩ => ⟨S1x512, .f32⟩
  | .hbm, ⟨65, _⟩ => ⟨S512, .f32⟩
  | .hbm, ⟨66, _⟩ => ⟨S1x512, .f32⟩
  | .hbm, ⟨67, _⟩ => ⟨S1024x1024, .f32⟩
  | .hbm, ⟨68, _⟩ => ⟨S1024x1024, .bf16⟩
  | .hbm, ⟨69, _⟩ => ⟨S1024, .f32⟩
  | .hbm, ⟨70, _⟩ => ⟨S1x1024, .f32⟩
  | .hbm, ⟨71, _⟩ => ⟨S1024x2816, .bf16⟩
  | .hbm, ⟨72, _⟩ => ⟨S1024x2816, .bf16⟩
  | .hbm, ⟨73, _⟩ => ⟨S3x5632, .f32⟩
  | .hbm, ⟨74, _⟩ => ⟨S3x2816, .f32⟩
  | .hbm, ⟨75, _⟩ => ⟨S3x5632, .f32⟩
  | .hbm, ⟨76, _⟩ => ⟨S3x2816, .f32⟩
  | .hbm, ⟨77, _⟩ => ⟨S5632, .f32⟩
  | .hbm, ⟨78, _⟩ => ⟨S2816, .f32⟩
  | .hbm, ⟨79, _⟩ => ⟨S1x2816, .f32⟩
  | .hbm, ⟨80, _⟩ => ⟨S5632, .f32⟩
  | .hbm, ⟨81, _⟩ => ⟨S2816, .f32⟩
  | .hbm, ⟨82, _⟩ => ⟨S1x2816, .f32⟩
  | .hbm, ⟨83, _⟩ => ⟨S2816x1024, .f32⟩
  | .hbm, ⟨84, _⟩ => ⟨S2816x1024, .bf16⟩
  | .hbm, ⟨85, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S16x1024, .f32⟩
  | .local _ .vmem, ⟨11, _⟩ => ⟨S16x1024, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S16x512, .f32⟩
  | .local _ .vmem, ⟨19, _⟩ => ⟨S16x512, .f32⟩
  | .local _ .vmem, ⟨20, _⟩ => ⟨S512x512, .bf16⟩
  | .local _ .vmem, ⟨21, _⟩ => ⟨S1x512, .f32⟩
  | .local _ .vmem, ⟨22, _⟩ => ⟨S1x512, .f32⟩
  | .local _ .vmem, ⟨23, _⟩ => ⟨S1024x1024, .bf16⟩
  | .local _ .vmem, ⟨24, _⟩ => ⟨S1x1024, .f32⟩
  | .local _ .vmem, ⟨25, _⟩ => ⟨S1024x2816, .bf16⟩
  | .local _ .vmem, ⟨26, _⟩ => ⟨S1024x2816, .bf16⟩
  | .local _ .vmem, ⟨27, _⟩ => ⟨S3x2816, .f32⟩
  | .local _ .vmem, ⟨28, _⟩ => ⟨S3x2816, .f32⟩
  | .local _ .vmem, ⟨29, _⟩ => ⟨S1x2816, .f32⟩
  | .local _ .vmem, ⟨30, _⟩ => ⟨S1x2816, .f32⟩
  | .local _ .vmem, ⟨31, _⟩ => ⟨S2816x1024, .bf16⟩
  | .local _ .vmem, ⟨32, _⟩ => ⟨S512x1024, .f32⟩
  | .local _ .vmem, ⟨33, _⟩ => ⟨S512x1024, .f32⟩
  | .local _ .vmem, ⟨34, _⟩ => ⟨S528x1024, .bf16⟩
  | .local _ .vmem, ⟨35, _⟩ => ⟨S2x528x256, .f32⟩
  | .local _ .vmem, ⟨36, _⟩ => ⟨S2x528x256, .f32⟩
  | .local _ .vmem, ⟨37, _⟩ => ⟨S512x2816, .bf16⟩
  | .local _ .vmem, ⟨38, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2816 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2816x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== FfnRefIdeal.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S2x8192x8x64 : Shape := ⟨4, ![2, 8192, 8, 64]⟩
abbrev S_ : Shape := ⟨0, ![]⟩
abbrev S2x8192x8 : Shape := ⟨3, ![2, 8192, 8]⟩
abbrev S2x8192x8x1 : Shape := ⟨4, ![2, 8192, 8, 1]⟩
abbrev S512 : Shape := ⟨1, ![512]⟩
abbrev S1x1x512 : Shape := ⟨3, ![1, 1, 512]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S3x5632 : Shape := ⟨2, ![3, 5632]⟩
abbrev S5632 : Shape := ⟨1, ![5632]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 118
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x3x5632, .f32⟩
  | .hbm, ⟨11, _⟩ => ⟨S1x5632, .f32⟩
  | .hbm, ⟨12, _⟩ => ⟨S1x2816x1024, .f32⟩
  | .hbm, ⟨13, _⟩ => ⟨S2x8192x8x64, .f32⟩
  | .hbm, ⟨14, _⟩ => ⟨S_, .f32⟩
  | .hbm, ⟨15, _⟩ => ⟨S2x8192x8, .f32⟩
  | .hbm, ⟨16, _⟩ => ⟨S2x8192x8x1, .f32⟩
  | .hbm, ⟨17, _⟩ => ⟨S_, .f32⟩
  | .hbm, ⟨18, _⟩ => ⟨S2x8192x8x1, .f32⟩
  | .hbm, ⟨19, _⟩ => ⟨S2x8192x8x1, .f32⟩
  | .hbm, ⟨20, _⟩ => ⟨S2x8192x8x64, .f32⟩
  | .hbm, ⟨21, _⟩ => ⟨S2x8192x8x64, .f32⟩
  | .hbm, ⟨22, _⟩ => ⟨S2x8192x8x64, .f32⟩
  | .hbm, ⟨23, _⟩ => ⟨S_, .f32⟩
  | .hbm, ⟨24, _⟩ => ⟨S2x8192x8, .f32⟩
  | .hbm, ⟨25, _⟩ => ⟨S2x8192x8x1, .f32⟩
  | .hbm, ⟨26, _⟩ => ⟨S_, .f32⟩
  | .hbm, ⟨27, _⟩ => ⟨S2x8192x8x1, .f32⟩
  | .hbm, ⟨28, _⟩ => ⟨S2x8192x8x1, .f32⟩
  | .hbm, ⟨29, _⟩ => ⟨S2x8192x8x64, .f32⟩
  | .hbm, ⟨30, _⟩ => ⟨S2x8192x8x64, .f32⟩
  | .hbm, ⟨31, _⟩ => ⟨S_, .f32⟩
  | .hbm, ⟨32, _⟩ => ⟨S2x8192x8x1, .f32⟩
  | .hbm, ⟨33, _⟩ => ⟨S2x8192x8x1, .f32⟩
  | .hbm, ⟨34, _⟩ => ⟨S2x8192x8x1, .f32⟩
  | .hbm, ⟨35, _⟩ => ⟨S2x8192x8x64, .f32⟩
  | .hbm, ⟨36, _⟩ => ⟨S2x8192x8x64, .f32⟩
  | .hbm, ⟨37, _⟩ => ⟨S2x8192x512, .f32⟩
  | .hbm, ⟨38, _⟩ => ⟨S512, .f32⟩
  | .hbm, ⟨39, _⟩ => ⟨S1x1x512, .f32⟩
  | .hbm, ⟨40, _⟩ => ⟨S2x8192x512, .f32⟩
  | .hbm, ⟨41, _⟩ => ⟨S2x8192x512, .f32⟩
  | .hbm, ⟨42, _⟩ => ⟨S512, .f32⟩
  | .hbm, ⟨43, _⟩ => ⟨S1x1x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x1024, .f32⟩
  | .hbm, ⟨49, _⟩ => ⟨S1024x1024, .f32⟩
  | .hbm, ⟨50, _⟩ => ⟨S2x8192x1024, .f32⟩
  | .hbm, ⟨51, _⟩ => ⟨S2x8192x1024, .f32⟩
  | .hbm, ⟨52, _⟩ => ⟨S1024, .f32⟩
  | .hbm, ⟨53, _⟩ => ⟨S2x8192x1024, .f32⟩
  | .hbm, ⟨54, _⟩ => ⟨S_, .f32⟩
  | .hbm, ⟨55, _⟩ => ⟨S2x8192, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S2x8192x1, .f32⟩
  | .hbm, ⟨64, _⟩ => ⟨S2x8192x1024, .f32⟩
  | .hbm, ⟨65, _⟩ => ⟨S2x8192x1024, .f32⟩
  | .hbm, ⟨66, _⟩ => ⟨S1x1x1024, .f32⟩
  | .hbm, ⟨67, _⟩ => ⟨S2x8192x1024, .f32⟩
  | .hbm, ⟨68, _⟩ => ⟨S2x8192x1024, .f32⟩
  | .hbm, ⟨69, _⟩ => ⟨S1024x5632, .f32⟩
  | .hbm, ⟨70, _⟩ => ⟨S2x8192x5632, .f32⟩
  | .hbm, ⟨71, _⟩ => ⟨S3x5632, .f32⟩
  | .hbm, ⟨72, _⟩ => ⟨S5632, .f32⟩
  | .hbm, ⟨73, _⟩ => ⟨S_, .i32⟩
  | .hbm, ⟨74, _⟩ => ⟨S_, .f32⟩
  | .hbm, ⟨75, _⟩ => ⟨S2x8194x5632, .f32⟩
  | .hbm, ⟨76, _⟩ => ⟨S2x8192x5632, .f32⟩
  | .hbm, ⟨77, _⟩ => ⟨S1x5632, .f32⟩
  | .hbm, ⟨78, _⟩ => ⟨S5632, .f32⟩
  | .hbm, ⟨79, _⟩ => ⟨S1x1x5632, .f32⟩
  | .hbm, ⟨80, _⟩ => ⟨S2x8192x5632, .f32⟩
  | .hbm, ⟨81, _⟩ => ⟨S2x8192x5632, .f32⟩
  | .hbm, ⟨82, _⟩ => ⟨S_, .f32⟩
  | .hbm, ⟨83, _⟩ => ⟨S2x8192x5632, .f32⟩
  | .hbm, ⟨84, _⟩ => ⟨S2x8192x5632, .f32⟩
  | .hbm, ⟨85, _⟩ => ⟨S2x8192x5632, .f32⟩
  | .hbm, ⟨86, _⟩ => ⟨S1x5632, .f32⟩
  | .hbm, ⟨87, _⟩ => ⟨S5632, .f32⟩
  | .hbm, ⟨88, _⟩ => ⟨S1x1x5632, .f32⟩
  | .hbm, ⟨89, _⟩ => ⟨S2x8192x5632, .f32⟩
  | .hbm, ⟨90, _⟩ => ⟨S2x8192x5632, .f32⟩
  | .hbm, ⟨91, _⟩ => ⟨S2x8192x5632, .f32⟩
  | .hbm, ⟨92, _⟩ => ⟨S2x8192x5632, .f32⟩
  | .hbm, ⟨93, _⟩ => ⟨S1x5632, .f32⟩
  | .hbm, ⟨94, _⟩ => ⟨S5632, .f32⟩
  | .hbm, ⟨95, _⟩ => ⟨S1x1x5632, .f32⟩
  | .hbm, ⟨96, _⟩ => ⟨S2x8192x5632, .f32⟩
  | .hbm, ⟨97, _⟩ => ⟨S2x8192x5632, .f32⟩
  | .hbm, ⟨98, _⟩ => ⟨S2x8192x5632, .f32⟩
  | .hbm, ⟨99, _⟩ => ⟨S1x1x5632, .f32⟩
  | .hbm, ⟨100, _⟩ => ⟨S2x8192x5632, .f32⟩
  | .hbm, ⟨101, _⟩ => ⟨S2x8192x5632, .f32⟩
  | .hbm, ⟨102, _⟩ => ⟨S2x8192x2816, .f32⟩
  | .hbm, ⟨103, _⟩ => ⟨S2x8192x2816, .f32⟩
  | .hbm, ⟨104, _⟩ => ⟨S2x8192x2816, .f32⟩
  | .hbm, ⟨105, _⟩ => ⟨S2x8192x2816, .f32⟩
  | .hbm, ⟨106, _⟩ => ⟨S_, .f32⟩
  | .hbm, ⟨107, _⟩ => ⟨S2x8192x2816, .f32⟩
  | .hbm, ⟨108, _⟩ => ⟨S2x8192x2816, .f32⟩
  | .hbm, ⟨109, _⟩ => ⟨S_, .f32⟩
  | .hbm, ⟨110, _⟩ => ⟨S2x8192x2816, .f32⟩
  | .hbm, ⟨111, _⟩ => ⟨S2x8192x2816, .f32⟩
  | .hbm, ⟨112, _⟩ => ⟨S2x8192x2816, .f32⟩
  | .hbm, ⟨113, _⟩ => ⟨S2x8192x2816, .f32⟩
  | .hbm, ⟨114, _⟩ => ⟨S2816x1024, .f32⟩
  | .hbm, ⟨115, _⟩ => ⟨S2x8192x1024, .f32⟩
  | .hbm, ⟨116, _⟩ => ⟨S2x8192x1024, .f32⟩
  | .hbm, ⟨117, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_call1_v0 : Ref sig .tc := ⟨.hbm, 104, rfl⟩
abbrev main_call1_v1 : Ref sig .tc := ⟨.hbm, 105, rfl⟩
abbrev main_call1_cst : Ref sig .tc := ⟨.hbm, 106, rfl⟩
abbrev main_call1_v2 : Ref sig .tc := ⟨.hbm, 107, rfl⟩
abbrev main_call1_v3 : Ref sig .tc := ⟨.hbm, 108, rfl⟩
abbrev main_call1_cst_0 : Ref sig .tc := ⟨.hbm, 109, rfl⟩
abbrev main_call1_v4 : Ref sig .tc := ⟨.hbm, 110, rfl⟩
abbrev main_call1_v5 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== Wkv.lean ====
abbrev S2x8192x1792 : Shape := ⟨3, ![2, 8192, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S512 : Shape := ⟨1, ![512]⟩
abbrev S512x1 : Shape := ⟨2, ![512, 1]⟩
abbrev S_ : Shape := ⟨0, ![]⟩
abbrev S512x512 : Shape := ⟨2, ![512, 512]⟩
abbrev S1792 : Shape := ⟨1, ![1792]⟩
abbrev S64x512 : Shape := ⟨2, ![64, 512]⟩
abbrev S128x512 : Shape := ⟨2, ![128, 512]⟩
abbrev S8x64 : Shape := ⟨2, ![8, 64]⟩
abbrev S2x8192x512 : Shape := ⟨3, ![2, 8192, 512]⟩
abbrev S1x512x1792 : Shape := ⟨3, ![1, 512, 1792]⟩
abbrev S1x8x1792 : Shape := ⟨3, ![1, 8, 1792]⟩
abbrev S1x512x512 : Shape := ⟨3, ![1, 512, 512]⟩
abbrev S520x1792 : Shape := ⟨2, ![520, 1792]⟩
abbrev S8x1792 : Shape := ⟨2, ![8, 1792]⟩
abbrev S512x1792 : Shape := ⟨2, ![512, 1792]⟩
abbrev S512x64 : Shape := ⟨2, ![512, 64]⟩
abbrev S512x128 : Shape := ⟨2, ![512, 128]⟩
abbrev S64x64 : Shape := ⟨2, ![64, 64]⟩
abbrev S64x256 : Shape := ⟨2, ![64, 256]⟩
abbrev S256x256 : Shape := ⟨2, ![256, 256]⟩
abbrev S128x256 : Shape := ⟨2, ![128, 256]⟩
abbrev S512x256 : Shape := ⟨2, ![512, 256]⟩
abbrev S256x64 : Shape := ⟨2, ![256, 64]⟩
abbrev S1x64x256 : Shape := ⟨3, ![1, 64, 256]⟩
abbrev S1x256 : Shape := ⟨2, ![1, 256]⟩

abbrev nBuf : Space → Nat
  | .hbm => 74
  | .vmem => 22
  | .smem => 0
  | _ => 0

abbrev bufTy : (tb : Table) → Fin (tcTables nBuf tb) → BufTy
  | .hbm, ⟨0, _⟩ => ⟨S2x8192x1792, .f32⟩
  | .hbm, ⟨1, _⟩ => ⟨S1x1792, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x128x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S512, .i32⟩
  | .hbm, ⟨11, _⟩ => ⟨S512x1, .i32⟩
  | .hbm, ⟨12, _⟩ => ⟨S_, .i32⟩
  | .hbm, ⟨13, _⟩ => ⟨S_, .i32⟩
  | .hbm, ⟨14, _⟩ => ⟨S512x1, .i32⟩
  | .hbm, ⟨15, _⟩ => ⟨S512x1, .i32⟩
  | .hbm, ⟨16, _⟩ => ⟨S512x1, .i32⟩
  | .hbm, ⟨17, _⟩ => ⟨S_, .i32⟩
  | .hbm, ⟨18, _⟩ => ⟨S512x1, .i32⟩
  | .hbm, ⟨19, _⟩ => ⟨S512x1, .i1⟩
  | .hbm, ⟨20, _⟩ => ⟨S512x1, .i32⟩
  | .hbm, ⟨21, _⟩ => ⟨S512x1, .i32⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S512x1, .i1⟩
  | .hbm, ⟨26, _⟩ => ⟨S_, .i32⟩
  | .hbm, ⟨27, _⟩ => ⟨S512x1, .i32⟩
  | .hbm, ⟨28, _⟩ => ⟨S512x1, .i32⟩
  | .hbm, ⟨29, _⟩ => ⟨S512x1, .i32⟩
  | .hbm, ⟨30, _⟩ => ⟨S1x512, .i32⟩
  | .hbm, ⟨31, _⟩ => ⟨S_, .i32⟩
  | .hbm, ⟨32, _⟩ => ⟨S_, .i32⟩
  | .hbm, ⟨33, _⟩ => ⟨S1x512, .i32⟩
  | .hbm, ⟨34, _⟩ => ⟨S1x512, .i32⟩
  | .hbm, ⟨35, _⟩ => ⟨S1x512, .i32⟩
  | .hbm, ⟨36, _⟩ => ⟨S_, .i32⟩
  | .hbm, ⟨37, _⟩ => ⟨S1x512, .i32⟩
  | .hbm, ⟨38, _⟩ => ⟨S1x512, .i1⟩
  | .hbm, ⟨39, _⟩ => ⟨S1x512, .i32⟩
  | .hbm, ⟨40, _⟩ => ⟨S1x512, .i32⟩
  | .hbm, ⟨41, _⟩ => ⟨S_, .i32⟩
  | .hbm, ⟨42, _⟩ => ⟨S1x512, .i32⟩
  | .hbm, ⟨43, _⟩ => ⟨S1x512, .i1⟩
  | .hbm, ⟨44, _⟩ => ⟨S1x512, .i1⟩
  | .hbm, ⟨45, _⟩ => ⟨S_, .i32⟩
  | .hbm, ⟨46, _⟩ => ⟨S1x512, .i32⟩
  | .hbm, ⟨47, _⟩ => ⟨S1x512, .i32⟩
  | .hbm, ⟨48, _⟩ => ⟨S1x512, .i32⟩
  | .hbm, ⟨49, _⟩ => ⟨S512x512, .i32⟩
  | .hbm, ⟨50, _⟩ => ⟨S512x512, .i32⟩
  | .hbm, ⟨51, _⟩ => ⟨S512x512, .i1⟩
  | .hbm, ⟨52, _⟩ => ⟨S512x512, .bf16⟩
  | .hbm, ⟨53, _⟩ => ⟨S1792, .f32⟩
  | .hbm, ⟨54, _⟩ => ⟨S1x1792, .f32⟩
  | .hbm, ⟨55, _⟩ => ⟨S512, .f32⟩
  | .hbm, ⟨56, _⟩ => ⟨S1x512, .f32⟩
  | .hbm, ⟨57, _⟩ => ⟨S64x512, .f32⟩
  | .hbm, ⟨58, _⟩ => ⟨S64x512, .bf16⟩
  | .hbm, ⟨59, _⟩ => ⟨S512, .f32⟩
  | .hbm, ⟨60, _⟩ => ⟨S1x512, .f32⟩
  | .hbm, ⟨61, _⟩ => ⟨S64x512, .f32⟩
  | .hbm, ⟨62, _⟩ => ⟨S64x512, .bf16⟩
  | .hbm, ⟨63, _⟩ => ⟨S128x512, .f32⟩
  | .hbm, ⟨64, _⟩ => ⟨S128x512, .bf16⟩
  | .hbm, ⟨65, _⟩ => ⟨S512, .f32⟩
  | .hbm, ⟨66, _⟩ => ⟨S1x512, .f32⟩
  | .hbm, ⟨67, _⟩ => ⟨S512, .f32⟩
  | .hbm, ⟨68, _⟩ => ⟨S1x512, .f32⟩
  | .hbm, ⟨69, _⟩ => ⟨S8x64, .f32⟩
  | .hbm, ⟨70, _⟩ => ⟨S1x512, .f32⟩
  | .hbm, ⟨71, _⟩ => ⟨S2x8192x512, .f32⟩
  | .hbm, ⟨72, _⟩ => ⟨S2x8192x512, .f32⟩
  | .hbm, ⟨73, _⟩ => ⟨S2x8192x512, .f32⟩
  | .local _ .vmem, ⟨0, _⟩ => ⟨S1x512x1792, .f32⟩
  | .local _ .vmem, ⟨1, _⟩ => ⟨S1x512x1792, .f32⟩
  | .local _ .vmem, ⟨2, _⟩ => ⟨S1x8x1792, .f32⟩
  | .local _ .vmem, ⟨3, _⟩ => ⟨S1x8x1792, .f32⟩
  | .local _ .vmem, ⟨4, _⟩ => ⟨S1x1792, .f32⟩
  | .local _ .vmem, ⟨5, _⟩ => ⟨S1x512, .f32⟩
  | .local _ .vmem, ⟨6, _⟩ => ⟨S64x512, .bf16⟩
  | .local _ .vmem, ⟨7, _⟩ => ⟨S1x512, .f32⟩
  | .local _ .vmem, ⟨8, _⟩ => ⟨S64x512, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S64x512, .f32⟩
  | .local _ .vmem, ⟨21, _⟩ => ⟨S520x1792, .f32⟩
  | _, _ => ⟨S2x8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27_0 : Ref sig .tc := ⟨.hbm, 71, rfl⟩
abbrev main_v27_1 : Ref sig .tc := ⟨.hbm, 72, rfl⟩
abbrev main_v27_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== WkvRefIdeal.lean ====
abbrev S2x8192x1792 : Shape := ⟨3, ![2, 8192, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S1792 : Shape := ⟨1, ![1792]⟩
abbrev S512 : Shape := ⟨1, ![512]⟩
abbrev S64x512 : Shape := ⟨2, ![64, 512]⟩
abbrev S_ : Shape := ⟨0, ![]⟩
abbrev S2x8193x1792 : Shape := ⟨3, ![2, 8193, 1792]⟩
abbrev S1x1x1792 : Shape := ⟨3, ![1, 1, 1792]⟩
abbrev S2x8192x512 : Shape := ⟨3, ![2, 8192, 512]⟩
abbrev S2x8192x64 : Shape := ⟨3, ![2, 8192, 64]⟩
abbrev S2x8192x128 : Shape := ⟨3, ![2, 8192, 128]⟩
abbrev S1x1x512 : Shape := ⟨3, ![1, 1, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S8192x2x8x64 : Shape := ⟨4, ![8192, 2, 8, 64]⟩
abbrev S2x8x64x64 : Shape := ⟨4, ![2, 8, 64, 64]⟩
abbrev S1x2x8x64 : Shape := ⟨4, ![1, 2, 8, 64]⟩
abbrev S2x8x64 : Shape := ⟨3, ![2, 8, 64]⟩
abbrev S2x8x1x64 : Shape := ⟨4, ![2, 8, 1, 64]⟩
abbrev S2x8x64x1 : Shape := ⟨4, ![2, 8, 64, 1]⟩
abbrev S128x512 : Shape := ⟨2, ![128, 512]⟩
abbrev S8x64 : Shape := ⟨2, ![8, 64]⟩
abbrev S1x1x8x64 : Shape := ⟨4, ![1, 1, 8, 64]⟩

abbrev nBuf : Space → Nat
  | .hbm => 261
  | .vmem => 0
  | .smem => 0
  | _ => 0

abbrev hbmTy0_0 (i : Nat) : BufTy := match i % 128 with
  | 0 => ⟨S2x8192x1792, .f32⟩
  | 1 => ⟨S1x1792, .f32⟩
  | 2 => ⟨S1x512, .f32⟩
  | 3 => ⟨S1x64x512, .f32⟩
  | 4 => ⟨S1x512, .f32⟩
  | 5 => ⟨S1x64x512, .f32⟩
  | 6 => ⟨S1x128x512, .f32⟩
  | 7 => ⟨S1x512, .f32⟩
  | 8 => ⟨S1x512, .f32⟩
  | 9 => ⟨S1x8x64, .f32⟩
  | 10 => ⟨S1792, .f32⟩
  | 11 => ⟨S512, .f32⟩
  | 12 => ⟨S64x512, .f32⟩
  | 13 => ⟨S512, .f32⟩
  | 14 => ⟨S64x512, .f32⟩
  | 15 => ⟨S512, .f32⟩
  | 16 => ⟨S512, .f32⟩
  | 17 => ⟨S_, .i32⟩
  | 18 => ⟨S_, .f32⟩
  | 19 => ⟨S2x8193x1792, .f32⟩
  | 20 => ⟨S2x8192x1792, .f32⟩
  | 21 => ⟨S2x8192x1792, .f32⟩
  | 22 => ⟨S1x1x1792, .f32⟩
  | 23 => ⟨S2x8192x1792, .f32⟩
  | 24 => ⟨S2x8192x1792, .f32⟩
  | 25 => ⟨S2x8192x1792, .f32⟩
  | 26 => ⟨S2x8192x512, .f32⟩
  | 27 => ⟨S2x8192x512, .f32⟩
  | 28 => ⟨S2x8192x512, .f32⟩
  | 29 => ⟨S2x8192x64, .f32⟩
  | 30 => ⟨S2x8192x64, .f32⟩
  | 31 => ⟨S2x8192x128, .f32⟩
  | 32 => ⟨S2x8192x64, .f32⟩
  | 33 => ⟨S2x8192x512, .f32⟩
  | 34 => ⟨S1x1x512, .f32⟩
  | 35 => ⟨S2x8192x512, .f32⟩
  | 36 => ⟨S2x8192x512, .f32⟩
  | 37 => ⟨S2x8192x512, .f32⟩
  | 38 => ⟨S_, .f32⟩
  | 39 => ⟨S2x8192x512, .f32⟩
  | 40 => ⟨S2x8192x512, .f32⟩
  | 41 => ⟨S2x8192x512, .f32⟩
  | 42 => ⟨S2x8192x512, .f32⟩
  | 43 => ⟨S2x8192x512, .i1⟩
  | 44 => ⟨S2x8192x512, .f32⟩
  | 45 => ⟨S2x8192x512, .f32⟩
  | 46 => ⟨S2x8192x512, .f32⟩
  | 47 => ⟨S2x8192x512, .f32⟩
  | 48 => ⟨S2x8192x512, .f32⟩
  | 49 => ⟨S2x8192x512, .f32⟩
  | 50 => ⟨S2x8192x512, .f32⟩
  | 51 => ⟨S2x8192x512, .f32⟩
  | 52 => ⟨S2x8192x512, .f32⟩
  | 53 => ⟨S_, .f32⟩
  | 54 => ⟨S2x8192x512, .f32⟩
  | 55 => ⟨S2x8192x512, .f32⟩
  | 56 => ⟨S2x8192x512, .f32⟩
  | 57 => ⟨S2x8192x512, .f32⟩
  | 58 => ⟨S2x8192x512, .f32⟩
  | 59 => ⟨S2x8192x512, .f32⟩
  | 60 => ⟨S1x1x512, .f32⟩
  | 61 => ⟨S2x8192x512, .f32⟩
  | 62 => ⟨S2x8192x512, .f32⟩
  | 63 => ⟨S2x8192x512, .f32⟩
  | 64 => ⟨S2x8192x512, .f32⟩
  | 65 => ⟨S_, .f32⟩
  | 66 => ⟨S2x8192x512, .f32⟩
  | 67 => ⟨S2x8192x512, .f32⟩
  | 68 => ⟨S_, .f32⟩
  | 69 => ⟨S2x8192x512, .f32⟩
  | 70 => ⟨S2x8192x512, .f32⟩
  | 71 => ⟨S1x1x512, .f32⟩
  | 72 => ⟨S2x8192x512, .f32⟩
  | 73 => ⟨S2x8192x512, .f32⟩
  | 74 => ⟨S2x8192x8x64, .f32⟩
  | 75 => ⟨S2x8192x8x64, .f32⟩
  | 76 => ⟨S_, .f32⟩
  | 77 => ⟨S2x8192x8, .f32⟩
  | 78 => ⟨S2x8192x8x1, .f32⟩
  | 79 => ⟨S2x8192x8x1, .f32⟩
  | 80 => ⟨S_, .f32⟩
  | 81 => ⟨S2x8192x8x1, .f32⟩
  | 82 => ⟨S2x8192x8x1, .f32⟩
  | 83 => ⟨S2x8192x8x64, .f32⟩
  | 84 => ⟨S2x8192x8x64, .f32⟩
  | 85 => ⟨S_, .f32⟩
  | 86 => ⟨S2x8192x512, .f32⟩
  | 87 => ⟨S2x8192x512, .f32⟩
  | 88 => ⟨S1x1x512, .f32⟩
  | 89 => ⟨S2x8192x512, .f32⟩
  | 90 => ⟨S2x8192x512, .f32⟩
  | 91 => ⟨S_, .f32⟩
  | 92 => ⟨S2x8192x512, .f32⟩
  | 93 => ⟨S2x8192x512, .f32⟩
  | 94 => ⟨S2x8192x512, .f32⟩
  | 95 => ⟨S2x8192x8x64, .f32⟩
  | 96 => ⟨S2x8192x8x64, .f32⟩
  | 97 => ⟨S2x8192x8x64, .f32⟩
  | 98 => ⟨S2x8192x8x64, .f32⟩
  | 99 => ⟨S2x8192x8x64, .f32⟩
  | 100 => ⟨S2x8192x8x64, .f32⟩
  | 101 => ⟨S2x8192x8x64, .f32⟩
  | 102 => ⟨S8192x2x8x64, .f32⟩
  | 103 => ⟨S8192x2x8x64, .f32⟩
  | 104 => ⟨S8192x2x8x64, .f32⟩
  | 105 => ⟨S8192x2x8x64, .f32⟩
  | 106 => ⟨S8192x2x8x64, .f32⟩
  | 107 => ⟨S8192x2x8x64, .f32⟩
  | 108 => ⟨S_, .f32⟩
  | 109 => ⟨S2x8x64x64, .f32⟩
  | 110 => ⟨S_, .f32⟩
  | 111 => ⟨S8192x2x8x64, .f32⟩
  | 112 => ⟨S_, .i32⟩
  | 113 => ⟨S8192x2x8x64, .f32⟩
  | 114 => ⟨S8192x2x8x64, .f32⟩
  | 115 => ⟨S8192x2x8x64, .f32⟩
  | 116 => ⟨S8192x2x8x64, .f32⟩
  | 117 => ⟨S8192x2x8x64, .f32⟩
  | 118 => ⟨S8192x2x8x64, .f32⟩
  | 119 => ⟨S_, .i32⟩
  | 120 => ⟨S2x8x64x64, .f32⟩
  | 121 => ⟨S8192x2x8x64, .f32⟩
  | 122 => ⟨S_, .i32⟩
  | 123 => ⟨S_, .i1⟩
  | 124 => ⟨S_, .i32⟩
  | 125 => ⟨S_, .i32⟩
  | 126 => ⟨S_, .i32⟩
  | 127 => ⟨S1x2x8x64, .f32⟩
  | _ => ⟨S2x8192x1792, .f32⟩

abbrev hbmTy0_1 (i : Nat) : BufTy := match i % 128 with
  | 0 => ⟨S2x8x64, .f32⟩
  | 1 => ⟨S_, .i32⟩
  | 2 => ⟨S_, .i32⟩
  | 3 => ⟨S_, .i32⟩
  | 4 => ⟨S1x2x8x64, .f32⟩
  | 5 => ⟨S2x8x64, .f32⟩
  | 6 => ⟨S_, .i32⟩
  | 7 => ⟨S_, .i32⟩
  | 8 => ⟨S_, .i32⟩
  | 9 => ⟨S1x2x8x64, .f32⟩
  | 10 => ⟨S2x8x64, .f32⟩
  | 11 => ⟨S_, .i32⟩
  | 12 => ⟨S_, .i32⟩
  | 13 => ⟨S_, .i32⟩
  | 14 => ⟨S1x2x8x64, .f32⟩
  | 15 => ⟨S2x8x64, .f32⟩
  | 16 => ⟨S_, .i32⟩
  | 17 => ⟨S_, .i32⟩
  | 18 => ⟨S_, .i32⟩
  | 19 => ⟨S1x2x8x64, .f32⟩
  | 20 => ⟨S2x8x64, .f32⟩
  | 21 => ⟨S_, .i32⟩
  | 22 => ⟨S_, .i32⟩
  | 23 => ⟨S_, .i32⟩
  | 24 => ⟨S1x2x8x64, .f32⟩
  | 25 => ⟨S2x8x64, .f32⟩
  | 26 => ⟨S2x8x64, .f32⟩
  | 27 => ⟨S2x8x1x64, .f32⟩
  | 28 => ⟨S2x8x64x64, .f32⟩
  | 29 => ⟨S2x8x64x64, .f32⟩
  | 30 => ⟨S2x8x64x1, .f32⟩
  | 31 => ⟨S2x8x1x64, .f32⟩
  | 32 => ⟨S2x8x64x64, .f32⟩
  | 33 => ⟨S2x8x64x64, .f32⟩
  | 34 => ⟨S2x8x64x64, .f32⟩
  | 35 => ⟨S2x8x64x64, .f32⟩
  | 36 => ⟨S2x8x64x1, .f32⟩
  | 37 => ⟨S2x8x1x64, .f32⟩
  | 38 => ⟨S2x8x64x64, .f32⟩
  | 39 => ⟨S2x8x64x64, .f32⟩
  | 40 => ⟨S2x8x64x64, .f32⟩
  | 41 => ⟨S2x8x64x64, .f32⟩
  | 42 => ⟨S2x8x64, .f32⟩
  | 43 => ⟨S1x2x8x64, .f32⟩
  | 44 => ⟨S_, .i32⟩
  | 45 => ⟨S_, .i32⟩
  | 46 => ⟨S_, .i32⟩
  | 47 => ⟨S8192x2x8x64, .f32⟩
  | 48 => ⟨S_, .i32⟩
  | 49 => ⟨S_, .i32⟩
  | 50 => ⟨S2x8192x8x64, .f32⟩
  | 51 => ⟨S2x8192x512, .f32⟩
  | 52 => ⟨S1792, .f32⟩
  | 53 => ⟨S128x512, .f32⟩
  | 54 => ⟨S_, .i32⟩
  | 55 => ⟨S_, .f32⟩
  | 56 => ⟨S2x8193x1792, .f32⟩
  | 57 => ⟨S2x8192x1792, .f32⟩
  | 58 => ⟨S2x8192x1792, .f32⟩
  | 59 => ⟨S1x1x1792, .f32⟩
  | 60 => ⟨S2x8192x1792, .f32⟩
  | 61 => ⟨S2x8192x1792, .f32⟩
  | 62 => ⟨S2x8192x1792, .f32⟩
  | 63 => ⟨S2x8192x512, .f32⟩
  | 64 => ⟨S2x8192x512, .f32⟩
  | 65 => ⟨S2x8192x512, .f32⟩
  | 66 => ⟨S2x8192x64, .f32⟩
  | 67 => ⟨S2x8192x64, .f32⟩
  | 68 => ⟨S2x8192x128, .f32⟩
  | 69 => ⟨S2x8192x128, .f32⟩
  | 70 => ⟨S2x8192x128, .f32⟩
  | 71 => ⟨S_, .f32⟩
  | 72 => ⟨S2x8192x128, .f32⟩
  | 73 => ⟨S2x8192x128, .f32⟩
  | 74 => ⟨S_, .f32⟩
  | 75 => ⟨S2x8192x128, .f32⟩
  | 76 => ⟨S2x8192x128, .f32⟩
  | 77 => ⟨S2x8192x512, .f32⟩
  | 78 => ⟨S1792, .f32⟩
  | 79 => ⟨S512, .f32⟩
  | 80 => ⟨S64x512, .f32⟩
  | 81 => ⟨S512, .f32⟩
  | 82 => ⟨S8x64, .f32⟩
  | 83 => ⟨S_, .i32⟩
  | 84 => ⟨S_, .f32⟩
  | 85 => ⟨S2x8193x1792, .f32⟩
  | 86 => ⟨S2x8192x1792, .f32⟩
  | 87 => ⟨S2x8192x1792, .f32⟩
  | 88 => ⟨S1x1x1792, .f32⟩
  | 89 => ⟨S2x8192x1792, .f32⟩
  | 90 => ⟨S2x8192x1792, .f32⟩
  | 91 => ⟨S2x8192x1792, .f32⟩
  | 92 => ⟨S2x8192x512, .f32⟩
  | 93 => ⟨S2x8192x512, .f32⟩
  | 94 => ⟨S2x8192x512, .f32⟩
  | 95 => ⟨S2x8192x64, .f32⟩
  | 96 => ⟨S2x8192x64, .f32⟩
  | 97 => ⟨S2x8192x128, .f32⟩
  | 98 => ⟨S2x8192x512, .f32⟩
  | 99 => ⟨S1x1x512, .f32⟩
  | 100 => ⟨S2x8192x512, .f32⟩
  | 101 => ⟨S2x8192x512, .f32⟩
  | 102 => ⟨S2x8192x512, .f32⟩
  | 103 => ⟨S2x8192x512, .f32⟩
  | 104 => ⟨S_, .f32⟩
  | 105 => ⟨S2x8192x512, .f32⟩
  | 106 => ⟨S2x8192x512, .f32⟩
  | 107 => ⟨S_, .f32⟩
  | 108 => ⟨S2x8192x512, .f32⟩
  | 109 => ⟨S2x8192x512, .f32⟩
  | 110 => ⟨S_, .f32⟩
  | 111 => ⟨S2x8192x512, .f32⟩
  | 112 => ⟨S2x8192x512, .f32⟩
  | 113 => ⟨S1x1x512, .f32⟩
  | 114 => ⟨S2x8192x512, .f32⟩
  | 115 => ⟨S2x8192x512, .f32⟩
  | 116 => ⟨S_, .f32⟩
  | 117 => ⟨S2x8192x512, .f32⟩
  | 118 => ⟨S2x8192x512, .f32⟩
  | 119 => ⟨S2x8192x512, .f32⟩
  | 120 => ⟨S2x8192x8x64, .f32⟩
  | 121 => ⟨S2x8192x8x64, .f32⟩
  | 122 => ⟨S2x8192x8x64, .f32⟩
  | 123 => ⟨S2x8192x8x64, .f32⟩
  | 124 => ⟨S1x1x8x64, .f32⟩
  | 125 => ⟨S2x8192x8x64, .f32⟩
  | 126 => ⟨S2x8192x8x64, .f32⟩
  | 127 => ⟨S_, .f32⟩
  | _ => ⟨S2x8192x1792, .f32⟩

abbrev hbmTy0_2 (i : Nat) : BufTy := match i % 128 with
  | 0 => ⟨S2x8192x8, .f32⟩
  | 1 => ⟨S2x8192x8x1, .f32⟩
  | 2 => ⟨S2x8192x8x64, .f32⟩
  | 3 => ⟨S2x8192x8x64, .f32⟩
  | 4 => ⟨S2x8192x512, .f32⟩
  | _ => ⟨S2x8192x1792, .f32⟩

abbrev hbmTy (i : Nat) : BufTy := match i / 128 with
  | 0 => hbmTy0_0 i
  | 1 => hbmTy0_1 i
  | 2 => hbmTy0_2 i
  | _ => ⟨S2x8192x1792, .f32⟩

abbrev bufTy : (tb : Table) → Fin (tcTables nBuf tb) → BufTy
  | .hbm, ⟨i, _⟩ => hbmTy i
  | _, _ => ⟨S2x8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_0 : Ref sig .tc := ⟨.hbm, 65, rfl⟩
abbrev main_v39 : Ref sig .tc := ⟨.hbm, 66, rfl⟩
abbrev main_v40 : Ref sig .tc := ⟨.hbm, 67, rfl⟩
abbrev main_cst_1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_3 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_4 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_5 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_6 : Ref sig .tc := ⟨.hbm, 108, rfl⟩
abbrev main_v76 : Ref sig .tc := ⟨.hbm, 109, rfl⟩
abbrev main_cst_7 : Ref sig .tc := ⟨.hbm, 110, rfl⟩
abbrev main_v77 : Ref sig .tc := ⟨.hbm, 111, rfl⟩
abbrev main_c_8 : Ref sig .tc := ⟨.hbm, 112, rfl⟩
abbrev main_v78_0 : Ref sig .tc := ⟨.hbm, 113, rfl⟩
abbrev main_v78_1 : Ref sig .tc := ⟨.hbm, 114, rfl⟩
abbrev main_v78_2 : Ref sig .tc := ⟨.hbm, 115, rfl⟩
abbrev main_v78_3 : Ref sig .tc := ⟨.hbm, 116, rfl⟩
abbrev main_v78_4 : Ref sig .tc := ⟨.hbm, 117, rfl⟩
abbrev main_v78_5 : Ref sig .tc := ⟨.hbm, 118, rfl⟩
abbrev main_v78_6 : Ref sig .tc := ⟨.hbm, 119, rfl⟩
abbrev main_v78_7 : Ref sig .tc := ⟨.hbm, 120, rfl⟩
abbrev main_v78_8 : Ref sig .tc := ⟨.hbm, 121, rfl⟩
abbrev main_while0c_c_26 : Ref sig .tc := ⟨.hbm, 122, rfl⟩
abbrev main_while0c_v151 : Ref sig .tc := ⟨.hbm, 123, rfl⟩
abbrev main_while0b_call2_c : Ref sig .tc := ⟨.hbm, 124, rfl⟩
abbrev main_while0b_call2_c_0 : Ref sig .tc := ⟨.hbm, 125, rfl⟩
abbrev main_while0b_call2_c_1 : Ref sig .tc := ⟨.hbm, 126, rfl⟩
abbrev main_while0b_call2_v0 : Ref sig .tc := ⟨.hbm, 127, rfl⟩
abbrev main_while0b_v151 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_call3_c_1 : Ref sig .tc := ⟨.hbm, 131, rfl⟩
abbrev main_while0b_call3_v0 : Ref sig .tc := ⟨.hbm, 132, rfl⟩
abbrev main_while0b_v152 : Ref sig .tc := ⟨.hbm, 133, rfl⟩
abbrev main_while0b_call4_c : Ref sig .tc := ⟨.hbm, 134, rfl⟩
abbrev main_while0b_call4_c_0 : Ref sig .tc := ⟨.hbm, 135, rfl⟩
abbrev main_while0b_call4_c_1 : Ref sig .tc := ⟨.hbm, 136, rfl⟩
abbrev main_while0b_call4_v0 : Ref sig .tc := ⟨.hbm, 137, rfl⟩
abbrev main_while0b_v153 : Ref sig .tc := ⟨.hbm, 138, rfl⟩
abbrev main_while0b_call5_c : Ref sig .tc := ⟨.hbm, 139, rfl⟩
abbrev main_while0b_call5_c_0 : Ref sig .tc := ⟨.hbm, 140, rfl⟩
abbrev main_while0b_call5_c_1 : Ref sig .tc := ⟨.hbm, 141, rfl⟩
abbrev main_while0b_call5_v0 : Ref sig .tc := ⟨.hbm, 142, rfl⟩
abbrev main_while0b_v154 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_c_1 : Ref sig .tc := ⟨.hbm, 146, rfl⟩
abbrev main_while0b_call6_v0 : Ref sig .tc := ⟨.hbm, 147, rfl⟩
abbrev main_while0b_v155 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_v0 : Ref sig .tc := ⟨.hbm, 152, rfl⟩
abbrev main_while0b_v156 : Ref sig .tc := ⟨.hbm, 153, rfl⟩
abbrev main_while0b_v157 : Ref sig .tc := ⟨.hbm, 154, rfl⟩
abbrev main_while0b_v158 : Ref sig .tc := ⟨.hbm, 155, rfl⟩
abbrev main_while0b_v159 : Ref sig .tc := ⟨.hbm, 156, rfl⟩
abbrev main_while0b_v160 : Ref sig .tc := ⟨.hbm, 157, rfl⟩
abbrev main_while0b_v161 : Ref sig .tc := ⟨.hbm, 158, rfl⟩
abbrev main_while0b_v162 : Ref sig .tc := ⟨.hbm, 159, rfl⟩
abbrev main_while0b_v163 : Ref sig .tc := ⟨.hbm, 160, rfl⟩
abbrev main_while0b_v164 : Ref sig .tc := ⟨.hbm, 161, rfl⟩
abbrev main_while0b_v165 : Ref sig .tc := ⟨.hbm, 162, rfl⟩
abbrev main_while0b_v166 : Ref sig .tc := ⟨.hbm, 163, rfl⟩
abbrev main_while0b_v167 : Ref sig .tc := ⟨.hbm, 164, rfl⟩
abbrev main_while0b_v168 : Ref sig .tc := ⟨.hbm, 165, rfl⟩
abbrev main_while0b_v169 : Ref sig .tc := ⟨.hbm, 166, rfl⟩
abbrev main_while0b_v170 : Ref sig .tc := ⟨.hbm, 167, rfl⟩
abbrev main_while0b_v171 : Ref sig .tc := ⟨.hbm, 168, rfl⟩
abbrev main_while0b_v172 : Ref sig .tc := ⟨.hbm, 169, rfl⟩
abbrev main_while0b_v173 : Ref sig .tc := ⟨.hbm, 170, rfl⟩
abbrev main_while0b_call8_v0 : Ref sig .tc := ⟨.hbm, 171, rfl⟩
abbrev main_while0b_call8_c : Ref sig .tc := ⟨.hbm, 172, rfl⟩
abbrev main_while0b_call8_c_0 : Ref sig .tc := ⟨.hbm, 173, rfl⟩
abbrev main_while0b_call8_c_1 : Ref sig .tc := ⟨.hbm, 174, rfl⟩
abbrev main_while0b_v174 : Ref sig .tc := ⟨.hbm, 175, rfl⟩
abbrev main_while0b_c_26 : Ref sig .tc := ⟨.hbm, 176, rfl⟩
abbrev main_while0b_v175 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_c_9 : Ref sig .tc := ⟨.hbm, 182, rfl⟩
abbrev main_call9_v0 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_cst_10 : Ref sig .tc := ⟨.hbm, 199, rfl⟩
abbrev main_v98 : Ref sig .tc := ⟨.hbm, 200, rfl⟩
abbrev main_v99 : Ref sig .tc := ⟨.hbm, 201, rfl⟩
abbrev main_cst_11 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_c_12 : Ref sig .tc := ⟨.hbm, 211, rfl⟩
abbrev main_call10_v0 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_cst_13 : Ref sig .tc := ⟨.hbm, 232, rfl⟩
abbrev main_v127 : Ref sig .tc := ⟨.hbm, 233, rfl⟩
abbrev main_v128 : Ref sig .tc := ⟨.hbm, 234, rfl⟩
abbrev main_cst_14 : Ref sig .tc := ⟨.hbm, 235, rfl⟩
abbrev main_v129 : Ref sig .tc := ⟨.hbm, 236, rfl⟩
abbrev main_v130 : Ref sig .tc := ⟨.hbm, 237, rfl⟩
abbrev main_cst_15 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_cst_16 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_cst_17 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_v150 : Ref sig .tc := ⟨.hbm, 260, rfl⟩

abbrev nD : Nat := 1
abbrev τ : Topo := Topo.v7x

variable {F : FTy → Type} [FloatOps F]

abbrev main_while0_count : Scf.Loop 32 := ⟨0#32, 8192#32, 1#32⟩
-- ==== Proj.lean ====
abbrev S2x8192x1024 : Shape := ⟨3, ![2, 8192, 1024]⟩
abbrev S1x1024 : Shape := ⟨2, ![1, 1024]⟩
abbrev S1x1024x3096 : Shape := ⟨3, ![1, 1024, 3096]⟩
abbrev S1x64 : Shape := ⟨2, ![1, 64]⟩
abbrev S1x3x64 : Shape := ⟨3, ![1, 3, 64]⟩
abbrev S1024x3096 : Shape := ⟨2, ![1024, 3096]⟩
abbrev S1024x512 : Shape := ⟨2, ![1024, 512]⟩
abbrev S1024x128 : Shape := ⟨2, ![1024, 128]⟩
abbrev S1024x24 : Shape := ⟨2, ![1024, 24]⟩
abbrev S1024x1792 : Shape := ⟨2, ![1024, 1792]⟩
abbrev S1024x2304 : Shape := ⟨2, ![1024, 2304]⟩
abbrev S24x1024 : Shape := ⟨2, ![24, 1024]⟩
abbrev S2x12x1024 : Shape := ⟨3, ![2, 12, 1024]⟩
abbrev S_ : Shape := ⟨0, ![]⟩
abbrev S2x16x1024 : Shape := ⟨3, ![2, 16, 1024]⟩
abbrev S32x1024 : Shape := ⟨2, ![32, 1024]⟩
abbrev S512x1024 : Shape := ⟨2, ![512, 1024]⟩
abbrev S128x1024 : Shape := ⟨2, ![128, 1024]⟩
abbrev S800x1024 : Shape := ⟨2, ![800, 1024]⟩
abbrev S64 : Shape := ⟨1, ![64]⟩
abbrev S64x1 : Shape := ⟨2, ![64, 1]⟩
abbrev S1x1x64 : Shape := ⟨3, ![1, 1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1024 : Shape := ⟨1, ![1024]⟩
abbrev S2x512x8192 : Shape := ⟨3, ![2, 512, 8192]⟩
abbrev S2x8192x128 : Shape := ⟨3, ![2, 8192, 128]⟩
abbrev S2x2x8704x256 : Shape := ⟨4, ![2, 2, 8704, 256]⟩
abbrev S2x2x8704x128 : Shape := ⟨4, ![2, 2, 8704, 128]⟩
abbrev S2x4x34x80x256 : Shape := ⟨5, ![2, 4, 34, 80, 256]⟩
abbrev S2x32x8192 : Shape := ⟨3, ![2, 32, 8192]⟩
abbrev S2x8192x1792 : Shape := ⟨3, ![2, 8192, 1792]⟩
abbrev S1x512x1024 : Shape := ⟨3, ![1, 512, 1024]⟩
abbrev S1x512x512 : Shape := ⟨3, ![1, 512, 512]⟩
abbrev S1x512x128 : Shape := ⟨3, ![1, 512, 128]⟩
abbrev S1x2x512x256 : Shape := ⟨4, ![1, 2, 512, 256]⟩
abbrev S1x2x512x128 : Shape := ⟨4, ![1, 2, 512, 128]⟩
abbrev S1x4x2x80x256 : Shape := ⟨5, ![1, 4, 2, 80, 256]⟩
abbrev S1x32x512 : Shape := ⟨3, ![1, 32, 512]⟩
abbrev S1x512x1792 : Shape := ⟨3, ![1, 512, 1792]⟩
abbrev S512x256 : Shape := ⟨2, ![512, 256]⟩
abbrev S1x1x512x256 : Shape := ⟨4, ![1, 1, 512, 256]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩
abbrev S512x2304 : Shape := ⟨2, ![512, 2304]⟩
abbrev S512x1792 : Shape := ⟨2, ![512, 1792]⟩
abbrev S512x64 : Shape := ⟨2, ![512, 64]⟩
abbrev S1x1x512x64 : Shape := ⟨4, ![1, 1, 512, 64]⟩
abbrev S800x512 : Shape := ⟨2, ![800, 512]⟩
abbrev S512x512 : Shape := ⟨2, ![512, 512]⟩
abbrev S8x64x512 : Shape := ⟨3, ![8, 64, 512]⟩
abbrev S8x512 : Shape := ⟨2, ![8, 512]⟩
abbrev S8x1x512 : Shape := ⟨3, ![8, 1, 512]⟩
abbrev S1x64x1 : Shape := ⟨3, ![1, 64, 1]⟩
abbrev S256x512 : Shape := ⟨2, ![256, 512]⟩
abbrev S16x256 : Shape := ⟨2, ![16, 256]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S32x512 : Shape := ⟨2, ![32, 512]⟩

abbrev nBuf : Space → Nat
  | .hbm => 53
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3096, .f32⟩
  | .hbm, ⟨3, _⟩ => ⟨S1x64, .f32⟩
  | .hbm, ⟨4, _⟩ => ⟨S1x3x64, .f32⟩
  | .hbm, ⟨5, _⟩ => ⟨S1024x3096, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x24, .f32⟩
  | .hbm, ⟨14, _⟩ => ⟨S1024x1792, .f32⟩
  | .hbm, ⟨15, _⟩ => ⟨S1024x2304, .f32⟩
  | .hbm, ⟨16, _⟩ => ⟨S1024x2304, .bf16⟩
  | .hbm, ⟨17, _⟩ => ⟨S24x1024, .f32⟩
  | .hbm, ⟨18, _⟩ => ⟨S2x12x1024, .f32⟩
  | .hbm, ⟨19, _⟩ => ⟨S_, .i32⟩
  | .hbm, ⟨20, _⟩ => ⟨S_, .f32⟩
  | .hbm, ⟨21, _⟩ => ⟨S2x16x1024, .f32⟩
  | .hbm, ⟨22, _⟩ => ⟨S32x1024, .f32⟩
  | .hbm, ⟨23, _⟩ => ⟨S512x1024, .f32⟩
  | .hbm, ⟨24, _⟩ => ⟨S128x1024, .f32⟩
  | .hbm, ⟨25, _⟩ => ⟨S128x1024, .f32⟩
  | .hbm, ⟨26, _⟩ => ⟨S800x1024, .f32⟩
  | .hbm, ⟨27, _⟩ => ⟨S800x1024, .bf16⟩
  | .hbm, ⟨28, _⟩ => ⟨S64, .f32⟩
  | .hbm, ⟨29, _⟩ => ⟨S64x1, .f32⟩
  | .hbm, ⟨30, _⟩ => ⟨S1x1x64, .f32⟩
  | .hbm, ⟨31, _⟩ => ⟨S64, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x1x64, .f32⟩
  | .hbm, ⟨36, _⟩ => ⟨S64, .f32⟩
  | .hbm, ⟨37, _⟩ => ⟨S1x64, .f32⟩
  | .hbm, ⟨38, _⟩ => ⟨S2x64, .f32⟩
  | .hbm, ⟨39, _⟩ => ⟨S128, .f32⟩
  | .hbm, ⟨40, _⟩ => ⟨S1x128, .f32⟩
  | .hbm, ⟨41, _⟩ => ⟨S1x128, .f32⟩
  | .hbm, ⟨42, _⟩ => ⟨S2x128, .f32⟩
  | .hbm, ⟨43, _⟩ => ⟨S1024, .f32⟩
  | .hbm, ⟨44, _⟩ => ⟨S1x1024, .f32⟩
  | .hbm, ⟨45, _⟩ => ⟨S2x512x8192, .bf16⟩
  | .hbm, ⟨46, _⟩ => ⟨S2x8192x128, .f32⟩
  | .hbm, ⟨47, _⟩ => ⟨S2x8192x128, .f32⟩
  | .hbm, ⟨48, _⟩ => ⟨S2x2x8704x256, .bf16⟩
  | .hbm, ⟨49, _⟩ => ⟨S2x2x8704x128, .bf16⟩
  | .hbm, ⟨50, _⟩ => ⟨S2x4x34x80x256, .bf16⟩
  | .hbm, ⟨51, _⟩ => ⟨S2x32x8192, .f32⟩
  | .hbm, ⟨52, _⟩ => ⟨S2x8192x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2304, .bf16⟩
  | .local _ .vmem, ⟨4, _⟩ => ⟨S800x1024, .bf16⟩
  | .local _ .vmem, ⟨5, _⟩ => ⟨S64x1, .f32⟩
  | .local _ .vmem, ⟨6, _⟩ => ⟨S2x128, .f32⟩
  | .local _ .vmem, ⟨7, _⟩ => ⟨S1x512x512, .bf16⟩
  | .local _ .vmem, ⟨8, _⟩ => ⟨S1x512x512, .bf16⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x2x512x256, .bf16⟩
  | .local _ .vmem, ⟨14, _⟩ => ⟨S1x2x512x256, .bf16⟩
  | .local _ .vmem, ⟨15, _⟩ => ⟨S1x2x512x128, .bf16⟩
  | .local _ .vmem, ⟨16, _⟩ => ⟨S1x2x512x128, .bf16⟩
  | .local _ .vmem, ⟨17, _⟩ => ⟨S1x4x2x80x256, .bf16⟩
  | .local _ .vmem, ⟨18, _⟩ => ⟨S1x4x2x80x256, .bf16⟩
  | .local _ .vmem, ⟨19, _⟩ => ⟨S1x32x512, .f32⟩
  | .local _ .vmem, ⟨20, _⟩ => ⟨S1x32x512, .f32⟩
  | .local _ .vmem, ⟨21, _⟩ => ⟨S1x512x1792, .f32⟩
  | .local _ .vmem, ⟨22, _⟩ => ⟨S1x512x1792, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev main_v38_3 : Ref sig .tc := ⟨.hbm, 48, rfl⟩
abbrev main_v38_4 : Ref sig .tc := ⟨.hbm, 49, rfl⟩
abbrev main_v38_5 : Ref sig .tc := ⟨.hbm, 50, rfl⟩
abbrev main_v38_6 : Ref sig .tc := ⟨.hbm, 51, rfl⟩
abbrev main_v38_7 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S800x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x2x80x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1792 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S2x8192x1024 : Shape := ⟨3, ![2, 8192, 1024]⟩
abbrev S1x1024 : Shape := ⟨2, ![1, 1024]⟩
abbrev S1x1024x3096 : Shape := ⟨3, ![1, 1024, 3096]⟩
abbrev S1x64 : Shape := ⟨2, ![1, 64]⟩
abbrev S1x3x64 : Shape := ⟨3, ![1, 3, 64]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3096 : Shape := ⟨2, ![1024, 3096]⟩
abbrev S2x8192x3096 : Shape := ⟨3, ![2, 8192, 3096]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x1792 : Shape := ⟨3, ![2, 8192, 1792]⟩
abbrev S2x8192x8x64 : Shape := ⟨4, ![2, 8192, 8, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x2x64 : Shape := ⟨4, ![2, 8192, 2, 64]⟩
abbrev S1x1x64 : Shape := ⟨3, ![1, 1, 64]⟩
abbrev S2x8192x2 : Shape := ⟨3, ![2, 8192, 2]⟩
abbrev S2x8192x2x1 : Shape := ⟨4, ![2, 8192, 2, 1]⟩
abbrev S2x8192x2x12 : Shape := ⟨4, ![2, 8192, 2, 12]⟩
abbrev S2x8192x2x16 : Shape := ⟨4, ![2, 8192, 2, 16]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S2x512x8192 : Shape := ⟨3, ![2, 512, 8192]⟩
abbrev S2x2x8192x64 : Shape := ⟨4, ![2, 2, 8192, 64]⟩
abbrev S2x2x8192x128 : Shape := ⟨4, ![2, 2, 8192, 128]⟩
abbrev S2x2x8192x256 : Shape := ⟨4, ![2, 2, 8192, 256]⟩
abbrev S256 : Shape := ⟨1, ![256]⟩
abbrev S2x2x512x256 : Shape := ⟨4, ![2, 2, 512, 256]⟩
abbrev S2x2x8704x256 : Shape := ⟨4, ![2, 2, 8704, 256]⟩
abbrev S8192x0 : Shape := ⟨2, ![8192, 0]⟩
abbrev S2x2x8192x0 : Shape := ⟨4, ![2, 2, 8192, 0]⟩
abbrev S2x2x512x128 : Shape := ⟨4, ![2, 2, 512, 128]⟩
abbrev S2x2x8704x128 : Shape := ⟨4, ![2, 2, 8704, 128]⟩
abbrev S2x8192x256 : Shape := ⟨3, ![2, 8192, 256]⟩
abbrev S2x32x256x4x64 : Shape := ⟨5, ![2, 32, 256, 4, 64]⟩
abbrev S2x4x32x64x256 : Shape := ⟨5, ![2, 4, 32, 64, 256]⟩
abbrev S2x4x32x1x256 : Shape := ⟨5, ![2, 4, 32, 1, 256]⟩
abbrev S2x4x32x15x256 : Shape := ⟨5, ![2, 4, 32, 15, 256]⟩
abbrev S2x4x32x80x256 : Shape := ⟨5, ![2, 4, 32, 80, 256]⟩
abbrev S2x4x34x80x256 : Shape := ⟨5, ![2, 4, 34, 80, 256]⟩
abbrev S2x8192x32 : Shape := ⟨3, ![2, 8192, 32]⟩
abbrev S2x32x8192 : Shape := ⟨3, ![2, 32, 8192]⟩

abbrev nBuf : Space → Nat
  | .hbm => 175
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x3096, .f32⟩
  | 3 => ⟨S1x64, .f32⟩
  | 4 => ⟨S1x3x64, .f32⟩
  | 5 => ⟨S1024, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S1024x3096, .f32⟩
  | 23 => ⟨S2x8192x3096, .f32⟩
  | 24 => ⟨S2x8192x512, .f32⟩
  | 25 => ⟨S2x8192x128, .f32⟩
  | 26 => ⟨S2x8192x128, .f32⟩
  | 27 => ⟨S2x8192x128, .f32⟩
  | 28 => ⟨S2x8192x128, .f32⟩
  | 29 => ⟨S2x8192x128, .f32⟩
  | 30 => ⟨S2x8192x128, .f32⟩
  | 31 => ⟨S2x8192x24, .f32⟩
  | 32 => ⟨S2x8192x1792, .f32⟩
  | 33 => ⟨S2x8192x8x64, .f32⟩
  | 34 => ⟨S64, .f32⟩
  | 35 => ⟨S2x8192x8x64, .f32⟩
  | 36 => ⟨S_, .f32⟩
  | 37 => ⟨S2x8192x8, .f32⟩
  | 38 => ⟨S2x8192x8x1, .f32⟩
  | 39 => ⟨S_, .f32⟩
  | 40 => ⟨S2x8192x8x1, .f32⟩
  | 41 => ⟨S2x8192x8x1, .f32⟩
  | 42 => ⟨S_, .f32⟩
  | 43 => ⟨S2x8192x8x1, .f32⟩
  | 44 => ⟨S2x8192x8x1, .f32⟩
  | 45 => ⟨S2x8192x8x1, .f32⟩
  | 46 => ⟨S2x8192x8x64, .f32⟩
  | 47 => ⟨S2x8192x8x64, .f32⟩
  | 48 => ⟨S1x1x1x64, .f32⟩
  | 49 => ⟨S2x8192x8x64, .f32⟩
  | 50 => ⟨S2x8192x8x64, .f32⟩
  | 51 => ⟨S_, .f32⟩
  | 52 => ⟨S2x8192x8x64, .f32⟩
  | 53 => ⟨S2x8192x8x64, .f32⟩
  | 54 => ⟨S2x8192x2x64, .f32⟩
  | 55 => ⟨S1x1x64, .f32⟩
  | 56 => ⟨S64, .f32⟩
  | 57 => ⟨S2x8192x2x64, .f32⟩
  | 58 => ⟨S_, .f32⟩
  | 59 => ⟨S2x8192x2, .f32⟩
  | 60 => ⟨S2x8192x2x1, .f32⟩
  | 61 => ⟨S_, .f32⟩
  | 62 => ⟨S2x8192x2x1, .f32⟩
  | 63 => ⟨S2x8192x2x1, .f32⟩
  | 64 => ⟨S_, .f32⟩
  | 65 => ⟨S2x8192x2x1, .f32⟩
  | 66 => ⟨S2x8192x2x1, .f32⟩
  | 67 => ⟨S2x8192x2x1, .f32⟩
  | 68 => ⟨S2x8192x2x64, .f32⟩
  | 69 => ⟨S2x8192x2x64, .f32⟩
  | 70 => ⟨S1x1x1x64, .f32⟩
  | 71 => ⟨S2x8192x2x64, .f32⟩
  | 72 => ⟨S2x8192x2x64, .f32⟩
  | 73 => ⟨S2x8192x2x64, .f32⟩
  | 74 => ⟨S1x1x64, .f32⟩
  | 75 => ⟨S64, .f32⟩
  | 76 => ⟨S2x8192x2x64, .f32⟩
  | 77 => ⟨S_, .f32⟩
  | 78 => ⟨S2x8192x2, .f32⟩
  | 79 => ⟨S2x8192x2x1, .f32⟩
  | 80 => ⟨S_, .f32⟩
  | 81 => ⟨S2x8192x2x1, .f32⟩
  | 82 => ⟨S2x8192x2x1, .f32⟩
  | 83 => ⟨S_, .f32⟩
  | 84 => ⟨S2x8192x2x1, .f32⟩
  | 85 => ⟨S2x8192x2x1, .f32⟩
  | 86 => ⟨S2x8192x2x1, .f32⟩
  | 87 => ⟨S2x8192x2x64, .f32⟩
  | 88 => ⟨S2x8192x2x64, .f32⟩
  | 89 => ⟨S1x1x1x64, .f32⟩
  | 90 => ⟨S2x8192x2x64, .f32⟩
  | 91 => ⟨S2x8192x2x64, .f32⟩
  | 92 => ⟨S2x8192x2x12, .f32⟩
  | 93 => ⟨S_, .i32⟩
  | 94 => ⟨S_, .f32⟩
  | 95 => ⟨S2x8192x2x16, .f32⟩
  | 96 => ⟨S2x8192x2x16, .f32⟩
  | 97 => ⟨S2x8192x2x16, .f32⟩
  | 98 => ⟨S_, .f32⟩
  | 99 => ⟨S2x8192x2x16, .f32⟩
  | 100 => ⟨S2x8192x2x16, .f32⟩
  | 101 => ⟨S_, .f32⟩
  | 102 => ⟨S2x8192x2x16, .f32⟩
  | 103 => ⟨S2x8192x2x16, .f32⟩
  | 104 => ⟨S8192, .i32⟩
  | 105 => ⟨S8192x1, .i32⟩
  | 106 => ⟨S_, .i32⟩
  | 107 => ⟨S_, .i32⟩
  | 108 => ⟨S8192x1, .i32⟩
  | 109 => ⟨S8192x1, .i32⟩
  | 110 => ⟨S8192x1, .i32⟩
  | 111 => ⟨S_, .i32⟩
  | 112 => ⟨S8192x1, .i32⟩
  | 113 => ⟨S8192x1, .i1⟩
  | 114 => ⟨S8192x1, .i32⟩
  | 115 => ⟨S8192x1, .i32⟩
  | 116 => ⟨S_, .i32⟩
  | 117 => ⟨S8192x1, .i32⟩
  | 118 => ⟨S8192x1, .i1⟩
  | 119 => ⟨S8192x1, .i1⟩
  | 120 => ⟨S_, .i32⟩
  | 121 => ⟨S8192x1, .i32⟩
  | 122 => ⟨S8192x1, .i32⟩
  | 123 => ⟨S8192x1, .i32⟩
  | 124 => ⟨S128, .i32⟩
  | 125 => ⟨S1x128, .i32⟩
  | 126 => ⟨S8192x128, .i32⟩
  | 127 => ⟨S8192x128, .i32⟩
  | _ => ⟨S2x8192x1024, .f32⟩

abbrev hbmTy0_1 (i : Nat) : BufTy := match i % 128 with
  | 0 => ⟨S8192x128, .i1⟩
  | 1 => ⟨S8192x128, .f32⟩
  | 2 => ⟨S2x8192x512, .f32⟩
  | 3 => ⟨S2x512x8192, .f32⟩
  | 4 => ⟨S2x512x8192, .bf16⟩
  | 5 => ⟨S2x2x8192x64, .f32⟩
  | 6 => ⟨S_, .f32⟩
  | 7 => ⟨S2x2x8192x64, .f32⟩
  | 8 => ⟨S2x2x8192x128, .f32⟩
  | 9 => ⟨S2x2x8192x256, .f32⟩
  | 10 => ⟨S256, .i32⟩
  | 11 => ⟨S_, .i32⟩
  | 12 => ⟨S256, .i32⟩
  | 13 => ⟨S256, .i1⟩
  | 14 => ⟨S256, .f32⟩
  | 15 => ⟨S2x2x512x256, .f32⟩
  | 16 => ⟨S2x2x8704x256, .f32⟩
  | 17 => ⟨S2x2x8704x256, .bf16⟩
  | 18 => ⟨S_, .f32⟩
  | 19 => ⟨S8192x0, .f32⟩
  | 20 => ⟨S2x2x8192x64, .f32⟩
  | 21 => ⟨S_, .f32⟩
  | 22 => ⟨S2x2x8192x64, .f32⟩
  | 23 => ⟨S2x2x8192x0, .f32⟩
  | 24 => ⟨S2x2x8192x128, .f32⟩
  | 25 => ⟨S128, .i32⟩
  | 26 => ⟨S_, .i32⟩
  | 27 => ⟨S128, .i32⟩
  | 28 => ⟨S128, .i1⟩
  | 29 => ⟨S128, .f32⟩
  | 30 => ⟨S2x2x512x128, .f32⟩
  | 31 => ⟨S2x2x8704x128, .f32⟩
  | 32 => ⟨S2x2x8704x128, .bf16⟩
  | 33 => ⟨S2x8192x256, .f32⟩
  | 34 => ⟨S2x32x256x4x64, .f32⟩
  | 35 => ⟨S2x4x32x64x256, .f32⟩
  | 36 => ⟨S_, .f32⟩
  | 37 => ⟨S2x4x32x1x256, .f32⟩
  | 38 => ⟨S_, .f32⟩
  | 39 => ⟨S2x4x32x15x256, .f32⟩
  | 40 => ⟨S2x4x32x80x256, .f32⟩
  | 41 => ⟨S_, .i32⟩
  | 42 => ⟨S_, .f32⟩
  | 43 => ⟨S2x4x34x80x256, .f32⟩
  | 44 => ⟨S2x4x34x80x256, .bf16⟩
  | 45 => ⟨S2x8192x32, .f32⟩
  | 46 => ⟨S2x32x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c : Ref sig .tc := ⟨.hbm, 93, rfl⟩
abbrev main_call0_v0 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_cst_13 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_14 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_c : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_c_0 : Ref sig .tc := ⟨.hbm, 120, rfl⟩
abbrev main_call1_v12 : Ref sig .tc := ⟨.hbm, 121, rfl⟩
abbrev main_call1_v13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_15 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_16 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_17 : Ref sig .tc := ⟨.hbm, 146, rfl⟩
abbrev main_v105 : Ref sig .tc := ⟨.hbm, 147, rfl⟩
abbrev main_v106 : Ref sig .tc := ⟨.hbm, 148, rfl⟩
abbrev main_cst_18 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_19 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_20 : Ref sig .tc := ⟨.hbm, 164, rfl⟩
abbrev main_v120 : Ref sig .tc := ⟨.hbm, 165, rfl⟩
abbrev main_cst_21 : Ref sig .tc := ⟨.hbm, 166, rfl⟩
abbrev main_v121 : Ref sig .tc := ⟨.hbm, 167, rfl⟩
abbrev main_v122 : Ref sig .tc := ⟨.hbm, 168, rfl⟩
abbrev main_c_22 : Ref sig .tc := ⟨.hbm, 169, rfl⟩
abbrev main_call2_v0 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩

abbrev nD : Nat := 1
abbrev τ : Topo := Topo.v7x

variable {F : FTy → Type} [FloatOps F]
-- ==== Proof.FfnIdeal.Run.lean ====
/-
  The run of the `FfnIdeal` kernel body at one grid point, with the heartbeat budget that its proof term needs.
  `kernelRun0_A` says what pieces the body leaves in its output and in its scratch buffers. -/
module

public import proofs.«01_k».proof.Proof.Gen.FfnIdeal.Frame.Runs

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S16x1024 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S3x2816 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x2816 .f32) (harg21 : arg21.IsWhole) (arg22 : Memref sig .tc .vmem S2816x1024 .bf16) (harg22 : arg22.IsWhole) (arg23 : Memref sig .tc .vmem S512x1024 .f32) (harg23 : arg23.IsWhole) (arg24 : Memref sig .tc .vmem S528x1024 .bf16) (harg24 : arg24.IsWhole) (arg25 : Memref sig .tc .vmem S2x528x256 .f32) (harg25 : arg25.IsWhole) (arg26 : Memref sig .tc .vmem S2x528x256 .f32) (harg26 : arg26.IsWhole) (arg27 : Memref sig .tc .vmem S512x2816 .bf16) (harg27 : arg27.IsWhole) (arg28 : Memref sig .tc .vmem S512x1024 .f32) (harg28 : arg28.IsWhole)
    (x0 : Vec F S512x1024 .f32) (x1 : Vec F S512x512 .f32) (x2 : Vec F S512x512 .f32) (x3 : Vec F S512x512 .f32) (x4 : Vec F S512x512 .f32) (x5 : Vec F S16x1024 .f32) (x6 : Vec F S16x512 .f32) (x7 : Vec F S16x512 .f32) (x8 : Vec F S16x512 .f32) (x9 : Vec F S16x512 .f32) (x10 : Vec F S512x512 .bf16) (x11 : Vec F S1x512 .f32) (x12 : Vec F S1x512 .f32) (x13 : Vec F S1024x1024 .bf16) (x14 : Vec F S1x1024 .f32) (x15 : Vec F S1024x2816 .bf16) (x16 : Vec F S1024x2816 .bf16) (x17 : Vec F S3x2816 .f32) (x18 : Vec F S3x2816 .f32) (x19 : Vec F S1x2816 .f32) (x20 : Vec F S1x2816 .f32) (x21 : Vec F S2816x1024 .bf16) :
    Σ' (L22 : List (View.Piece (Elt F) S512x1024 .f32)), Σ' (LT0 : List (View.Piece (Elt F) S528x1024 .bf16)), Σ' (LT1 : List (View.Piece (Elt F) S2x528x256 .f32)), Σ' (LT2 : List (View.Piece (Elt F) S2x528x256 .f32)), Σ' (LT3 : List (View.Piece (Elt F) S512x2816 .bf16)), { LT4 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ f, arg26.view.loc (c : Thread nD τ) ↦[arg26.view.set]{fullShare} arg26.view.writes (Elt F) f LT2) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LT4)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, fun E K => ?run⟩
  case run =>
    simp only [cc0_ffn_eq_skeleton]; unfold cc0_ffn_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]; · iexists _; iexact HS0
    isplitl [HS1]; · iexists _; iexact HS1
    isplitl [HS2]; · iexists _; iexact HS2
    isplitl [HS3]; · iexists _; iexact HS3
    iexists _; iexact HS4

end Cert.FfnIdeal.Gen

end
-- ==== Proof.FfnIdeal.Frame.lean ====
/-
  The frame of the `FfnIdeal` program over the body run of `Proof/FfnIdeal/Run.lean`: what the output holds after each grid
  point, the data of the pipeline, the run of the whole program and the frame claim. -/
module

public import proofs.«01_k».proof.Proof.FfnIdeal.Run
public import Idealize.ShloMosaic.Lib.Claim

@[expose] public section

set_option maxHeartbeats 4000000
-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 22 tile its block (1 store of `S512x1024`, checked by the kernel's evaluation: Lib/Ring.lean `Piece.tiledL`, linear in the pieces, through a loop's `@[irreducible]` trip theorem too), so they cover it. -/
theorem cover0_A_22 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S16x1024 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S3x2816 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x2816 .f32) (harg21 : arg21.IsWhole) (arg22 : Memref sig .tc .vmem S2816x1024 .bf16) (harg22 : arg22.IsWhole) (arg23 : Memref sig .tc .vmem S512x1024 .f32) (harg23 : arg23.IsWhole) (arg24 : Memref sig .tc .vmem S528x1024 .bf16) (harg24 : arg24.IsWhole) (arg25 : Memref sig .tc .vmem S2x528x256 .f32) (harg25 : arg25.IsWhole) (arg26 : Memref sig .tc .vmem S2x528x256 .f32) (harg26 : arg26.IsWhole) (arg27 : Memref sig .tc .vmem S512x2816 .bf16) (harg27 : arg27.IsWhole) (arg28 : Memref sig .tc .vmem S512x1024 .f32) (harg28 : arg28.IsWhole)
    (x0 : Vec F S512x1024 .f32) (x1 : Vec F S512x512 .f32) (x2 : Vec F S512x512 .f32) (x3 : Vec F S512x512 .f32) (x4 : Vec F S512x512 .f32) (x5 : Vec F S16x1024 .f32) (x6 : Vec F S16x512 .f32) (x7 : Vec F S16x512 .f32) (x8 : Vec F S16x512 .f32) (x9 : Vec F S16x512 .f32) (x10 : Vec F S512x512 .bf16) (x11 : Vec F S1x512 .f32) (x12 : Vec F S1x512 .f32) (x13 : Vec F S1024x1024 .bf16) (x14 : Vec F S1x1024 .f32) (x15 : Vec F S1024x2816 .bf16) (x16 : Vec F S1024x2816 .bf16) (x17 : Vec F S3x2816 .f32) (x18 : Vec F S3x2816 .f32) (x19 : Vec F S1x2816 .f32) (x20 : Vec F S1x2816 .f32) (x21 : Vec F S2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21).1 S512x1024.size (by sl_kernel_rfl) y

/-- What the run leaves in output 22's staging buffer: its pieces read back over junk. -/
def out0_A_22 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S16x1024 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S3x2816 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x2816 .f32) (harg21 : arg21.IsWhole) (arg22 : Memref sig .tc .vmem S2816x1024 .bf16) (harg22 : arg22.IsWhole) (arg23 : Memref sig .tc .vmem S512x1024 .f32) (harg23 : arg23.IsWhole) (arg24 : Memref sig .tc .vmem S528x1024 .bf16) (harg24 : arg24.IsWhole) (arg25 : Memref sig .tc .vmem S2x528x256 .f32) (harg25 : arg25.IsWhole) (arg26 : Memref sig .tc .vmem S2x528x256 .f32) (harg26 : arg26.IsWhole) (arg27 : Memref sig .tc .vmem S512x2816 .bf16) (harg27 : arg27.IsWhole) (arg28 : Memref sig .tc .vmem S512x1024 .f32) (harg28 : arg28.IsWhole)
    (x0 : Vec F S512x1024 .f32) (x1 : Vec F S512x512 .f32) (x2 : Vec F S512x512 .f32) (x3 : Vec F S512x512 .f32) (x4 : Vec F S512x512 .f32) (x5 : Vec F S16x1024 .f32) (x6 : Vec F S16x512 .f32) (x7 : Vec F S16x512 .f32) (x8 : Vec F S16x512 .f32) (x9 : Vec F S16x512 .f32) (x10 : Vec F S512x512 .bf16) (x11 : Vec F S1x512 .f32) (x12 : Vec F S1x512 .f32) (x13 : Vec F S1024x1024 .bf16) (x14 : Vec F S1x1024 .f32) (x15 : Vec F S1024x2816 .bf16) (x16 : Vec F S1024x2816 .bf16) (x17 : Vec F S3x2816 .f32) (x18 : Vec F S3x2816 .f32) (x19 : Vec F S1x2816 .f32) (x20 : Vec F S1x2816 .f32) (x21 : Vec F S2816x1024 .bf16) : Vec F S512x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21).1)

/-! ## What the outputs hold after each point -/

/-- What the outputs' staging buffers hold after the body at point `t`: the run's contents at
    the point's memrefs and input blocks. -/
def outsAt0 (c : Dev nD) (t : Fin cfg0.N) : Vec F S512x1024 .f32 :=
  out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t)
    | ⟨_ + 23, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_22
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, ⟨%e22, H22⟩, ⟨%fT0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_FfnIdeal`'s statement (Defs.lean) at any `F` — Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.FfnIdeal.Gen

end
-- ==== Proof.FfnIdeal.Value.lean ====
/-
  What the `FfnIdeal` program leaves in its result array, block by block: `flushed22_A` names what a grid point writes
  back, `blocks22` says that a block of the final array is what its point wrote, `run_blocks` is the run with the
  result array named. -/
module

public import proofs.«01_k».proof.Proof.FfnIdeal.Frame
public import Idealize.ShloMosaic.Lib.Pipeline.Value

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 22's array: the run's contents for that window after the body (`Gen.outsAt0`), read through the window's block. -/
theorem flushed22 (c : Dev nD) (t : Fin cfg0.N) :
    (dats m 0 c).flushed 22 t = (cfg0.win 22).cut (grid0.coords t) (outsAt0 m c t) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  simp only [flushed22, outsAt0]

/-- The index map sends distinct grid points to distinct block indices (decided over the 32 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S16384x1024.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v38) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v38) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.FfnIdeal.Value

end
-- ==== Proof.FfnAlgebra.lean ====
/-
  The feed-forward layer row by row over the extended reals, as plain functions with no array and no program in them, and the
  one equation between the two ways of taking a head's mean: the reference divides the head's sum by 64; the kernel
  multiplies with a 0/1 block matrix, once with the value and once with what a rounding would have left over, and scales
  by 1/64. The two normalised values agree at every extended real.
-/
module

public import Idealize.ShloMosaic.PureOps.Ideal
public import Idealize.ShloMosaic.Lib.IdealHost

@[expose] public section

noncomputable section

namespace Cert.Proof.FfnSpec

open Idealize.ShloMosaic
open scoped BigOperators

/-- Lane `k` of the head that lane `j` lies in (a head is 64 consecutive lanes). -/
def headLane (j : Fin 512) (k : Fin 64) : Fin 512 := ⟨j.val / 64 * 64 + k.val, by omega⟩

/-- The sum over the head of lane `j`. -/
def headSum (f : Fin 512 → EReal) (j : Fin 512) : EReal := ∑ k : Fin 64, f (headLane j k)

/-- The mean over the head of lane `j`. -/
def headMean (f : Fin 512 → EReal) (j : Fin 512) : EReal := headSum f j * ((1 / 64 : ℝ) : EReal)

/-- The offset under the group norm's root. -/
def gnEps : EReal := Ideal.ofBits .f32 0x3A27C5AC#32

/-- The distance of a lane from its head's mean. -/
def dev (y : Fin 512 → EReal) (j : Fin 512) : EReal := y j - headMean y j

/-- One row normalised head by head. -/
def groupNorm (y : Fin 512 → EReal) (j : Fin 512) : EReal :=
  dev y j * Ideal.rsqrt (headMean (fun k => dev y k * dev y k) j + gnEps)

/-- The block matrix whose entry is 1 where the two lanes lie in one head and 0 elsewhere. -/
def sameHead (k j : Fin 512) : EReal := if k.val / 64 = j.val / 64 then 1 else 0

/-- A product with the block matrix is the head's sum. -/
theorem sum_sameHead (f : Fin 512 → EReal) (j : Fin 512) : ∑ k : Fin 512, f k * sameHead k j = headSum f j := by
  unfold headSum
  rw [← Finset.sum_subset (Finset.subset_univ (Finset.univ.image (headLane j)))]
  · rw [Finset.sum_image]
    · refine Finset.sum_congr rfl fun k _ => ?_
      have h : (headLane j k).val / 64 = j.val / 64 := by
        have := k.isLt
        show (j.val / 64 * 64 + k.val) / 64 = j.val / 64
        omega
      rw [sameHead, if_pos h, mul_one]
    · intro a _ b _ hab
      have : j.val / 64 * 64 + a.val = j.val / 64 * 64 + b.val := congrArg Fin.val hab
      exact Fin.ext (by omega)
  · intro k _ hk
    have h : ¬ k.val / 64 = j.val / 64 := by
      intro h
      refine hk (Finset.mem_image.2 ⟨⟨k.val % 64, Nat.mod_lt _ (by norm_num)⟩, Finset.mem_univ _, Fin.ext ?_⟩)
      show j.val / 64 * 64 + k.val % 64 = k.val
      omega
    rw [sameHead, if_neg h, mul_zero]

/-- Lanes of one head have one head mean. -/
theorem headSum_headLane (f : Fin 512 → EReal) (j : Fin 512) (k : Fin 64) : headSum f (headLane j k) = headSum f j := by
  have h : (headLane j k).val / 64 = j.val / 64 := by
    have := k.isLt
    show (j.val / 64 * 64 + k.val) / 64 = j.val / 64
    omega
  unfold headSum headLane
  simp only [] at h ⊢
  refine Finset.sum_congr rfl fun i _ => congrArg f (Fin.ext ?_)
  show (j.val / 64 * 64 + k.val) / 64 * 64 + i.val = j.val / 64 * 64 + i.val
  have := k.isLt
  omega

/-- The mean as the kernel takes it: with what a rounding leaves over (nothing, at exact arithmetic) added in. -/
def splitMean (y : Fin 512 → EReal) (j : Fin 512) : EReal :=
  (headSum y j + headSum (fun k => y k - y k) j) * ((1 / 64 : ℝ) : EReal)

/-- A sum that meets `⊥` is `⊥`. -/
theorem sum_eq_bot {ι : Type} [Fintype ι] (f : ι → EReal) (i : ι) (h : f i = ⊥) : ∑ k, f k = ⊥ := by
  classical
  rw [← Finset.add_sum_erase _ _ (Finset.mem_univ i), h, EReal.bot_add]

/-- A sum with no `⊥` that meets `⊤` is `⊤`. -/
theorem sum_eq_top {ι : Type} [Fintype ι] (f : ι → EReal) (hb : ∀ k, f k ≠ ⊥) (i : ι) (h : f i = ⊤) : ∑ k, f k = ⊤ := by
  classical
  rw [← Finset.add_sum_erase _ _ (Finset.mem_univ i), h]
  refine EReal.top_add_of_ne_bot fun h0 => ?_
  have key : ∀ s : Finset ι, ∑ k ∈ s, f k ≠ ⊥ := by
    intro s
    induction s using Finset.induction_on with
    | empty => simp
    | insert a s ha ih =>
      rw [Finset.sum_insert ha]
      intro hc
      rcases EReal.add_eq_bot_iff.1 hc with h | h
      · exact hb a h
      · exact ih h
  exact key _ h0

theorem sixtyfourth_pos : (0 : ℝ) < 1 / 64 := by norm_num

/-- Where every lane of the head is real the two means are one number; otherwise each is infinite. -/
theorem splitMean_cases (y : Fin 512 → EReal) (j : Fin 512) :
    (splitMean y j = headMean y j)
      ∨ ((splitMean y j = ⊥ ∨ splitMean y j = ⊤) ∧ (headMean y j = ⊥ ∨ headMean y j = ⊤)) := by
  by_cases hfin : ∀ k, y (headLane j k) ≠ ⊥ ∧ y (headLane j k) ≠ ⊤
  · left
    have h0 : headSum (fun k => y k - y k) j = 0 := by
      unfold headSum
      exact Finset.sum_eq_zero fun k _ => EReal.sub_self (hfin k).2 (hfin k).1
    rw [splitMean, h0, add_zero, headMean]
  · right
    push Not at hfin
    have hsplit : ∃ k, y (headLane j k) = ⊥ ∨ y (headLane j k) = ⊤ := by
      obtain ⟨k, hk⟩ := hfin
      by_cases hb : y (headLane j k) = ⊥
      · exact ⟨k, .inl hb⟩
      · exact ⟨k, .inr (hk hb)⟩
    constructor
    · left
      obtain ⟨k, hk⟩ := hsplit
      have : headSum (fun k => y k - y k) j = ⊥ := by
        refine sum_eq_bot _ k ?_
        rcases hk with h | h <;> simp [h]
      rw [splitMean, this, EReal.add_bot, EReal.bot_mul_coe_of_pos sixtyfourth_pos]
    · by_cases hb : ∃ k, y (headLane j k) = ⊥
      · obtain ⟨k, hk⟩ := hb
        left
        rw [headMean, headSum, sum_eq_bot _ k hk, EReal.bot_mul_coe_of_pos sixtyfourth_pos]
      · push Not at hb
        obtain ⟨k, hk⟩ := hsplit
        right
        rw [headMean, headSum, sum_eq_top _ hb k (hk.resolve_left (hb k)), EReal.top_mul_coe_of_pos sixtyfourth_pos]

/-- The group norm with the kernel's mean. -/
def splitNorm (y : Fin 512 → EReal) (j : Fin 512) : EReal :=
  (y j - splitMean y j)
    * Ideal.rsqrt (headMean (fun k => (y k - splitMean y k) * (y k - splitMean y k)) j + gnEps)

/-- The offset is a real number. -/
theorem gnEps_ne_bot : gnEps ≠ ⊥ := by
  unfold gnEps
  simp [Ideal.ofBits, Ideal.ieee, -EReal.coe_mul]

/-- What lies an infinite mean away has an infinite square. -/
theorem sq_of_infinite (a m : EReal) (h : m = ⊥ ∨ m = ⊤) : (a - m) * (a - m) = ⊤ := by
  rcases h with rfl | rfl
  · induction a using EReal.rec <;> simp
  · induction a using EReal.rec <;> simp

/-- A head whose mean is infinite is normalised to zero. -/
theorem norm_of_infinite (y : Fin 512 → EReal) (mu : Fin 512 → EReal) (j : Fin 512)
    (hc : ∀ k, mu (headLane j k) = mu j) (h : mu j = ⊥ ∨ mu j = ⊤) :
    (y j - mu j) * Ideal.rsqrt (headMean (fun k => (y k - mu k) * (y k - mu k)) j + gnEps) = 0 := by
  have h2 : headSum (fun k => (y k - mu k) * (y k - mu k)) j = ⊤ := by
    unfold headSum
    have : ∀ k : Fin 64, (y (headLane j k) - mu (headLane j k)) * (y (headLane j k) - mu (headLane j k)) = ⊤ :=
      fun k => sq_of_infinite _ _ (by rw [hc k]; exact h)
    exact sum_eq_top _ (fun k => (this k).trans_ne top_ne_bot) 0 (this 0)
  rw [headMean, h2, EReal.top_mul_coe_of_pos sixtyfourth_pos, EReal.top_add_of_ne_bot gnEps_ne_bot, Ideal.rsqrt_top, mul_zero]

/-- The kernel's group norm is the reference's, at every extended real. -/
theorem splitNorm_eq (y : Fin 512 → EReal) (j : Fin 512) : splitNorm y j = groupNorm y j := by
  have hcs : ∀ k, splitMean y (headLane j k) = splitMean y j := fun k => by
    unfold splitMean; rw [headSum_headLane, headSum_headLane]
  have hch : ∀ k, headMean y (headLane j k) = headMean y j := fun k => by
    unfold headMean; rw [headSum_headLane]
  rcases splitMean_cases y j with h | ⟨hs, hh⟩
  · have hsq : headMean (fun k => (y k - splitMean y k) * (y k - splitMean y k)) j
        = headMean (fun k => dev y k * dev y k) j := by
      unfold headMean
      congr 1
      refine Finset.sum_congr rfl fun k _ => ?_
      show (y (headLane j k) - splitMean y (headLane j k)) * (y (headLane j k) - splitMean y (headLane j k))
        = (y (headLane j k) - headMean y (headLane j k)) * (y (headLane j k) - headMean y (headLane j k))
      rw [hcs k, h, hch k]
    rw [splitNorm, groupNorm, hsq, h]; rfl
  · rw [splitNorm, norm_of_infinite y (splitMean y) j hcs hs]
    exact (norm_of_infinite y (headMean y) j hch hh).symm

end Cert.Proof.FfnSpec

end
-- ==== Proof.FfnSpec.lean ====
/-
  What the out-projection and feed-forward call computes, row by row over the extended reals: plain functions of rows and
  weights, with no program in them. Both the kernel's block and the reference's array are shown to be these functions.
-/
module

public import proofs.«01_k».proof.Proof.FfnAlgebra

@[expose] public section

noncomputable section

namespace Cert.Proof.FfnSpec

open Idealize.ShloMosaic
open scoped BigOperators

/-- The layer's weights as functions of their coordinates. -/
structure Weights where
  lnw : Fin 512 → EReal
  lnb : Fin 512 → EReal
  wo : Fin 1024 → Fin 1024 → EReal
  g2 : Fin 1024 → EReal
  wu : Fin 1024 → Fin 5632 → EReal
  cw : Fin 3 → Fin 5632 → EReal
  cb : Fin 5632 → EReal
  wd : Fin 2816 → Fin 1024 → EReal

/-- One token's row of every input. -/
structure Row where
  x : Fin 1024 → EReal
  on : Fin 512 → EReal
  y : Fin 512 → EReal
  bonus : Fin 512 → EReal
  g : Fin 512 → EReal

/-- Column `k` of the second half of the out-projection's rows. -/
def upper (k : Fin 512) : Fin 1024 := ⟨512 + k.val, by omega⟩
/-- Column `k` of the first half of the out-projection's rows. -/
def lower (k : Fin 512) : Fin 1024 := ⟨k.val, by omega⟩
/-- The value column of a feed-forward lane. -/
def valueCol (f : Fin 2816) : Fin 5632 := ⟨f.val, by omega⟩
/-- The gate column of a feed-forward lane. -/
def gateCol (f : Fin 2816) : Fin 5632 := ⟨2816 + f.val, by omega⟩

/-- The recurrence's output normalised head by head, with its bonus, gated. -/
def gated (W : Weights) (R : Row) (j : Fin 512) : EReal :=
  (groupNorm R.y j * W.lnw j + W.lnb j + R.bonus j) * R.g j

/-- The residual row after the out-projection of attention and recurrence. -/
def residual (W : Weights) (R : Row) (c : Fin 1024) : EReal :=
  R.x c + ∑ k : Fin 512, R.on k * W.wo (lower k) c + ∑ k : Fin 512, gated W R k * W.wo (upper k) c

/-- A row normalised by its root mean square, with gain. -/
def rmsNorm (W : Weights) (v : Fin 1024 → EReal) (c : Fin 1024) : EReal :=
  v c * Ideal.rsqrt (Ideal.div (∑ k, v k * v k) (Ideal.ofBits .f32 0x44800000#32) + Ideal.ofBits .f32 0x358637BD#32) * W.g2 c

/-- The feed-forward's input row. -/
def hidden (W : Weights) (R : Row) : Fin 1024 → EReal := rmsNorm W (residual W R)

/-- The up-projection of a row. -/
def upProj (W : Weights) (h : Fin 1024 → EReal) (f : Fin 5632) : EReal := ∑ k, h k * W.wu k f

/-- The causal three-tap filter over the up-projections of a row and the two rows before it. -/
def filtered (W : Weights) (h2 h1 h0 : Fin 1024 → EReal) (f : Fin 5632) : EReal :=
  W.cb f + upProj W h0 f * W.cw 2 f + upProj W h2 f * W.cw 0 f + upProj W h1 f * W.cw 1 f

/-- The gated activation `u · σ(u) · v`. -/
def swish (u v : EReal) : EReal := u * Ideal.logistic u * v

/-- The activation row. -/
def activation (W : Weights) (h2 h1 h0 : Fin 1024 → EReal) (f : Fin 2816) : EReal :=
  swish (filtered W h2 h1 h0 (gateCol f)) (filtered W h2 h1 h0 (valueCol f))

/-- The output row: the residual plus the down-projection of the activation. -/
def outRow (W : Weights) (R : Row) (h2 h1 h0 : Fin 1024 → EReal) (c : Fin 1024) : EReal :=
  residual W R c + ∑ f, activation W h2 h1 h0 f * W.wd f c

/-- The hidden row `d` tokens before token `n`, zero where a sequence of 8192 tokens begins in between. -/
def back (W : Weights) (T : Fin 16384 → Row) (d : ℕ) (n : Fin 16384) : Fin 1024 → EReal :=
  if d ≤ n.val % 8192 then hidden W (T ⟨n.val - d, by omega⟩) else fun _ => 0

/-- The layer at token `n` and channel `c`. -/
def layer (W : Weights) (T : Fin 16384 → Row) (n : Fin 16384) (c : Fin 1024) : EReal :=
  outRow W (T n) (back W T 2 n) (back W T 1 n) (back W T 0 n) c

end Cert.Proof.FfnSpec

end
-- ==== Proof.FfnTiles.lean ====
/-
  The activation scratch of the `FfnIdeal` body: the eleven column tiles that the body stores there are blocks of ONE
  array, the activation of the hidden rows that the body keeps in its first scratch.
-/
module

public import proofs.«01_k».proof.Proof.FfnIdeal.Value
public import proofs.«01_k».proof.Proof.FfnSpec
public import Idealize.ShloMosaic.Lib.Pointwise
public import Idealize.ShloMosaic.Lib.Pipeline.ValueKit
public import Idealize.ShloMosaic.Lib.Pipeline.ReadBack
public import Idealize.ShloMosaic.Lib.Pipeline.ValueKit.Stack

@[expose] public section

set_option maxRecDepth 65536
set_option maxHeartbeats 4000000

noncomputable section

namespace Cert.Proof.FfnTiles

open Idealize.ShloMosaic Idealize.ShloMosaic.TcCoe Idealize.SL.Sem
open Cert.FfnIdeal Cert.FfnIdeal.Gen
open Cert.Proof.FfnSpec

/-- A load of 512 rows from a slot of the projection scratch just stored whole reads the stored rows, `d` further down. -/
theorem readSlot (v : View sig .tc .vmem S2x528x256 .f32) (s d : ℕ)
    (inb : ∀ a, (![s, 0, 0] : Fin 3 → ℕ) a + S1x528x256.size a ≤ S2x528x256.size a)
    (inb' : ∀ a, (![s, d, 0] : Fin 3 → ℕ) a + S1x512x256.size a ≤ S2x528x256.size a) (P : S1x528x256.Idx → Elt Ideal .f32)
    (L : List (View.Piece (Elt Ideal) S2x528x256 .f32)) (hd : d ≤ 16) :
    v.readCov (⟨Rect.unit (s := S2x528x256) ![s, 0, 0] ![1, 528, 256] inb, P⟩ :: L)
        (Rect.unit (s := S2x528x256) ![s, d, 0] ![1, 512, 256] inb').toLoadRect
      = fun y : S1x512x256.Idx => P (ix3 (n0 := 1) (n1 := 528) (n2 := 256) (y 0)
          ⟨d + (y 1).val, by have : (y 1).val < 512 := (y 1).isLt; omega⟩ (y 2)) := by
  rw [View.readCov_eq_canon']
  funext y
  have h := View.canon_cons_emb (Val := Elt Ideal) (e := .f32)
    (Rect.unit (s := S2x528x256) ![s, 0, 0] S1x528x256.size inb) P L
    (ix3 (n0 := 1) (n1 := 528) (n2 := 256) (y 0)
      ⟨d + (y 1).val, by have : (y 1).val < 512 := (y 1).isLt; omega⟩ (y 2))
  refine Eq.trans (congrArg _ ?_) h
  funext a
  apply Fin.ext
  match a with
  | ⟨0, _⟩ => rfl
  | ⟨1, _⟩ => show d + 1 * (y 1).val = 0 + 1 * (d + (y 1).val); omega
  | ⟨2, _⟩ => rfl

/-- Where a column tile of the activation scratch lies. -/
theorem emb_tile (o : ℕ) (inb : ∀ a, (![0, o] : Fin 2 → ℕ) a + S512x256.size a ≤ S512x2816.size a) (r : Fin 512)
    (k : Fin 256) (h : o + k.val < 2816) :
    (Rect.unit (s := S512x2816) ![0, o] S512x256.size inb).emb (ix2 r k) = ix2 r ⟨o + k.val, h⟩ := by
  funext a
  apply Fin.ext
  match a with
  | ⟨0, _⟩ => show 0 + 1 * _ = _; simp
  | ⟨1, _⟩ => show o + 1 * _ = _; simp

/-- A column tile whose entries are those of an array is a block of the array. -/
theorem tilePiece (G : S512x2816.Idx → Elt Ideal .bf16) (g : Fin 512 → Fin 2816 → EReal) (hG : ∀ r f, G (ix2 r f) = g r f)
    (o : ℕ) (ho : o + 256 ≤ 2816) (inb : ∀ a, (![0, o] : Fin 2 → ℕ) a + S512x256.size a ≤ S512x2816.size a)
    (P : S512x256.Idx → Elt Ideal .bf16)
    (h : ∀ (r : Fin 512) (k : Fin 256), P (ix2 r k) = g r ⟨o + k.val, by omega⟩)
    (x : (Rect.unit (s := S512x2816) ![0, o] S512x256.size inb).shape.Idx) :
    P x = G ((Rect.unit (s := S512x2816) ![0, o] S512x256.size inb).emb x) := by
  obtain ⟨r, k, rfl⟩ : ∃ (r : Fin 512) (k : Fin 256), x = ix2 r k := ⟨x 0, x 1, eq_ix2 x⟩
  rw [emb_tile o inb r k (by omega), hG]
  exact h r k

/-- The up-projection of row `e` of the hidden rows. -/
def up (E : S528x1024.Idx → EReal) (w : S1024x2816.Idx → EReal) (e : Fin 528) (f : Fin 2816) : EReal :=
  ∑ k : Fin 1024, E (ix2 e k) * w (ix2 k f)

/-- Output row `r` of the three-tap filter over the up-projections of rows `r + 14`, `r + 15` and `r + 16`. -/
def taps (E : S528x1024.Idx → EReal) (w : S1024x2816.Idx → EReal) (cw : S3x2816.Idx → EReal) (cb : S1x2816.Idx → EReal)
    (r : Fin 512) (f : Fin 2816) : EReal :=
  cb (ix2 0 f) + up E w ⟨16 + r.val, by omega⟩ f * cw (ix2 2 f) + up E w ⟨14 + r.val, by omega⟩ f * cw (ix2 0 f)
    + up E w ⟨15 + r.val, by omega⟩ f * cw (ix2 1 f)

/-- The activation scratch's entry. -/
def actEntry (E : S528x1024.Idx → EReal) (wv wg : S1024x2816.Idx → EReal) (cwv cwg : S3x2816.Idx → EReal)
    (cbv cbg : S1x2816.Idx → EReal) (r : Fin 512) (f : Fin 2816) : EReal :=
  swish (taps E wg cwg cbg r f) (taps E wv cwv cbv r f)

/-- Every tile that the body stores in the activation scratch is a block of the array of activation entries. -/
theorem act_pieces (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S16x1024 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S3x2816 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x2816 .f32) (harg21 : arg21.IsWhole) (arg22 : Memref sig .tc .vmem S2816x1024 .bf16) (harg22 : arg22.IsWhole) (arg23 : Memref sig .tc .vmem S512x1024 .f32) (harg23 : arg23.IsWhole) (arg24 : Memref sig .tc .vmem S528x1024 .bf16) (harg24 : arg24.IsWhole) (arg25 : Memref sig .tc .vmem S2x528x256 .f32) (harg25 : arg25.IsWhole) (arg26 : Memref sig .tc .vmem S2x528x256 .f32) (harg26 : arg26.IsWhole) (arg27 : Memref sig .tc .vmem S512x2816 .bf16) (harg27 : arg27.IsWhole) (arg28 : Memref sig .tc .vmem S512x1024 .f32) (harg28 : arg28.IsWhole)
    (x0 : Vec Ideal S512x1024 .f32) (x1 : Vec Ideal S512x512 .f32) (x2 : Vec Ideal S512x512 .f32) (x3 : Vec Ideal S512x512 .f32) (x4 : Vec Ideal S512x512 .f32) (x5 : Vec Ideal S16x1024 .f32) (x6 : Vec Ideal S16x512 .f32) (x7 : Vec Ideal S16x512 .f32) (x8 : Vec Ideal S16x512 .f32) (x9 : Vec Ideal S16x512 .f32) (x10 : Vec Ideal S512x512 .bf16) (x11 : Vec Ideal S1x512 .f32) (x12 : Vec Ideal S1x512 .f32) (x13 : Vec Ideal S1024x1024 .bf16) (x14 : Vec Ideal S1x1024 .f32) (x15 : Vec Ideal S1024x2816 .bf16) (x16 : Vec Ideal S1024x2816 .bf16) (x17 : Vec Ideal S3x2816 .f32) (x18 : Vec Ideal S3x2816 .f32) (x19 : Vec Ideal S1x2816 .f32) (x20 : Vec Ideal S1x2816 .f32) (x21 : Vec Ideal S2816x1024 .bf16)
    (E : S528x1024.Idx → Elt Ideal .bf16)
    (hE : kernelRun0_A.sl.v108 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg24 x0 x1 x2 x3 x4 x5 x6 x7 x8 x9 x10 x11 x12 x13 x14 = E)
    (G : S512x2816.Idx → Elt Ideal .bf16) (hG : ∀ r f, G (ix2 r f) = actEntry E x15 x16 x17 x18 x19 x20 r f) :
    View.PiecesOf G (kernelRun0_A.sl.HS3_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg24 arg25 arg26 x0 x1 x2 x3 x4 x5 x6 x7 x8 x9 x10 x11 x12 x13 x14 x15 x16 x17 x18 x19 x20) := by
  unfold kernelRun0_A.sl.HS3_11
  refine ⟨
    tilePiece G _ hG 2560 (by decide) inb_S512x2816_S512x256_0_2560 _ ?_,
    tilePiece G _ hG 2304 (by decide) inb_S512x2816_S512x256_0_2304 _ ?_,
    tilePiece G _ hG 2048 (by decide) inb_S512x2816_S512x256_0_2048 _ ?_,
    tilePiece G _ hG 1792 (by decide) inb_S512x2816_S512x256_0_1792 _ ?_,
    tilePiece G _ hG 1536 (by decide) inb_S512x2816_S512x256_0_1536 _ ?_,
    tilePiece G _ hG 1280 (by decide) inb_S512x2816_S512x256_0_1280 _ ?_,
    tilePiece G _ hG 1024 (by decide) inb_S512x2816_S512x256_0_1024 _ ?_,
    tilePiece G _ hG 768 (by decide) inb_S512x2816_S512x256_0_768 _ ?_,
    tilePiece G _ hG 512 (by decide) inb_S512x2816_S512x256_0_512 _ ?_,
    tilePiece G _ hG 256 (by decide) inb_S512x2816_S512x256_0_256 _ ?_,
    tilePiece G _ hG 0 (by decide) inb_S512x2816_S512x256_0_0 _ ?_, trivial⟩
  all_goals
    intro r k
    simp only [
      kernelRun0_A.sl.HS1_1, kernelRun0_A.sl.HS1_10, kernelRun0_A.sl.HS1_11, kernelRun0_A.sl.HS1_2,
      kernelRun0_A.sl.HS1_3, kernelRun0_A.sl.HS1_4, kernelRun0_A.sl.HS1_5, kernelRun0_A.sl.HS1_6,
      kernelRun0_A.sl.HS1_7, kernelRun0_A.sl.HS1_8, kernelRun0_A.sl.HS1_9, kernelRun0_A.sl.HS2_1,
      kernelRun0_A.sl.HS2_10, kernelRun0_A.sl.HS2_11, kernelRun0_A.sl.HS2_2, kernelRun0_A.sl.HS2_3,
      kernelRun0_A.sl.HS2_4, kernelRun0_A.sl.HS2_5, kernelRun0_A.sl.HS2_6, kernelRun0_A.sl.HS2_7,
      kernelRun0_A.sl.HS2_8, kernelRun0_A.sl.HS2_9, kernelRun0_A.sl.r_10, kernelRun0_A.sl.r_11, kernelRun0_A.sl.r_12,
      kernelRun0_A.sl.r_13, kernelRun0_A.sl.r_14, kernelRun0_A.sl.r_15, kernelRun0_A.sl.r_16, kernelRun0_A.sl.r_17,
      kernelRun0_A.sl.r_18, kernelRun0_A.sl.r_19, kernelRun0_A.sl.r_2, kernelRun0_A.sl.r_20, kernelRun0_A.sl.r_21,
      kernelRun0_A.sl.r_22, kernelRun0_A.sl.r_23, kernelRun0_A.sl.r_24, kernelRun0_A.sl.r_25, kernelRun0_A.sl.r_26,
      kernelRun0_A.sl.r_27, kernelRun0_A.sl.r_28, kernelRun0_A.sl.r_29, kernelRun0_A.sl.r_3, kernelRun0_A.sl.r_30,
      kernelRun0_A.sl.r_31, kernelRun0_A.sl.r_32, kernelRun0_A.sl.r_33, kernelRun0_A.sl.r_34, kernelRun0_A.sl.r_35,
      kernelRun0_A.sl.r_36, kernelRun0_A.sl.r_37, kernelRun0_A.sl.r_38, kernelRun0_A.sl.r_39, kernelRun0_A.sl.r_4,
      kernelRun0_A.sl.r_40, kernelRun0_A.sl.r_41, kernelRun0_A.sl.r_42, kernelRun0_A.sl.r_43, kernelRun0_A.sl.r_44,
      kernelRun0_A.sl.r_45, kernelRun0_A.sl.r_46, kernelRun0_A.sl.r_47, kernelRun0_A.sl.r_5, kernelRun0_A.sl.r_6,
      kernelRun0_A.sl.r_7, kernelRun0_A.sl.r_8, kernelRun0_A.sl.r_9, kernelRun0_A.sl.v117, kernelRun0_A.sl.v125,
      kernelRun0_A.sl.v132, kernelRun0_A.sl.v148, kernelRun0_A.sl.v156, kernelRun0_A.sl.v163, kernelRun0_A.sl.v186,
      kernelRun0_A.sl.v194, kernelRun0_A.sl.v201, kernelRun0_A.sl.v217, kernelRun0_A.sl.v225, kernelRun0_A.sl.v232,
      kernelRun0_A.sl.v255, kernelRun0_A.sl.v263, kernelRun0_A.sl.v270, kernelRun0_A.sl.v286, kernelRun0_A.sl.v294,
      kernelRun0_A.sl.v301, kernelRun0_A.sl.v324, kernelRun0_A.sl.v332, kernelRun0_A.sl.v339, kernelRun0_A.sl.v355,
      kernelRun0_A.sl.v363, kernelRun0_A.sl.v370, kernelRun0_A.sl.v393, kernelRun0_A.sl.v401, kernelRun0_A.sl.v408,
      kernelRun0_A.sl.v424, kernelRun0_A.sl.v432, kernelRun0_A.sl.v439, kernelRun0_A.sl.v462, kernelRun0_A.sl.v470,
      kernelRun0_A.sl.v477, kernelRun0_A.sl.v493, kernelRun0_A.sl.v501, kernelRun0_A.sl.v508, kernelRun0_A.sl.v531,
      kernelRun0_A.sl.v539, kernelRun0_A.sl.v546, kernelRun0_A.sl.v562, kernelRun0_A.sl.v570, kernelRun0_A.sl.v577,
      kernelRun0_A.sl.v600, kernelRun0_A.sl.v608, kernelRun0_A.sl.v615, kernelRun0_A.sl.v631, kernelRun0_A.sl.v639,
      kernelRun0_A.sl.v646, kernelRun0_A.sl.v669, kernelRun0_A.sl.v677, kernelRun0_A.sl.v684, kernelRun0_A.sl.v700,
      kernelRun0_A.sl.v708, kernelRun0_A.sl.v715, kernelRun0_A.sl.v738, kernelRun0_A.sl.v746, kernelRun0_A.sl.v753,
      kernelRun0_A.sl.v769, kernelRun0_A.sl.v777, kernelRun0_A.sl.v784, kernelRun0_A.sl.v807, kernelRun0_A.sl.v815,
      kernelRun0_A.sl.v822, kernelRun0_A.sl.v838, kernelRun0_A.sl.v846, kernelRun0_A.sl.v853]
    simp (disch := decide) only [readSlot, View.readAt_eq_ld, Memref.IsWhole.read_unread, hE]
    pointwise [actEntry, swish, taps, up,
      k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77,
      k0_pay78, k0_pay79, k0_pay80, k0_pay81, k0_pay82, k0_pay83, k0_pay84, k0_pay85, k0_pay86, k0_pay87, k0_pay88]

end Cert.Proof.FfnTiles

end
-- ==== Proof.FfnBlock.lean ====
/-
  What one grid point of the `FfnIdeal` body leaves in its output block: row `r` of the block is the layer's output row
  over the tile's row `r` and the hidden rows `r`, `r - 1` and `r - 2`, the last two coming from the halo at the top.
-/
module

public import proofs.«01_k».proof.Proof.FfnTiles

@[expose] public section

set_option maxRecDepth 65536
set_option maxHeartbeats 4000000

noncomputable section

namespace Cert.Proof.FfnBlock

open Idealize.ShloMosaic Idealize.ShloMosaic.TcCoe Idealize.SL.Sem
open Cert.FfnIdeal Cert.FfnIdeal.Gen
open Cert.Proof.FfnSpec Cert.Proof.FfnTiles
open scoped BigOperators

/-- Sixteen halo rows on top of 512 tile rows. -/
def stack {n : ℕ} (halo : (⟨2, ![16, n]⟩ : Shape).Idx → EReal) (tile : (⟨2, ![512, n]⟩ : Shape).Idx → EReal)
    (e : Fin 528) (c : Fin n) : EReal :=
  if h : e.val < 16 then halo (ix2 ⟨e.val, h⟩ c) else tile (ix2 ⟨e.val - 16, by omega⟩ c)

/-- Row `e` of the staged inputs, halo rows first. -/
def extRow (x0 : Vec Ideal S512x1024 .f32) (x1 x2 x3 x4 : Vec Ideal S512x512 .f32) (x5 : Vec Ideal S16x1024 .f32)
    (x6 x7 x8 x9 : Vec Ideal S16x512 .f32) (e : Fin 528) : Row where
  x := stack x5 x0 e
  on := stack x6 x1 e
  y := stack x7 x2 e
  bonus := stack x8 x3 e
  g := stack x9 x4 e

/-- The staged weight blocks hold the layer's weights. -/
structure Holds (W : Weights) (x10 : Vec Ideal S512x512 .bf16) (x11 x12 : Vec Ideal S1x512 .f32)
    (x13 : Vec Ideal S1024x1024 .bf16) (x14 : Vec Ideal S1x1024 .f32) (x15 x16 : Vec Ideal S1024x2816 .bf16)
    (x17 x18 : Vec Ideal S3x2816 .f32) (x19 x20 : Vec Ideal S1x2816 .f32) (x21 : Vec Ideal S2816x1024 .bf16) : Prop where
  bd : ∀ k j, x10 (ix2 k j) = sameHead k j
  lnw : ∀ j, x11 (ix2 0 j) = W.lnw j
  lnb : ∀ j, x12 (ix2 0 j) = W.lnb j
  wo : ∀ k c, x13 (ix2 k c) = W.wo k c
  g2 : ∀ c, x14 (ix2 0 c) = W.g2 c
  wv : ∀ k f, x15 (ix2 k f) = W.wu k (valueCol f)
  wg : ∀ k f, x16 (ix2 k f) = W.wu k (gateCol f)
  cwv : ∀ t f, x17 (ix2 t f) = W.cw t (valueCol f)
  cwg : ∀ t f, x18 (ix2 t f) = W.cw t (gateCol f)
  cbv : ∀ f, x19 (ix2 0 f) = W.cb (valueCol f)
  cbg : ∀ f, x20 (ix2 0 f) = W.cb (gateCol f)
  wd : ∀ f c, x21 (ix2 f c) = W.wd f c

/-- The factor 1/64. -/
theorem ofBits_sixtyfourth : Ideal.ofBits .f32 1015021568#32 = ((1 / 64 : ℝ) : EReal) := by
  simp [Ideal.ofBits, Ideal.ieee, -EReal.coe_mul]; norm_num

/-- The gated recurrence row. -/
theorem pay7_apply (W : Weights) (R : Row) (y b : FVec Ideal S528x512 .f32) (gh : FVec Ideal S16x512 .f32)
    (g : FVec Ideal S512x512 .f32) (bd : FVec Ideal S512x512 .bf16) (w bb : FVec Ideal S1x512 .f32) (e : Fin 528)
    (hy : ∀ k, y (ix2 e k) = R.y k) (hb : ∀ k, b (ix2 e k) = R.bonus k) (hg : ∀ k, stack gh g e k = R.g k)
    (hbd : ∀ k j, bd (ix2 k j) = sameHead k j) (hw : ∀ j, w (ix2 0 j) = W.lnw j) (hbb : ∀ j, bb (ix2 0 j) = W.lnb j)
    (j : Fin 512) : k0_pay7 y b gh g bd bd w bb (ix2 e j) = gated W R j := by
  have hg' := hg j
  unfold stack at hg'
  pointwise [k0_pay7]
  rw [hg']
  simp only [hy, hb, hbd, hw, hbb, ofBits_sixtyfourth, sum_sameHead (f := fun k => R.y k),
    sum_sameHead (f := fun k => R.y k - R.y k)]
  rw [gated, ← splitNorm_eq]
  have h2 := sum_sameHead (fun k => (R.y k - splitMean R.y k) * (R.y k - splitMean R.y k)) j
  unfold splitNorm headMean
  rw [← h2]
  rfl

/-- The residual row. -/
theorem pay9_apply (W : Weights) (R : Row) (v : FVec Ideal S528x512 .f32) (x : FVec Ideal S528x1024 .f32)
    (on : FVec Ideal S528x512 .f32) (w1 w2 : FVec Ideal S512x1024 .bf16) (e : Fin 528)
    (hv : ∀ k, v (ix2 e k) = gated W R k) (hx : ∀ c, x (ix2 e c) = R.x c) (hon : ∀ k, on (ix2 e k) = R.on k)
    (h1 : ∀ k c, w1 (ix2 k c) = W.wo (lower k) c) (h2 : ∀ k c, w2 (ix2 k c) = W.wo (upper k) c) (c : Fin 1024) :
    k0_pay9 v (k0_pay8 x on w1) w2 (ix2 e c) = residual W R c := by
  pointwise [k0_pay9, k0_pay8]
  simp only [hv, hx, hon, h1, h2]
  rfl

/-- The grid point begins a sequence exactly where its number is a multiple of sixteen. -/
theorem v10_eq (i : grid0.Coords) : kernelRun0_A.sl.v10 i = if (i 0).val % 16 = 0 then 1#1 else 0#1 := by
  have h : ∀ t : Fin 32, kernelRun0_A.sl.v10 (fun a => match a with | ⟨0, _⟩ => t) = if t.val % 16 = 0 then 1#1 else 0#1 := by
    decide +kernel
  have hi : i = fun a => match a with | ⟨0, _⟩ => i 0 := by
    funext a
    match a with
    | ⟨0, _⟩ => rfl
  rw [hi]
  exact h (i 0)

/-- The hidden rows that the body keeps: the root-mean-square norm of the residual, with the halo rows zero where a
    sequence begins. -/
theorem pay11_apply (W : Weights) (p : ℕ) (R : Row) (v : FVec Ideal S528x512 .f32) (x : FVec Ideal S528x1024 .f32)
    (w2 : FVec Ideal S512x1024 .bf16) (g : FVec Ideal S1x1024 .f32) (e : Fin 528)
    (h9 : ∀ c, k0_pay9 v x w2 (ix2 e c) = residual W R c) (hg : ∀ c, g (ix2 0 c) = W.g2 c) (c : Fin 1024) :
    k0_pay11 (if p % 16 = 0 then 1#1 else 0#1) v x w2 g (ix2 e c)
      = if p % 16 = 0 ∧ e.val < 16 then 0 else hidden W R c := by
  pointwise [k0_pay11]
  simp only [h9, hg]
  have he : ∀ e : Fin 528, IntOp.cmpi CmpIPredicate.slt (BitVec.ofNat 32 e.val) 16#32 = if e.val < 16 then 1#1 else 0#1 := by
    decide +kernel
  rw [he e]
  by_cases h1 : p % 16 = 0 <;> by_cases h2 : e.val < 16 <;> simp only [h1, h2, if_true, if_false, and_true, and_false,
    true_and, false_and, and_self] <;> rfl

/-- The output row: the residual plus the down-projection. -/
theorem pay1_apply (x : FVec Ideal S512x1024 .f32) (a : FVec Ideal S512x2816 .bf16) (w : FVec Ideal S2816x1024 .bf16)
    (r : Fin 512) (c : Fin 1024) :
    k0_pay1 (F := Ideal) x a w (ix2 r c) = x (ix2 r c) + ∑ f : Fin 2816, a (ix2 r f) * w (ix2 f c) := by
  pointwise [k0_pay1]

/-- Row `e` of the hidden rows at grid point `p`. -/
def hiddenAt (W : Weights) (p : ℕ) (T : Fin 528 → Row) (e : Fin 528) (c : Fin 1024) : EReal :=
  if p % 16 = 0 ∧ e.val < 16 then 0 else hidden W (T e) c

/-- The up-projection of the hidden rows' scratch is that of the hidden rows. -/
theorem up_apply (W : Weights) (E : S528x1024.Idx → EReal) (T : Fin 528 → Row) (p : ℕ) (hE : ∀ e k, E (ix2 e k) = hiddenAt W p T e k)
    (w : S1024x2816.Idx → EReal) (col : Fin 2816 → Fin 5632) (hw : ∀ k f, w (ix2 k f) = W.wu k (col f)) (e : Fin 528)
    (f : Fin 2816) : up E w e f = upProj W (hiddenAt W p T e) (col f) := by
  unfold up upProj
  exact Finset.sum_congr rfl fun k _ => by rw [hE, hw]

section
variable (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S16x1024 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S3x2816 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x2816 .f32) (harg21 : arg21.IsWhole) (arg22 : Memref sig .tc .vmem S2816x1024 .bf16) (harg22 : arg22.IsWhole) (arg23 : Memref sig .tc .vmem S512x1024 .f32) (harg23 : arg23.IsWhole) (arg24 : Memref sig .tc .vmem S528x1024 .bf16) (harg24 : arg24.IsWhole) (arg25 : Memref sig .tc .vmem S2x528x256 .f32) (harg25 : arg25.IsWhole) (arg26 : Memref sig .tc .vmem S2x528x256 .f32) (harg26 : arg26.IsWhole) (arg27 : Memref sig .tc .vmem S512x2816 .bf16) (harg27 : arg27.IsWhole) (arg28 : Memref sig .tc .vmem S512x1024 .f32) (harg28 : arg28.IsWhole)
    (x0 : Vec Ideal S512x1024 .f32) (x1 : Vec Ideal S512x512 .f32) (x2 : Vec Ideal S512x512 .f32) (x3 : Vec Ideal S512x512 .f32) (x4 : Vec Ideal S512x512 .f32) (x5 : Vec Ideal S16x1024 .f32) (x6 : Vec Ideal S16x512 .f32) (x7 : Vec Ideal S16x512 .f32) (x8 : Vec Ideal S16x512 .f32) (x9 : Vec Ideal S16x512 .f32) (x10 : Vec Ideal S512x512 .bf16) (x11 : Vec Ideal S1x512 .f32) (x12 : Vec Ideal S1x512 .f32) (x13 : Vec Ideal S1024x1024 .bf16) (x14 : Vec Ideal S1x1024 .f32) (x15 : Vec Ideal S1024x2816 .bf16) (x16 : Vec Ideal S1024x2816 .bf16) (x17 : Vec Ideal S3x2816 .f32) (x18 : Vec Ideal S3x2816 .f32) (x19 : Vec Ideal S1x2816 .f32) (x20 : Vec Ideal S1x2816 .f32) (x21 : Vec Ideal S2816x1024 .bf16)
  (W : Weights) (hW : Holds W x10 x11 x12 x13 x14 x15 x16 x17 x18 x19 x20 x21)

include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 W hW

/-- The gated recurrence rows, halo and tile. -/
theorem r_apply (e : Fin 528) (j : Fin 512) :
    kernelRun0_A.sl.r (F := Ideal) c arg3 harg3 arg4 harg4 arg5 harg5 arg8 harg8 arg9 harg9 arg10 harg10 arg11 harg11 arg12 harg12 arg13 harg13 x2 x3 x4 x7 x8 x9 x10 x11 x12 (ix2 e j) = gated W (extRow x0 x1 x2 x3 x4 x5 x6 x7 x8 x9 e) j := by
  simp only [kernelRun0_A.sl.r, View.readAt_eq_ld, Memref.IsWhole.read_unread]
  refine pay7_apply W _ _ _ _ _ _ _ _ e ?_ ?_ ?_ ?_ ?_ ?_ j
  · intro k
    simp only [kernelRun0_A.sl.v25, kernelRun0_A.sl.v22, kernelRun0_A.sl.v24, View.readAt_eq_ld, Memref.IsWhole.read_unread]
    pointwise [extRow, stack]
  · intro k
    simp only [kernelRun0_A.sl.v30, kernelRun0_A.sl.v27, kernelRun0_A.sl.v29, View.readAt_eq_ld, Memref.IsWhole.read_unread]
    pointwise [extRow, stack]
  · intro k
    simp only [kernelRun0_A.sl.v32, View.readAt_eq_ld, Memref.IsWhole.read_unread]
    pointwise [extRow, stack]
  · intro k j
    pointwise [hW.bd]
  · intro j
    pointwise [hW.lnw]
  · intro j
    pointwise [hW.lnb]

/-- The residual rows, halo and tile. -/
theorem residual_apply (e : Fin 528) (c' : Fin 1024) :
    k0_pay9 (kernelRun0_A.sl.r (F := Ideal) c arg3 harg3 arg4 harg4 arg5 harg5 arg8 harg8 arg9 harg9 arg10 harg10 arg11 harg11 arg12 harg12 arg13 harg13 x2 x3 x4 x7 x8 x9 x10 x11 x12) (kernelRun0_A.sl.r_1 (F := Ideal) c arg1 harg1 arg2 harg2 arg6 harg6 arg7 harg7 arg14 harg14 x0 x1 x5 x6 x13)
        (View.ld x13 (Rect.unit (s := S1024x1024) ![512, 0] S512x1024.size inb_S1024x1024_S512x1024_512_0)) (ix2 e c')
      = residual W (extRow x0 x1 x2 x3 x4 x5 x6 x7 x8 x9 e) c' := by
  simp only [kernelRun0_A.sl.r_1, View.readAt_eq_ld, Memref.IsWhole.read_unread]
  refine pay9_apply W _ _ _ _ _ _ e (fun k => r_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 W hW e k) ?_ ?_ ?_ ?_ c'
  · intro k
    simp only [kernelRun0_A.sl.v15, kernelRun0_A.sl.v12, kernelRun0_A.sl.v14, View.readAt_eq_ld, Memref.IsWhole.read_unread]
    pointwise [extRow, stack]
  · intro k
    simp only [kernelRun0_A.sl.v20, kernelRun0_A.sl.v17, kernelRun0_A.sl.v19, View.readAt_eq_ld, Memref.IsWhole.read_unread]
    pointwise [extRow, stack]
  · intro k c
    pointwise [hW.wo]
    rfl
  · intro k c
    pointwise [hW.wo]
    rfl

/-- The residual tile that the body keeps for the last sum. -/
theorem x1_apply (r : Fin 512) (c' : Fin 1024) :
    kernelRun0_A.sl.v867 (F := Ideal) c arg1 harg1 arg2 harg2 arg3 harg3 arg4 harg4 arg5 harg5 arg6 harg6 arg7 harg7 arg8 harg8 arg9 harg9 arg10 harg10 arg11 harg11 arg12 harg12 arg13 harg13 arg14 harg14 arg28 x0 x1 x2 x3 x4 x5 x6 x7 x8 x9 x10 x11 x12 x13 (ix2 r c')
      = residual W (extRow x0 x1 x2 x3 x4 x5 x6 x7 x8 x9 ⟨16 + r.val, by omega⟩) c' := by
  unfold kernelRun0_A.sl.v867 kernelRun0_A.sl.HS4_1
  rw [View.readCov_cons_unit_lit' _ _ _ _ _ (by decide) (by decide)]
  simp only [View.readAt_eq_ld, Memref.IsWhole.read_unread]
  rw [← residual_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 W hW]
  pointwise [k0_pay10]

/-- The hidden rows that the body keeps in its first scratch. -/
theorem hidden_apply (e : Fin 528) (c' : Fin 1024) :
    kernelRun0_A.sl.v108 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg24 x0 x1 x2 x3 x4 x5 x6 x7 x8 x9 x10 x11 x12 x13 x14 (ix2 e c')
      = hiddenAt W (i 0).val (extRow x0 x1 x2 x3 x4 x5 x6 x7 x8 x9) e c' := by
  unfold kernelRun0_A.sl.v108 kernelRun0_A.sl.HS0_1
  rw [View.readCov_cons_unit_lit' _ _ _ _ _ (by decide) (by decide), v10_eq]
  simp only [View.readAt_eq_ld, Memref.IsWhole.read_unread]
  refine pay11_apply W _ _ _ _ _ _ e (fun k => residual_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 W hW e k) ?_ c'
  intro c
  pointwise [hW.g2]

/-- The activation scratch, loaded whole. -/
theorem act_apply (r : Fin 512) (f : Fin 2816) :
    kernelRun0_A.sl.v868 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg24 arg25 arg26 arg27 x0 x1 x2 x3 x4 x5 x6 x7 x8 x9 x10 x11 x12 x13 x14 x15 x16 x17 x18 x19 x20 (ix2 r f)
      = activation W (hiddenAt W (i 0).val (extRow x0 x1 x2 x3 x4 x5 x6 x7 x8 x9) ⟨14 + r.val, by omega⟩)
          (hiddenAt W (i 0).val (extRow x0 x1 x2 x3 x4 x5 x6 x7 x8 x9) ⟨15 + r.val, by omega⟩)
          (hiddenAt W (i 0).val (extRow x0 x1 x2 x3 x4 x5 x6 x7 x8 x9) ⟨16 + r.val, by omega⟩) f := by
  have hp := act_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 (kernelRun0_A.sl.v108 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg24 x0 x1 x2 x3 x4 x5 x6 x7 x8 x9 x10 x11 x12 x13 x14) rfl
    (fun z => actEntry (kernelRun0_A.sl.v108 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg24 x0 x1 x2 x3 x4 x5 x6 x7 x8 x9 x10 x11 x12 x13 x14) x15 x16 x17 x18 x19 x20 (z 0) (z 1)) (fun _ _ => rfl)
  have hc := View.cover_of_tiledL (kernelRun0_A.sl.HS3_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg24 arg25 arg26 x0 x1 x2 x3 x4 x5 x6 x7 x8 x9 x10 x11 x12 x13 x14 x15 x16 x17 x18 x19 x20) S512x256.size (by sl_kernel_rfl)
  unfold kernelRun0_A.sl.v868
  rw [View.readCov_eq_canon_ld _ _ _ hc, View.ld_unit_lit _ _ (by decide)]
  have h0 := View.canon_append_of_piecesOf _ [] _ hp (ix2 r f) (hc _)
  rw [List.append_nil] at h0
  rw [h0]
  have hE := hidden_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 W hW
  generalize kernelRun0_A.sl.v108 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg24 x0 x1 x2 x3 x4 x5 x6 x7 x8 x9 x10 x11 x12 x13 x14 = E at hE
  show swish (taps E x16 x18 x20 r f) (taps E x15 x17 x19 r f) = _
  unfold activation taps filtered
  simp only [up_apply W E _ _ hE x15 valueCol hW.wv, up_apply W E _ _ hE x16 gateCol hW.wg, hW.cwv, hW.cwg, hW.cbv, hW.cbg]

/-- THE BLOCK: what the body leaves in its output block at row `r` and channel `c'`. -/
theorem block_apply (r : Fin 512) (c' : Fin 1024) :
    out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 (ix2 r c')
      = outRow W (extRow x0 x1 x2 x3 x4 x5 x6 x7 x8 x9 ⟨16 + r.val, by omega⟩)
          (hiddenAt W (i 0).val (extRow x0 x1 x2 x3 x4 x5 x6 x7 x8 x9) ⟨14 + r.val, by omega⟩)
          (hiddenAt W (i 0).val (extRow x0 x1 x2 x3 x4 x5 x6 x7 x8 x9) ⟨15 + r.val, by omega⟩)
          (hiddenAt W (i 0).val (extRow x0 x1 x2 x3 x4 x5 x6 x7 x8 x9) ⟨16 + r.val, by omega⟩) c' := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21)]
  unfold kernelRun0_A
  dsimp only
  rw [View.canon_cons_unit_lit' _ _ _ (by decide)]
  simp only [View.readAt_eq_ld, Memref.IsWhole.read_unread]
  rw [View.ld_unit_lit _ _ (by decide), pay1_apply, x1_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 W hW]
  unfold outRow
  congr 1
  refine Finset.sum_congr rfl fun f _ => ?_
  rw [act_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 W hW, hW.wd]

end

end Cert.Proof.FfnBlock

end
-- ==== Proof.FfnInputs.lean ====
/-
  The layer's weights and token rows, read off the arrays as the programs receive them.
-/
module

public import proofs.«01_k».proof.Proof.FfnSpec
public import Idealize.ShloMosaic.Lib.Pipeline.ValueKit

@[expose] public section

noncomputable section

namespace Cert.Proof.FfnSpec

open Idealize.ShloMosaic

/-- A matrix of extended reals. -/
abbrev Mat (a b : ℕ) := (⟨2, ![a, b]⟩ : Shape).Idx → EReal
/-- A three-dimensional array of extended reals. -/
abbrev Box (a b c : ℕ) := (⟨3, ![a, b, c]⟩ : Shape).Idx → EReal

/-- The weights held by the eight weight arrays. -/
def weightsOf (lnw lnb : Mat 1 512) (wo : Box 1 1024 1024) (g2 : Mat 1 1024) (wu : Box 1 1024 5632) (cw : Box 1 3 5632)
    (cb : Mat 1 5632) (wd : Box 1 2816 1024) : Weights where
  lnw j := lnw (ix2 0 j)
  lnb j := lnb (ix2 0 j)
  wo k c := wo (ix3 0 k c)
  g2 c := g2 (ix2 0 c)
  wu k f := wu (ix3 0 k f)
  cw t f := cw (ix3 0 t f)
  cb f := cb (ix2 0 f)
  wd f c := wd (ix3 0 f c)

/-- Token `n` of a two-sequence array, the second sequence's tokens after the first's. -/
def token {d : ℕ} (a : Box 2 8192 d) (n : Fin 16384) (c : Fin d) : EReal :=
  a (ix3 ⟨n.val / 8192, by omega⟩ ⟨n.val % 8192, by omega⟩ c)

/-- The token rows held by the five token arrays. -/
def rowsOf (x : Box 2 8192 1024) (on y bonus g : Box 2 8192 512) (n : Fin 16384) : Row where
  x := token x n
  on := token on n
  y := token y n
  bonus := token bonus n
  g := token g n

end Cert.Proof.FfnSpec

end
-- ==== Proof.FfnHost.lean ====
/-
  What the arrays staged by the `FfnIdeal` kernel hold when it is launched, entry by entry, in terms of the arguments.
-/
module

public import proofs.«01_k».proof.Proof.FfnIdeal.Value
public import proofs.«01_k».proof.Proof.FfnInputs
public import Idealize.ShloMosaic.Lib.StableHlo.RunRead

@[expose] public section

set_option maxRecDepth 65536
set_option maxHeartbeats 4000000

noncomputable section

namespace Cert.Proof.FfnHost

open Idealize.ShloMosaic Idealize.ShloMosaic.TcCoe Idealize.SL.Sem
open Cert.FfnIdeal Cert.FfnIdeal.Gen
open Cert.Proof.FfnSpec

/-- A lane number divided by 64 the way the host computes it: the truncated quotient, less one where signs differ and
    a remainder is left. -/
theorem floorDiv64 : ∀ k : Fin 512,
    Scalar.select
      (IntOp.andi
        (IntOp.cmpi CmpIPredicate.ne
          (if BitVec.ofNat 32 k.val = 0 then (0 : BitVec 32) else if (BitVec.ofNat 32 k.val).msb = true then -1 else 1)
          (if 64#32 = 0 then (0 : BitVec 32) else if BitVec.msb 64#32 = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  decide +kernel

/-- Head numbers as words are equal exactly where the heads are. -/
theorem cmp_head : ∀ a b : Fin 8, IntOp.cmpi CmpIPredicate.eq (BitVec.ofNat 32 a.val) (BitVec.ofNat 32 b.val)
    = if a.val = b.val then 1#1 else 0#1 := by
  decide +kernel

variable (m : (ℓ : Loc nD τ sig) → Buf (Elt Ideal) ℓ) (c : Dev nD)

/-- The head mask: one where two lanes belong to the same head. -/
theorem V_bd (k j : Fin 512) : V m c main_v8 (ix2 k j) = sameHead k j := by
  unfold_abbrev_sides
  simp only [List.flatten_cons, List.flatten_nil, List.append_nil, List.cons_append, List.nil_append]
  after_reads_simp
  simp only [StableHlo.TRef.ofBuf, StableHlo.TRef.toBuf, cast_eq]
  pointwise
  have hc : id (constantI S_ 32 64#32) ix0 = 64#32 := rfl
  simp only [hc]
  rw [floorDiv64 k, floorDiv64 j]
  have hh := cmp_head ⟨k.val / 64, by omega⟩ ⟨j.val / 64, by omega⟩
  simp only at hh
  rw [hh, sameHead]
  by_cases h : k.val / 64 = j.val / 64 <;> simp only [h, if_true, if_false] <;>
    simp [FloatOps.uitofp]

/-- The token rows of the first argument. -/
theorem V_x (n : Fin 16384) (j : Fin 1024) : V m c main_v11 (ix2 n j) = token (m ((c : Thread nD τ).loc main_arg0)) n j := by
  unfold_abbrev_sides
  simp only [List.flatten_cons, List.flatten_nil, List.append_nil, List.cons_append, List.nil_append]
  after_reads_simp
  pointwise [token]

/-- The token rows of the second argument. -/
theorem V_on (n : Fin 16384) (j : Fin 512) : V m c main_v12 (ix2 n j) = token (m ((c : Thread nD τ).loc main_arg1)) n j := by
  unfold_abbrev_sides
  simp only [List.flatten_cons, List.flatten_nil, List.append_nil, List.cons_append, List.nil_append]
  after_reads_simp
  pointwise [token]

/-- The token rows of the third argument. -/
theorem V_y (n : Fin 16384) (j : Fin 512) : V m c main_v13 (ix2 n j) = token (m ((c : Thread nD τ).loc main_arg2)) n j := by
  unfold_abbrev_sides
  simp only [List.flatten_cons, List.flatten_nil, List.append_nil, List.cons_append, List.nil_append]
  after_reads_simp
  pointwise [token]

/-- The token rows of the fourth argument. -/
theorem V_bonus (n : Fin 16384) (j : Fin 512) : V m c main_v14 (ix2 n j) = token (m ((c : Thread nD τ).loc main_arg3)) n j := by
  unfold_abbrev_sides
  simp only [List.flatten_cons, List.flatten_nil, List.append_nil, List.cons_append, List.nil_append]
  after_reads_simp
  pointwise [token]

/-- The token rows of the fifth argument. -/
theorem V_g (n : Fin 16384) (j : Fin 512) : V m c main_v15 (ix2 n j) = token (m ((c : Thread nD τ).loc main_arg4)) n j := by
  unfold_abbrev_sides
  simp only [List.flatten_cons, List.flatten_nil, List.append_nil, List.cons_append, List.nil_append]
  after_reads_simp
  pointwise [token]

/-- The head normalisation's gain. -/
theorem V_lnw (j : Fin 512) : V m c main_v17 (ix2 0 j) = m ((c : Thread nD τ).loc main_arg5) (ix2 0 j) := by
  unfold_abbrev_sides
  simp only [List.flatten_cons, List.flatten_nil, List.append_nil, List.cons_append, List.nil_append]
  after_reads_simp
  pointwise

/-- The head normalisation's offset. -/
theorem V_lnb (j : Fin 512) : V m c main_v19 (ix2 0 j) = m ((c : Thread nD τ).loc main_arg6) (ix2 0 j) := by
  unfold_abbrev_sides
  simp only [List.flatten_cons, List.flatten_nil, List.append_nil, List.cons_append, List.nil_append]
  after_reads_simp
  pointwise

/-- The out-projection. -/
theorem V_wo (n : Fin 1024) (j : Fin 1024) : V m c main_v21 (ix2 n j) = m ((c : Thread nD τ).loc main_arg7) (ix3 0 n j) := by
  unfold_abbrev_sides
  simp only [List.flatten_cons, List.flatten_nil, List.append_nil, List.cons_append, List.nil_append]
  after_reads_simp
  pointwise

/-- The second norm's gain. -/
theorem V_g2 (j : Fin 1024) : V m c main_v23 (ix2 0 j) = m ((c : Thread nD τ).loc main_arg8) (ix2 0 j) := by
  unfold_abbrev_sides
  simp only [List.flatten_cons, List.flatten_nil, List.append_nil, List.cons_append, List.nil_append]
  after_reads_simp
  pointwise

/-- The up-projection's value columns. -/
theorem V_wv (n : Fin 1024) (j : Fin 2816) : V m c main_v24 (ix2 n j) = m ((c : Thread nD τ).loc main_arg9) (ix3 0 n (valueCol j)) := by
  unfold_abbrev_sides
  simp only [List.flatten_cons, List.flatten_nil, List.append_nil, List.cons_append, List.nil_append]
  after_reads_simp
  pointwise [valueCol]

/-- The up-projection's gate columns. -/
theorem V_wg (n : Fin 1024) (j : Fin 2816) : V m c main_v25 (ix2 n j) = m ((c : Thread nD τ).loc main_arg9) (ix3 0 n (gateCol j)) := by
  unfold_abbrev_sides
  simp only [List.flatten_cons, List.flatten_nil, List.append_nil, List.cons_append, List.nil_append]
  after_reads_simp
  pointwise [gateCol]

/-- The filter's value columns. -/
theorem V_cwv (n : Fin 3) (j : Fin 2816) : V m c main_v27 (ix2 n j) = m ((c : Thread nD τ).loc main_arg10) (ix3 0 n (valueCol j)) := by
  unfold_abbrev_sides
  simp only [List.flatten_cons, List.flatten_nil, List.append_nil, List.cons_append, List.nil_append]
  after_reads_simp
  pointwise [valueCol]

/-- The filter's gate columns. -/
theorem V_cwg (n : Fin 3) (j : Fin 2816) : V m c main_v29 (ix2 n j) = m ((c : Thread nD τ).loc main_arg10) (ix3 0 n (gateCol j)) := by
  unfold_abbrev_sides
  simp only [List.flatten_cons, List.flatten_nil, List.append_nil, List.cons_append, List.nil_append]
  after_reads_simp
  pointwise [gateCol]

/-- The filter's offset in the value columns. -/
theorem V_cbv (j : Fin 2816) : V m c main_v32 (ix2 0 j) = m ((c : Thread nD τ).loc main_arg11) (ix2 0 (valueCol j)) := by
  unfold_abbrev_sides
  simp only [List.flatten_cons, List.flatten_nil, List.append_nil, List.cons_append, List.nil_append]
  after_reads_simp
  pointwise [valueCol]

/-- The filter's offset in the gate columns. -/
theorem V_cbg (j : Fin 2816) : V m c main_v35 (ix2 0 j) = m ((c : Thread nD τ).loc main_arg11) (ix2 0 (gateCol j)) := by
  unfold_abbrev_sides
  simp only [List.flatten_cons, List.flatten_nil, List.append_nil, List.cons_append, List.nil_append]
  after_reads_simp
  pointwise [gateCol]

/-- The down-projection. -/
theorem V_wd (n : Fin 2816) (j : Fin 1024) : V m c main_v37 (ix2 n j) = m ((c : Thread nD τ).loc main_arg12) (ix3 0 n j) := by
  unfold_abbrev_sides
  simp only [List.flatten_cons, List.flatten_nil, List.append_nil, List.cons_append, List.nil_append]
  after_reads_simp
  pointwise

end Cert.Proof.FfnHost

end
-- ==== Proof.FfnArray.lean ====
/-
  The array that the `FfnIdeal` kernel leaves: token by token it is the layer's output row. The staged blocks are read off
  the arguments, the halo blocks being the sixteen rows before the tile.
-/
module

public import proofs.«01_k».proof.Proof.FfnBlock
public import proofs.«01_k».proof.Proof.FfnHost

@[expose] public section

set_option maxRecDepth 65536
set_option maxHeartbeats 4000000

noncomputable section

namespace Cert.Proof.FfnArray

open Idealize.ShloMosaic Idealize.ShloMosaic.TcCoe Idealize.SL.Sem
open Cert.FfnIdeal Cert.FfnIdeal.Gen
open Cert.Proof.FfnSpec Cert.Proof.FfnBlock Cert.Proof.FfnHost

/-- Window 0 moves down one tile per grid point. -/
theorem index0 : ∀ t : Fin cfg0.N, win0_0.index t = ![t.val, 0] := by decide +kernel
/-- Window 1 moves down one tile per grid point. -/
theorem index1 : ∀ t : Fin cfg0.N, win0_1.index t = ![t.val, 0] := by decide +kernel
/-- Window 2 moves down one tile per grid point. -/
theorem index2 : ∀ t : Fin cfg0.N, win0_2.index t = ![t.val, 0] := by decide +kernel
/-- Window 3 moves down one tile per grid point. -/
theorem index3 : ∀ t : Fin cfg0.N, win0_3.index t = ![t.val, 0] := by decide +kernel
/-- Window 4 moves down one tile per grid point. -/
theorem index4 : ∀ t : Fin cfg0.N, win0_4.index t = ![t.val, 0] := by decide +kernel
/-- Window 22 moves down one tile per grid point. -/
theorem index22 : ∀ t : Fin cfg0.N, win0_22.index t = ![t.val, 0] := by decide +kernel
/-- Window 5 is the sixteen rows before the tile, or the first sixteen. -/
theorem index5 : ∀ t : Fin cfg0.N, win0_5.index t = ![32 * t.val - 1, 0] := by decide +kernel
/-- Window 6 is the sixteen rows before the tile, or the first sixteen. -/
theorem index6 : ∀ t : Fin cfg0.N, win0_6.index t = ![32 * t.val - 1, 0] := by decide +kernel
/-- Window 7 is the sixteen rows before the tile, or the first sixteen. -/
theorem index7 : ∀ t : Fin cfg0.N, win0_7.index t = ![32 * t.val - 1, 0] := by decide +kernel
/-- Window 8 is the sixteen rows before the tile, or the first sixteen. -/
theorem index8 : ∀ t : Fin cfg0.N, win0_8.index t = ![32 * t.val - 1, 0] := by decide +kernel
/-- Window 9 is the sixteen rows before the tile, or the first sixteen. -/
theorem index9 : ∀ t : Fin cfg0.N, win0_9.index t = ![32 * t.val - 1, 0] := by decide +kernel
/-- Window 10 is its whole array. -/
theorem index10 : ∀ t : Fin cfg0.N, win0_10.index t = ![0, 0] := by decide +kernel
/-- Window 11 is its whole array. -/
theorem index11 : ∀ t : Fin cfg0.N, win0_11.index t = ![0, 0] := by decide +kernel
/-- Window 12 is its whole array. -/
theorem index12 : ∀ t : Fin cfg0.N, win0_12.index t = ![0, 0] := by decide +kernel
/-- Window 13 is its whole array. -/
theorem index13 : ∀ t : Fin cfg0.N, win0_13.index t = ![0, 0] := by decide +kernel
/-- Window 14 is its whole array. -/
theorem index14 : ∀ t : Fin cfg0.N, win0_14.index t = ![0, 0] := by decide +kernel
/-- Window 15 is its whole array. -/
theorem index15 : ∀ t : Fin cfg0.N, win0_15.index t = ![0, 0] := by decide +kernel
/-- Window 16 is its whole array. -/
theorem index16 : ∀ t : Fin cfg0.N, win0_16.index t = ![0, 0] := by decide +kernel
/-- Window 17 is its whole array. -/
theorem index17 : ∀ t : Fin cfg0.N, win0_17.index t = ![0, 0] := by decide +kernel
/-- Window 18 is its whole array. -/
theorem index18 : ∀ t : Fin cfg0.N, win0_18.index t = ![0, 0] := by decide +kernel
/-- Window 19 is its whole array. -/
theorem index19 : ∀ t : Fin cfg0.N, win0_19.index t = ![0, 0] := by decide +kernel
/-- Window 20 is its whole array. -/
theorem index20 : ∀ t : Fin cfg0.N, win0_20.index t = ![0, 0] := by decide +kernel
/-- Window 21 is its whole array. -/
theorem index21 : ∀ t : Fin cfg0.N, win0_21.index t = ![0, 0] := by decide +kernel
/-- The grid has one axis. -/
theorem coord : ∀ t : Fin cfg0.N, (grid0.coords t 0).val = t.val := by decide +kernel

variable (m : (ℓ : Loc nD τ sig) → Buf (Elt Ideal) ℓ) (c : Dev nD)

/-- A tile's entry. -/
theorem iblk_0 (t : Fin cfg0.N) (r : Fin 512) (j : Fin 1024) (n : Fin 16384) (h : n.val = 512 * t.val + r.val) :
    iblk m c 0 t (ix2 r j) = V m c main_v11 (ix2 n j) := by
  blk_simp [iblk, index0]
  refine congrArg (V m c main_v11) ?_
  blk_ext [index0]
/-- A tile's entry. -/
theorem iblk_1 (t : Fin cfg0.N) (r : Fin 512) (j : Fin 512) (n : Fin 16384) (h : n.val = 512 * t.val + r.val) :
    iblk m c 1 t (ix2 r j) = V m c main_v12 (ix2 n j) := by
  blk_simp [iblk, index1]
  refine congrArg (V m c main_v12) ?_
  blk_ext [index1]
/-- A tile's entry. -/
theorem iblk_2 (t : Fin cfg0.N) (r : Fin 512) (j : Fin 512) (n : Fin 16384) (h : n.val = 512 * t.val + r.val) :
    iblk m c 2 t (ix2 r j) = V m c main_v13 (ix2 n j) := by
  blk_simp [iblk, index2]
  refine congrArg (V m c main_v13) ?_
  blk_ext [index2]
/-- A tile's entry. -/
theorem iblk_3 (t : Fin cfg0.N) (r : Fin 512) (j : Fin 512) (n : Fin 16384) (h : n.val = 512 * t.val + r.val) :
    iblk m c 3 t (ix2 r j) = V m c main_v14 (ix2 n j) := by
  blk_simp [iblk, index3]
  refine congrArg (V m c main_v14) ?_
  blk_ext [index3]
/-- A tile's entry. -/
theorem iblk_4 (t : Fin cfg0.N) (r : Fin 512) (j : Fin 512) (n : Fin 16384) (h : n.val = 512 * t.val + r.val) :
    iblk m c 4 t (ix2 r j) = V m c main_v15 (ix2 n j) := by
  blk_simp [iblk, index4]
  refine congrArg (V m c main_v15) ?_
  blk_ext [index4]
/-- A halo's entry. -/
theorem iblk_5 (t : Fin cfg0.N) (r : Fin 16) (j : Fin 1024) (n : Fin 16384) (h : n.val = 16 * (32 * t.val - 1) + r.val) :
    iblk m c 5 t (ix2 r j) = V m c main_v11 (ix2 n j) := by
  blk_simp [iblk, index5]
  refine congrArg (V m c main_v11) ?_
  blk_ext [index5]
/-- A halo's entry. -/
theorem iblk_6 (t : Fin cfg0.N) (r : Fin 16) (j : Fin 512) (n : Fin 16384) (h : n.val = 16 * (32 * t.val - 1) + r.val) :
    iblk m c 6 t (ix2 r j) = V m c main_v12 (ix2 n j) := by
  blk_simp [iblk, index6]
  refine congrArg (V m c main_v12) ?_
  blk_ext [index6]
/-- A halo's entry. -/
theorem iblk_7 (t : Fin cfg0.N) (r : Fin 16) (j : Fin 512) (n : Fin 16384) (h : n.val = 16 * (32 * t.val - 1) + r.val) :
    iblk m c 7 t (ix2 r j) = V m c main_v13 (ix2 n j) := by
  blk_simp [iblk, index7]
  refine congrArg (V m c main_v13) ?_
  blk_ext [index7]
/-- A halo's entry. -/
theorem iblk_8 (t : Fin cfg0.N) (r : Fin 16) (j : Fin 512) (n : Fin 16384) (h : n.val = 16 * (32 * t.val - 1) + r.val) :
    iblk m c 8 t (ix2 r j) = V m c main_v14 (ix2 n j) := by
  blk_simp [iblk, index8]
  refine congrArg (V m c main_v14) ?_
  blk_ext [index8]
/-- A halo's entry. -/
theorem iblk_9 (t : Fin cfg0.N) (r : Fin 16) (j : Fin 512) (n : Fin 16384) (h : n.val = 16 * (32 * t.val - 1) + r.val) :
    iblk m c 9 t (ix2 r j) = V m c main_v15 (ix2 n j) := by
  blk_simp [iblk, index9]
  refine congrArg (V m c main_v15) ?_
  blk_ext [index9]
/-- A weight's entry. -/
theorem iblk_10 (t : Fin cfg0.N) (r : Fin 512) (j : Fin 512) : iblk m c 10 t (ix2 r j) = V m c main_v8 (ix2 r j) := by
  blk_simp [iblk, index10]
  refine congrArg (V m c main_v8) ?_
  blk_ext [index10]
/-- A weight's entry. -/
theorem iblk_11 (t : Fin cfg0.N) (r : Fin 1) (j : Fin 512) : iblk m c 11 t (ix2 r j) = V m c main_v17 (ix2 r j) := by
  blk_simp [iblk, index11]
  refine congrArg (V m c main_v17) ?_
  blk_ext [index11]
/-- A weight's entry. -/
theorem iblk_12 (t : Fin cfg0.N) (r : Fin 1) (j : Fin 512) : iblk m c 12 t (ix2 r j) = V m c main_v19 (ix2 r j) := by
  blk_simp [iblk, index12]
  refine congrArg (V m c main_v19) ?_
  blk_ext [index12]
/-- A weight's entry. -/
theorem iblk_13 (t : Fin cfg0.N) (r : Fin 1024) (j : Fin 1024) : iblk m c 13 t (ix2 r j) = V m c main_v21 (ix2 r j) := by
  blk_simp [iblk, index13]
  refine congrArg (V m c main_v21) ?_
  blk_ext [index13]
/-- A weight's entry. -/
theorem iblk_14 (t : Fin cfg0.N) (r : Fin 1) (j : Fin 1024) : iblk m c 14 t (ix2 r j) = V m c main_v23 (ix2 r j) := by
  blk_simp [iblk, index14]
  refine congrArg (V m c main_v23) ?_
  blk_ext [index14]
/-- A weight's entry. -/
theorem iblk_15 (t : Fin cfg0.N) (r : Fin 1024) (j : Fin 2816) : iblk m c 15 t (ix2 r j) = V m c main_v24 (ix2 r j) := by
  blk_simp [iblk, index15]
  refine congrArg (V m c main_v24) ?_
  blk_ext [index15]
/-- A weight's entry. -/
theorem iblk_16 (t : Fin cfg0.N) (r : Fin 1024) (j : Fin 2816) : iblk m c 16 t (ix2 r j) = V m c main_v25 (ix2 r j) := by
  blk_simp [iblk, index16]
  refine congrArg (V m c main_v25) ?_
  blk_ext [index16]
/-- A weight's entry. -/
theorem iblk_17 (t : Fin cfg0.N) (r : Fin 3) (j : Fin 2816) : iblk m c 17 t (ix2 r j) = V m c main_v27 (ix2 r j) := by
  blk_simp [iblk, index17]
  refine congrArg (V m c main_v27) ?_
  blk_ext [index17]
/-- A weight's entry. -/
theorem iblk_18 (t : Fin cfg0.N) (r : Fin 3) (j : Fin 2816) : iblk m c 18 t (ix2 r j) = V m c main_v29 (ix2 r j) := by
  blk_simp [iblk, index18]
  refine congrArg (V m c main_v29) ?_
  blk_ext [index18]
/-- A weight's entry. -/
theorem iblk_19 (t : Fin cfg0.N) (r : Fin 1) (j : Fin 2816) : iblk m c 19 t (ix2 r j) = V m c main_v32 (ix2 r j) := by
  blk_simp [iblk, index19]
  refine congrArg (V m c main_v32) ?_
  blk_ext [index19]
/-- A weight's entry. -/
theorem iblk_20 (t : Fin cfg0.N) (r : Fin 1) (j : Fin 2816) : iblk m c 20 t (ix2 r j) = V m c main_v35 (ix2 r j) := by
  blk_simp [iblk, index20]
  refine congrArg (V m c main_v35) ?_
  blk_ext [index20]
/-- A weight's entry. -/
theorem iblk_21 (t : Fin cfg0.N) (r : Fin 2816) (j : Fin 1024) : iblk m c 21 t (ix2 r j) = V m c main_v37 (ix2 r j) := by
  blk_simp [iblk, index21]
  refine congrArg (V m c main_v37) ?_
  blk_ext [index21]

/-- The weights as the kernel is launched. -/
def weights : Weights := weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The token rows as the kernel is launched. -/
def rows : Fin 16384 → Row := rowsOf (m ((c : Thread nD τ).loc main_arg0)) (m ((c : Thread nD τ).loc main_arg1)) (m ((c : Thread nD τ).loc main_arg2)) (m ((c : Thread nD τ).loc main_arg3)) (m ((c : Thread nD τ).loc main_arg4))

/-- The staged weight blocks hold the weights at every grid point. -/
theorem holds (t : Fin cfg0.N) : Holds (weights m c) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) where
  bd k j := by rw [iblk_10, V_bd]
  lnw j := by rw [iblk_11, V_lnw]; rfl
  lnb j := by rw [iblk_12, V_lnb]; rfl
  wo k j := by rw [iblk_13, V_wo]; rfl
  g2 j := by rw [iblk_14, V_g2]; rfl
  wv k j := by rw [iblk_15, V_wv]; rfl
  wg k j := by rw [iblk_16, V_wg]; rfl
  cwv k j := by rw [iblk_17, V_cwv]; rfl
  cwg k j := by rw [iblk_18, V_cwg]; rfl
  cbv j := by rw [iblk_19, V_cbv]; rfl
  cbg j := by rw [iblk_20, V_cbg]; rfl
  wd k j := by rw [iblk_21, V_wd]; rfl

/-- The staged rows of a grid point, halo first. -/
abbrev staged (t : Fin cfg0.N) : Fin 528 → Row := extRow (iblk m c 0 t) (iblk m c 1 t) (iblk m c 2 t) (iblk m c 3 t) (iblk m c 4 t) (iblk m c 5 t) (iblk m c 6 t) (iblk m c 7 t) (iblk m c 8 t) (iblk m c 9 t)

/-- A staged row is the token it stands for: row `e` of point `t` is token `512 t + e - 16`, but for the halo of a
    sequence's first tile. -/
theorem staged_eq (t : Fin cfg0.N) (e : Fin 528) (n : Fin 16384) (hn : n.val + 16 = 512 * t.val + e.val)
    (_he : ¬ (t.val % 16 = 0 ∧ e.val < 16)) : staged m c t e = rows m c n := by
  unfold staged extRow rows rowsOf
  congr 1
  all_goals
    funext j
    unfold stack
    split
  · rw [iblk_5 m c t _ j n (by show n.val = 16 * (32 * t.val - 1) + e.val; omega), V_x]
  · rw [iblk_0 m c t _ j n (by show n.val = 512 * t.val + (e.val - 16); omega), V_x]
  · rw [iblk_6 m c t _ j n (by show n.val = 16 * (32 * t.val - 1) + e.val; omega), V_on]
  · rw [iblk_1 m c t _ j n (by show n.val = 512 * t.val + (e.val - 16); omega), V_on]
  · rw [iblk_7 m c t _ j n (by show n.val = 16 * (32 * t.val - 1) + e.val; omega), V_y]
  · rw [iblk_2 m c t _ j n (by show n.val = 512 * t.val + (e.val - 16); omega), V_y]
  · rw [iblk_8 m c t _ j n (by show n.val = 16 * (32 * t.val - 1) + e.val; omega), V_bonus]
  · rw [iblk_3 m c t _ j n (by show n.val = 512 * t.val + (e.val - 16); omega), V_bonus]
  · rw [iblk_9 m c t _ j n (by show n.val = 16 * (32 * t.val - 1) + e.val; omega), V_g]
  · rw [iblk_4 m c t _ j n (by show n.val = 512 * t.val + (e.val - 16); omega), V_g]

/-- A kept hidden row is that of the token it stands for, zero before a sequence's first token. -/
theorem hidden_eq (t : Fin cfg0.N) (r : Fin 512) (n : Fin 16384) (hn : n.val = 512 * t.val + r.val) (d : ℕ) (hd : d ≤ 2)
    (e : Fin 528) (he : e.val + d = 16 + r.val) :
    hiddenAt (weights m c) (grid0.coords t 0).val (staged m c t) e = back (weights m c) (rows m c) d n := by
  funext k
  unfold hiddenAt back
  rw [coord]
  by_cases h : t.val % 16 = 0 ∧ e.val < 16
  · rw [if_pos h, if_neg (by omega)]
  · rw [if_neg h, if_pos (by omega), staged_eq m c t e ⟨n.val - d, by omega⟩ (by show n.val - d + 16 = _; omega) h]

/-- The layer as an array. -/
def layerArray : S16384x1024.Idx → EReal := fun i => layer (weights m c) (rows m c) (i 0) (i 1)

/-- A block's entry stands at its tile's place. -/
theorem emb_out (t : Fin cfg0.N) (r : Fin 512) (j : Fin 1024) (n : Fin 16384) (h : n.val = 512 * t.val + r.val) :
    (win0_22.blk t).view.emb (ix2 r j) = ix2 n j := by
  blk_ext [index22]

/-- The output array after the run is the layer, token by token. -/
theorem array_eq : (dats m 0 c).arrAt 22 cfg0.N = layerArray m c := by
  refine (dats m 0 c).arrAt_eq_of_covers 22 _ (by decide +kernel) fun t hf y => ?_
  obtain ⟨r, j, rfl⟩ : ∃ (r : Fin 512) (j : Fin 1024), y = ix2 r j := ⟨y 0, y 1, by pointwise⟩
  blk_simp [index22]
  rw [after0_22]
  have ht : t.val < 32 := t.isLt
  rw [emb_out t r j ⟨512 * t.val + r.val, by omega⟩ rfl]
  unfold outsAt0
  rw [block_apply (W := weights m c) (hW := holds m c t)]
  rw [hidden_eq m c t r ⟨512 * t.val + r.val, by omega⟩ rfl 2 (by omega) _ (by show 14 + r.val + 2 = _; omega),
    hidden_eq m c t r ⟨512 * t.val + r.val, by omega⟩ rfl 1 (by omega) _ (by show 15 + r.val + 1 = _; omega),
    hidden_eq m c t r ⟨512 * t.val + r.val, by omega⟩ rfl 0 (by omega) _ (by show 16 + r.val + 0 = _; omega)]
  show outRow (weights m c) (staged m c t ⟨16 + r.val, by omega⟩) _ _ _ j = _
  rw [staged_eq m c t _ ⟨512 * t.val + r.val, by omega⟩ (by show _ = 512 * t.val + (16 + r.val); simp only; omega)
    (by simp only; omega)]
  rfl

end Cert.Proof.FfnArray

end
-- ==== Proof.FfnReference.lean ====
/-
  What the reference computes: its result array is the layer, token by token. Each lemma reads one stage of the reference
  at an entry.
-/
module

public import proofs.«01_k».proof.Proof.Gen.FfnRefIdeal.Read
public import proofs.«01_k».proof.Proof.FfnInputs
public import Idealize.ShloMosaic.Lib.Pointwise

@[expose] public section

set_option maxRecDepth 65536
set_option maxHeartbeats 4000000

noncomputable section

namespace Cert.Proof.FfnReference

open Idealize.ShloMosaic Idealize.ShloMosaic.TcCoe Idealize.SL.Sem
open Cert.FfnRefIdeal Cert.FfnRefIdeal.Read
open Cert.Proof.FfnSpec
open scoped BigOperators

/-- The number of lanes in a head. -/
theorem ofBits_64 : Ideal.ofBits .f32 0x42800000#32 = ((64 : ℝ) : EReal) := by
  simp [Ideal.ofBits, Ideal.ieee, -EReal.coe_mul]; norm_num

/-- Dividing by the number of lanes is multiplying by its inverse. -/
theorem div_64 (a : EReal) : Ideal.div a (Ideal.ofBits .f32 0x42800000#32) = a * ((1 / 64 : ℝ) : EReal) := by
  rw [ofBits_64]
  exact Ideal.div_coe (by norm_num) a

variable (x0 : Box 2 8192 1024) (x1 x2 x3 x4 : Box 2 8192 512) (x5 x6 : Mat 1 512) (x7 : Box 1 1024 1024) (x8 : Mat 1 1024)
  (x9 : Box 1 1024 5632) (x10 : Box 1 3 5632) (x11 : Mat 1 5632) (x12 : Box 1 2816 1024)

/-- The row of token `s` of sequence `b`. -/
def rowAt (b : Fin 2) (s : Fin 8192) : Row where
  x k := x0 (ix3 b s k)
  on k := x1 (ix3 b s k)
  y k := x2 (ix3 b s k)
  bonus k := x3 (ix3 b s k)
  g k := x4 (ix3 b s k)

/-- The recurrence's output normalised head by head. -/
theorem norm_apply (b : Fin 2) (s : Fin 8192) (j : Fin 512) :
    val_main_v19 (F := Ideal) x2 (ix3 b s j) = groupNorm (fun k => x2 (ix3 b s k)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1, val_main_cst_2, val_main_cst_3]
  simp only [div_64]
  have hd : ∀ k, dev (fun k => x2 (ix3 b s k)) (headLane j k) = x2 (ix3 b s (headLane j k)) - headMean (fun k => x2 (ix3 b s k)) j := by
    intro k
    unfold dev headMean
    rw [headSum_headLane]
  show _ = dev (fun k => x2 (ix3 b s k)) j * Ideal.rsqrt ((∑ k : Fin 64, dev (fun k => x2 (ix3 b s k)) (headLane j k)
    * dev (fun k => x2 (ix3 b s k)) (headLane j k)) * ((1 / 64 : ℝ) : EReal) + gnEps)
  simp only [hd]
  rfl

/-- … with gain, offset and bonus, gated. -/
theorem gated_apply (b : Fin 2) (s : Fin 8192) (j : Fin 512) :
    val_main_v29 (F := Ideal) x2 x3 x4 x5 x6 (ix3 b s j) = gated (weightsOf x5 x6 x7 x8 x9 x10 x11 x12) (rowAt x0 x1 x2 x3 x4 b s) j := by
  have h := norm_apply x2 b s j
  pointwise [val_main_v20, val_main_v21, val_main_v22, val_main_v23, val_main_v24, val_main_v25, val_main_v26, val_main_v27, val_main_v28, val_main_v29, gated, weightsOf, rowAt]
  rw [h]

/-- The attention's and the recurrence's rows side by side. -/
theorem cat_apply (b : Fin 2) (s : Fin 8192) (j : Fin 1024) :
    val_main_v30 (F := Ideal) x1 x2 x3 x4 x5 x6 (ix3 b s j)
      = if h : j.val < 512 then x1 (ix3 b s ⟨j.val, h⟩)
        else val_main_v29 (F := Ideal) x2 x3 x4 x5 x6 (ix3 b s ⟨j.val - 512, by omega⟩) := by
  pointwise [val_main_v30]

/-- The residual after the out-projection. -/
theorem residual_apply (b : Fin 2) (s : Fin 8192) (c : Fin 1024) :
    val_main_v33 (F := Ideal) x0 x1 x2 x3 x4 x5 x6 x7 (ix3 b s c) = residual (weightsOf x5 x6 x7 x8 x9 x10 x11 x12) (rowAt x0 x1 x2 x3 x4 b s) c := by
  have h := fun k => cat_apply x1 x2 x3 x4 x5 x6 b s k
  have hg := fun k => gated_apply x0 x1 x2 x3 x4 x5 x6 x7 x8 x9 x10 x11 x12 b s k
  pointwise [val_main_v31, val_main_v32, val_main_v33]
  unfold FfnSpec.residual
  rw [add_assoc]
  refine congrArg (x0 (ix3 b s c) + ·) ((Fin.sum_univ_add (a := 512) (b := 512) _).trans (congrArg₂ (· + ·) ?_ ?_))
  · refine Finset.sum_congr rfl fun k _ => ?_
    rw [h, dif_pos (show (Fin.castAdd 512 k).val < 512 from k.isLt)]
    rfl
  · refine Finset.sum_congr rfl fun k _ => ?_
    have hk : (Fin.natAdd 512 k).val = 512 + k.val := rfl
    rw [h, dif_neg (by omega)]
    have he : (⟨(Fin.natAdd 512 k).val - 512, by omega⟩ : Fin 512) = k := Fin.ext (by show 512 + k.val - 512 = k.val; omega)
    rw [he, hg]
    rfl

/-- The second norm. -/
theorem hidden_apply (b : Fin 2) (s : Fin 8192) (c : Fin 1024) :
    val_main_v47 (F := Ideal) x0 x1 x2 x3 x4 x5 x6 x7 x8 (ix3 b s c) = hidden (weightsOf x5 x6 x7 x8 x9 x10 x11 x12) (rowAt x0 x1 x2 x3 x4 b s) c := by
  have h := fun k => residual_apply x0 x1 x2 x3 x4 x5 x6 x7 x8 x9 x10 x11 x12 b s k
  pointwise [val_main_v34, val_main_v35, val_main_v36, val_main_v37, val_main_v38, val_main_v39, val_main_v40, val_main_v41, val_main_v42, val_main_v43, val_main_v44, val_main_v45, val_main_v46, val_main_v47, val_main_cst_4, val_main_cst_5, val_main_cst_6]
  simp only [h]
  rfl

/-- The up-projection. -/
theorem up_apply (b : Fin 2) (s : Fin 8192) (f : Fin 5632) :
    val_main_v49 (F := Ideal) x0 x1 x2 x3 x4 x5 x6 x7 x8 x9 (ix3 b s f) = upProj (weightsOf x5 x6 x7 x8 x9 x10 x11 x12) (hidden (weightsOf x5 x6 x7 x8 x9 x10 x11 x12) (rowAt x0 x1 x2 x3 x4 b s)) f := by
  have h := fun k => hidden_apply x0 x1 x2 x3 x4 x5 x6 x7 x8 x9 x10 x11 x12 b s k
  pointwise [val_main_v48, val_main_v49]
  simp only [h]
  rfl

/-- The hidden row `d` tokens back. -/
def prev (d : ℕ) (b : Fin 2) (s : Fin 8192) : Fin 1024 → EReal :=
  if h : d ≤ s.val then hidden (weightsOf x5 x6 x7 x8 x9 x10 x11 x12) (rowAt x0 x1 x2 x3 x4 b ⟨s.val - d, by omega⟩) else fun _ => 0

/-- The up-projections with two rows of zeros in front. -/
theorem pad_apply (b : Fin 2) (s : Fin 8194) (f : Fin 5632) (d : ℕ) (r : Fin 8192) (hr : s.val + d = r.val + 2) :
    val_main_v52 (F := Ideal) x0 x1 x2 x3 x4 x5 x6 x7 x8 x9 (ix3 b s f)
      = upProj (weightsOf x5 x6 x7 x8 x9 x10 x11 x12) (prev x0 x1 x2 x3 x4 x5 x6 x7 x8 x9 x10 x11 x12 d b r) f := by
  pointwise [val_main_v52]
  unfold prev
  by_cases hs : d ≤ r.val
  · rw [dif_pos (by omega), dif_pos hs, up_apply x0 x1 x2 x3 x4 x5 x6 x7 x8 x9 x10 x11 x12]
    have he : (⟨s.val - 2, by omega⟩ : Fin 8192) = ⟨r.val - d, by omega⟩ := Fin.ext (by show s.val - 2 = r.val - d; omega)
    rw [he]
  · rw [dif_neg (by omega), dif_neg hs]
    unfold upProj
    simp only [zero_mul, Finset.sum_const_zero]
    pointwise [val_main_call0_v0, val_main_c]
    simp [FloatOps.sitofp]

/-- The causal filter. -/
theorem filtered_apply (b : Fin 2) (s : Fin 8192) (f : Fin 5632) :
    val_main_v77 (F := Ideal) x0 x1 x2 x3 x4 x5 x6 x7 x8 x9 x10 x11 (ix3 b s f)
      = filtered (weightsOf x5 x6 x7 x8 x9 x10 x11 x12) (prev x0 x1 x2 x3 x4 x5 x6 x7 x8 x9 x10 x11 x12 2 b s) (prev x0 x1 x2 x3 x4 x5 x6 x7 x8 x9 x10 x11 x12 1 b s)
          (prev x0 x1 x2 x3 x4 x5 x6 x7 x8 x9 x10 x11 x12 0 b s) f := by
  have h2 := pad_apply x0 x1 x2 x3 x4 x5 x6 x7 x8 x9 x10 x11 x12 b ⟨s.val, by omega⟩ f 2 s (by simp only)
  have h1 := pad_apply x0 x1 x2 x3 x4 x5 x6 x7 x8 x9 x10 x11 x12 b ⟨1 + s.val, by omega⟩ f 1 s (by simp only; omega)
  have h0 := pad_apply x0 x1 x2 x3 x4 x5 x6 x7 x8 x9 x10 x11 x12 b ⟨2 + s.val, by omega⟩ f 0 s (by simp only; omega)
  pointwise [val_main_v50, val_main_v51, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst_7]
  rw [h2, h1, h0]
  unfold filtered
  rw [add_comm (upProj _ _ f * x10 (ix3 0 0 f) + upProj _ _ f * x10 (ix3 0 1 f)), ← add_assoc, ← add_assoc]
  rfl

/-- The output rows. -/
theorem out_apply (b : Fin 2) (s : Fin 8192) (c : Fin 1024) :
    val_main_v84 (F := Ideal) x0 x1 x2 x3 x4 x5 x6 x7 x8 x9 x10 x11 x12 (ix3 b s c)
      = outRow (weightsOf x5 x6 x7 x8 x9 x10 x11 x12) (rowAt x0 x1 x2 x3 x4 b s) (prev x0 x1 x2 x3 x4 x5 x6 x7 x8 x9 x10 x11 x12 2 b s)
          (prev x0 x1 x2 x3 x4 x5 x6 x7 x8 x9 x10 x11 x12 1 b s) (prev x0 x1 x2 x3 x4 x5 x6 x7 x8 x9 x10 x11 x12 0 b s) c := by
  have h := fun f => filtered_apply x0 x1 x2 x3 x4 x5 x6 x7 x8 x9 x10 x11 x12 b s f
  have hr := residual_apply x0 x1 x2 x3 x4 x5 x6 x7 x8 x9 x10 x11 x12 b s c
  pointwise [val_main_v78, val_main_v79, val_main_v80, val_main_v81, val_main_v82, val_main_v83, val_main_v84, val_main_call1_v0, val_main_call1_v1, val_main_call1_cst, val_main_call1_v2, val_main_call1_v3,
    val_main_call1_cst_0, val_main_call1_v4, val_main_call1_v5]
  rw [hr]
  simp only [h]
  rfl

/-- The result array is the layer, token by token. -/
theorem result_eq : val_main_v85 (F := Ideal) x0 x1 x2 x3 x4 x5 x6 x7 x8 x9 x10 x11 x12
    = fun i => layer (weightsOf x5 x6 x7 x8 x9 x10 x11 x12) (rowsOf x0 x1 x2 x3 x4) (i 0) (i 1) := by
  funext i
  obtain ⟨n, c, rfl⟩ : ∃ (n : Fin 16384) (c : Fin 1024), i = ix2 n c := ⟨i 0, i 1, by pointwise⟩
  have h := out_apply x0 x1 x2 x3 x4 x5 x6 x7 x8 x9 x10 x11 x12 ⟨n.val / 8192, by omega⟩ ⟨n.val % 8192, by omega⟩ c
  pointwise [val_main_v85]
  rw [h]
  have hp : ∀ d ≤ 2, prev x0 x1 x2 x3 x4 x5 x6 x7 x8 x9 x10 x11 x12 d ⟨n.val / 8192, by omega⟩ ⟨n.val % 8192, by omega⟩
      = back (weightsOf x5 x6 x7 x8 x9 x10 x11 x12) (rowsOf x0 x1 x2 x3 x4) d n := by
    intro d hd
    unfold prev back
    by_cases hn : d ≤ n.val % 8192
    · rw [dif_pos hn, if_pos hn]
      refine congrArg (hidden _) ?_
      have e1 : (n.val - d) / 8192 = n.val / 8192 := by omega
      have e2 : (n.val - d) % 8192 = n.val % 8192 - d := by omega
      unfold rowAt rowsOf token
      simp only [e1, e2]
    · rw [dif_neg hn, if_neg hn]
  rw [hp 2 (by omega), hp 1 (by omega), hp 0 (by omega)]
  rfl

end Cert.Proof.FfnReference

end
-- ==== Proof.FfnEquation.lean ====
/-
  The out-projection and feed-forward kernel and its reference leave the same array: both are the layer, token by token.
-/
module

public import proofs.«01_k».proof.Defs
public import proofs.«01_k».proof.Proof.FfnArray
public import proofs.«01_k».proof.Proof.FfnReference
public import Idealize.ShloMosaic.Lib.Claim

@[expose] public section

set_option maxRecDepth 65536
set_option maxHeartbeats 4000000

noncomputable section

namespace Cert.Proof

open Idealize.ShloMosaic Idealize.ShloMosaic.TcCoe Idealize.SL.Sem

/-- Over the extended reals the kernel's result array and the reference's agree. -/
theorem algebraic_Ffn : Cert.algebraic_FfnIdeal_FfnRefIdeal := by
  pair_intro
  · run_from Cert.FfnIdeal.Value.run_blocks m g
  · run_from Cert.FfnRefIdeal.Value.run m' g'
    rw [FfnArray.array_eq, Cert.FfnRefIdeal.Read.val_main_v85_eq]
    obtain ⟨h0, h1, h2, h3, h4, h5, h6, h7, h8, h9, h10, h11, h12⟩ := hagree c
    rw [h0, h1, h2, h3, h4, h5, h6, h7, h8, h9, h10, h11, h12, FfnReference.result_eq]
    rfl

end Cert.Proof

end
-- ==== Proof.ProjSpec.lean ====
/-
  The layer's input projection in plain mathematics, over the extended reals: the root-mean-square norm of a token's row,
  its product with the projection matrix, the norms of the query and key heads, and the arrays in which the eight results
  are laid out. Every result is stated entry by entry.
-/
module

public import proofs.«01_k».proof.Proof.FfnInputs

@[expose] public section

noncomputable section

namespace Cert.Proof.ProjSpec

open Idealize.ShloMosaic
open Cert.Proof.FfnSpec (Mat Box)
open scoped BigOperators

/-- A token's row. -/
abbrev Row := Fin 1024 → EReal

/-- The norm's gain, the projection matrix, and the gains of the query and key heads. -/
structure Weights where
  g1 : Fin 1024 → EReal
  w : Fin 1024 → Fin 3096 → EReal
  qg : Fin 64 → EReal
  kg : Fin 3 → Fin 64 → EReal

/-- The weights held by the four weight arrays. -/
def weightsOf (g1 : Mat 1 1024) (w : Box 1 1024 3096) (qg : Mat 1 64) (kg : Box 1 3 64) : Weights where
  g1 k := g1 (ix2 0 k)
  w k j := w (ix3 0 k j)
  qg k := qg (ix2 0 k)
  kg i k := kg (ix3 0 i k)

/-- The root-mean-square norm of a row of 1024. -/
def normed (W : Weights) (x : Row) (k : Fin 1024) : EReal :=
  x k * Ideal.rsqrt (Ideal.div (∑ k, x k * x k) (Ideal.ofBits .f32 0x44800000#32) + Ideal.ofBits .f32 0x358637BD#32) * W.g1 k

/-- Column `j` of the projection. -/
def column (W : Weights) (x : Row) (j : Fin 3096) : EReal := ∑ k, normed W x k * W.w k j

/-- The root-mean-square norm of a head of 64. -/
def headNorm (f : Fin 64 → EReal) (gain : Fin 64 → EReal) (k : Fin 64) : EReal :=
  f k * Ideal.rsqrt (Ideal.div (∑ k, f k * f k) (Ideal.ofBits .f32 0x42800000#32) + Ideal.ofBits .f32 0x358637BD#32) * gain k

/-- The scaled, normed query of head `h`. -/
def query (W : Weights) (x : Row) (h : Fin 8) (k : Fin 64) : EReal :=
  headNorm (fun k => column W x ⟨h.val * 64 + k.val, by omega⟩) W.qg k * Ideal.ofBits .f32 0x3E38AA3B#32

/-- The normed key of group `g` for the blocks' selection. -/
def selectKey (W : Weights) (x : Row) (g : Fin 2) (k : Fin 64) : EReal :=
  headNorm (fun k => column W x ⟨768 + (g.val * 64 + k.val), by omega⟩) (W.kg 1) k

/-- The normed key of group `g` for the window. -/
def windowKey (W : Weights) (x : Row) (g : Fin 2) (k : Fin 64) : EReal :=
  headNorm (fun k => column W x ⟨1024 + (g.val * 64 + k.val), by omega⟩) (W.kg 2) k

/-- Lane `l` of a token's row of the selection's keys: key, zeros, and a one at the lane of the token's block. -/
def selectLane (W : Weights) (x : Row) (g : Fin 2) (block l : ℕ) : EReal :=
  if h : l < 64 then selectKey W x g ⟨l, h⟩ else if l < 128 then 0 else if block = l - 128 then 1 else 0

/-- Lane `l` of a token's row of the window's keys: key and zeros. -/
def windowLane (W : Weights) (x : Row) (g : Fin 2) (l : ℕ) : EReal :=
  if h : l < 64 then windowKey W x g ⟨l, h⟩ else 0

/-- The value column `k` of head `a`: two heads for the selection, then two for the window. -/
def valueCol (a : Fin 4) (k : Fin 64) : Fin 3096 :=
  if a.val < 2 then ⟨896 + (a.val * 64 + k.val), by omega⟩ else ⟨1152 + ((a.val - 2) * 64 + k.val), by omega⟩

/-- The logit of gate row `r`: twelve rows a group, then four that are zero. -/
def logit (W : Weights) (x : Row) (r : Fin 32) : EReal :=
  if h : r.val % 16 < 12 then column W x ⟨1280 + (r.val / 16 * 12 + r.val % 16), by omega⟩ else 0

/-- The tokens of the two sequences. -/
abbrev Tokens := Fin 2 → Fin 8192 → Row

/-- The tokens held by the token array. -/
def tokensOf (x : Box 2 8192 1024) : Tokens := fun b s k => x (ix3 b s k)

variable (W : Weights) (T : Tokens)

/-- The queries, a column per token. -/
def queries (b : Fin 2) (d : Fin 512) (s : Fin 8192) : EReal :=
  query W (T b s) ⟨d.val / 64, by omega⟩ ⟨d.val % 64, by omega⟩

/-- Plain columns of the projection, from column `o` on. -/
def columns (o n : ℕ) (h : o + n ≤ 3096) (b : Fin 2) (s : Fin 8192) (j : Fin n) : EReal :=
  column W (T b s) ⟨o + j.val, by omega⟩

/-- A row of a key array: 512 mark rows, then the tokens' rows. -/
def marked (row : Fin 8192 → ℕ → EReal) (n : Fin 8704) (l : ℕ) : EReal :=
  if h : n.val < 512 then (if l = 64 then 1 else 0) else row ⟨n.val - 512, by omega⟩ l

/-- The row of the selection's keys at a token. -/
def selectRow (b g : Fin 2) (s : Fin 8192) (l : ℕ) : EReal := selectLane W (T b s) g (s.val / 64) l

/-- The row of the window's keys at a token. -/
def windowRow (b g : Fin 2) (s : Fin 8192) (l : ℕ) : EReal := windowLane W (T b s) g l

/-- The selection's keys. -/
def selectKeys (b g : Fin 2) (n : Fin 8704) (l : Fin 256) : EReal := marked (selectRow W T b g) n l.val

/-- The window's keys. -/
def windowKeys (b g : Fin 2) (n : Fin 8704) (l : Fin 128) : EReal := marked (windowRow W T b g) n l.val

/-- A row of a value column's block: 64 value rows, a row of ones, 15 rows of zeros. -/
def valueRow (x : Row) (a : Fin 4) (r : Fin 80) : EReal :=
  if h : r.val < 64 then column W x (valueCol a ⟨r.val, h⟩) else if r.val = 64 then 1 else 0

/-- The values: two blocks of zeros, then blocks of 256 tokens. -/
def values (b : Fin 2) (a : Fin 4) (j : Fin 34) (r : Fin 80) (q : Fin 256) : EReal :=
  if h : j.val < 2 then 0 else valueRow W (T b ⟨(j.val - 2) * 256 + q.val, by omega⟩) a r

/-- The gates, a column per token. -/
def gates (b : Fin 2) (r : Fin 32) (s : Fin 8192) : EReal := Ideal.logistic (logit W (T b s) r)

end Cert.Proof.ProjSpec

end
-- ==== Proof.ProjHost.lean ====
/-
  The weight arrays that the `ProjIdeal` program's host part lays out for the kernel: the projection matrix's columns,
  some of them as rows, and the gains.
-/
module

public import proofs.«01_k».proof.Proof.ProjSpec
public import proofs.«01_k».proof.Proof.Gen.ProjIdeal.Value
public import Idealize.ShloMosaic.Lib.Pointwise
public import Idealize.ShloMosaic.Lib.StableHlo.RunRead
public import Idealize.ShloMosaic.Lib.Pipeline.ValueKit

@[expose] public section

set_option maxRecDepth 65536
set_option maxHeartbeats 4000000

noncomputable section

namespace Cert.Proof.ProjHost

open Idealize.ShloMosaic Idealize.ShloMosaic.TcCoe Idealize.SL.Sem
open Cert.ProjIdeal Cert.ProjIdeal.Gen
open Cert.Proof.ProjSpec

/-- The projection column that stands in column `j` of the plain columns' matrix: the compression's keys and values and
    the selection's keys, then the window's keys, then the recurrence's inputs. -/
def plainCol (j : Fin 2304) : Fin 3096 :=
  if j.val < 384 then ⟨512 + j.val, by omega⟩ else if j.val < 512 then ⟨1024 + (j.val - 384), by omega⟩
  else ⟨1304 + (j.val - 512), by omega⟩

variable (m : (ℓ : Loc nD τ sig) → Buf (Elt Ideal) ℓ) (c : Dev nD)

/-- The weights held by the program's arguments. -/
abbrev weights : Weights := weightsOf (m ((c : Thread nD τ).loc main_arg1)) (m ((c : Thread nD τ).loc main_arg2))
  (m ((c : Thread nD τ).loc main_arg3)) (m ((c : Thread nD τ).loc main_arg4))

/-- The tokens held by the program's first argument. -/
abbrev tokens : Tokens := tokensOf (m ((c : Thread nD τ).loc main_arg0))

/-- The norm's gain. -/
theorem V_g1 (j : Fin 1024) : V m c main_v37 (ix2 0 j) = (weights m c).g1 j := by
  unfold_abbrev_sides
  simp only [List.flatten_cons, List.flatten_nil, List.append_nil, List.cons_append, List.nil_append]
  after_reads_simp
  pointwise [weightsOf]

/-- The query heads' gain. -/
theorem V_qg (k : Fin 64) : V m c main_v22 (ix2 k 0) = (weights m c).qg k := by
  unfold_abbrev_sides
  simp only [List.flatten_cons, List.flatten_nil, List.append_nil, List.cons_append, List.nil_append]
  after_reads_simp
  pointwise [weightsOf]

/-- The key heads' gains, each twice. -/
theorem V_kg (i : Fin 2) (l : Fin 128) :
    V m c main_v35 (ix2 i l) = (weights m c).kg ⟨i.val + 1, by omega⟩ ⟨l.val % 64, by omega⟩ := by
  unfold_abbrev_sides
  simp only [List.flatten_cons, List.flatten_nil, List.append_nil, List.cons_append, List.nil_append]
  after_reads_simp
  pointwise [weightsOf]
  match i with
  | 0 => rfl
  | 1 => rfl

/-- The plain columns. -/
theorem V_plain (k : Fin 1024) (j : Fin 2304) : V m c main_v11 (ix2 k j) = (weights m c).w k (plainCol j) := by
  unfold_abbrev_sides
  simp only [List.flatten_cons, List.flatten_nil, List.append_nil, List.cons_append, List.nil_append]
  after_reads_simp
  pointwise
  after_reads_simp
  pointwise [weightsOf, plainCol]
  by_cases h1 : j.val < 128
  · simp only [h1, show j.val < 384 by omega, if_true, dite_true]
  by_cases h2 : j.val < 256
  · simp only [h1, show j.val - 128 < 128 by omega, show j.val < 384 by omega, if_true, dite_true, dite_false]
    congr 2; apply Fin.ext; show 640 + (j.val - 128) = 512 + j.val; omega
  by_cases h3 : j.val < 384
  · simp only [h1, show ¬ j.val - 128 < 128 by omega, show j.val - 128 - 128 < 128 by omega, h3, if_true, dite_true, dite_false]
    congr 2; apply Fin.ext; show 768 + (j.val - 128 - 128) = 512 + j.val; omega
  by_cases h4 : j.val < 512
  · simp only [h1, show ¬ j.val - 128 < 128 by omega, show ¬ j.val - 128 - 128 < 128 by omega,
      show j.val - 128 - 128 - 128 < 128 by omega, h3, h4, if_true, if_false, dite_true, dite_false]
    congr 2
  · simp only [h1, show ¬ j.val - 128 < 128 by omega, show ¬ j.val - 128 - 128 < 128 by omega,
      show ¬ j.val - 128 - 128 - 128 < 128 by omega, h3, h4, if_false, dite_false]
    congr 2

/-- The columns that the kernel takes as rows: queries, values, then the gates' with zero rows between. -/
theorem V_turned (d : Fin 800) (k : Fin 1024) : V m c main_v20 (ix2 d k)
    = if h : d.val < 512 then (weights m c).w k ⟨d.val, by omega⟩
      else if h' : d.val < 640 then (weights m c).w k ⟨896 + (d.val - 512), by omega⟩
      else if h'' : d.val < 768 then (weights m c).w k ⟨1152 + (d.val - 640), by omega⟩
      else if h3 : (d.val - 768) % 16 < 12 then
        (weights m c).w k ⟨1280 + ((d.val - 768) / 16 * 12 + (d.val - 768) % 16), by omega⟩
      else 0 := by
  unfold_abbrev_sides
  simp only [List.flatten_cons, List.flatten_nil, List.append_nil, List.cons_append, List.nil_append]
  after_reads_simp
  pointwise
  after_reads_simp
  simp only [StableHlo.TRef.ofBuf, StableHlo.TRef.toBuf, cast_eq]
  pointwise [weightsOf]
  by_cases h1 : d.val < 512
  · simp only [h1, dite_true]
  by_cases h2 : d.val < 640
  · simp only [h1, h2, show d.val - 512 < 128 by omega, dite_true, dite_false]
  by_cases h3 : d.val < 768
  · simp only [h1, h2, h3, show ¬ d.val - 512 < 128 by omega, show d.val - 512 - 128 < 128 by omega, dite_true, dite_false]
    congr 2
  · have e : d.val - 512 - 128 - 128 = d.val - 768 := by omega
    by_cases h4 : (d.val - 768) % 16 < 12
    · simp only [h1, h2, h3, show ¬ d.val - 512 < 128 by omega, show ¬ d.val - 512 - 128 < 128 by omega, dite_false, e, h4,
        show (d.val - 768) / 16 < 2 by omega, and_self, dite_true]
    · simp only [h1, h2, h3, show ¬ d.val - 512 < 128 by omega, show ¬ d.val - 512 - 128 < 128 by omega, dite_false, e, h4,
        and_false]
      simp [FloatOps.sitofp]

end Cert.Proof.ProjHost

end
-- ==== Proof.ProjReference.lean ====
/-
  The eight results of the `ProjRefIdeal` program, entry by entry: they are the results of `ProjSpec` over the program's
  arguments.
-/
module

public import proofs.«01_k».proof.Proof.ProjSpec
public import proofs.«01_k».proof.Proof.Gen.ProjRefIdeal.Read
public import Idealize.ShloMosaic.Lib.Pointwise

@[expose] public section

set_option maxRecDepth 65536
set_option maxHeartbeats 4000000

noncomputable section

namespace Cert.Proof.ProjReference

open Idealize.ShloMosaic Idealize.ShloMosaic.TcCoe
open Cert.ProjRefIdeal Cert.ProjRefIdeal.Read
open Cert.Proof.ProjSpec
open Cert.Proof.FfnSpec (Mat Box)

/-- A token number divided by 64 the way the host computes it: the truncated quotient, less one where signs differ and
    a remainder is left. -/
theorem floorDiv64 : ∀ k : Fin 8192,
    Scalar.select
      (IntOp.andi
        (IntOp.cmpi CmpIPredicate.ne
          (if BitVec.ofNat 32 k.val = 0 then (0 : BitVec 32) else if (BitVec.ofNat 32 k.val).msb = true then -1 else 1)
          (if 64#32 = 0 then (0 : BitVec 32) else if BitVec.msb 64#32 = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  decide +kernel

/-- Block numbers as words are equal exactly where the blocks are. -/
theorem cmp_block : ∀ a b : Fin 128, IntOp.cmpi CmpIPredicate.eq (BitVec.ofNat 32 a.val) (BitVec.ofNat 32 b.val)
    = if a.val = b.val then 1#1 else 0#1 := by
  decide +kernel

/-- The lane of the mark. -/
theorem cmp_mark : ∀ l : Fin 256, IntOp.cmpi CmpIPredicate.eq (BitVec.ofNat 32 l.val) 64#32
    = if l.val = 64 then 1#1 else 0#1 := by
  decide +kernel

/-- A truth value as a number. -/
theorem uitofp_ite (p : Prop) [Decidable p] :
    (FloatOps.uitofp FTy.f32 (if p then 1#1 else 0#1) : Ideal .f32) = if p then (1 : EReal) else 0 := by
  split <;> simp [FloatOps.uitofp]

/-- The integer zero as a number. -/
theorem sitofp_zero : (FloatOps.sitofp FTy.f32 0#32 : Ideal .f32) = (0 : EReal) := by
  simp [FloatOps.sitofp]

variable (x : Box 2 8192 1024) (g1 : Mat 1 1024) (w : Box 1 1024 3096) (qg : Mat 1 64) (kg : Box 1 3 64)

/-- The projection's columns. -/
theorem v15_apply (b : Fin 2) (s : Fin 8192) (j : Fin 3096) :
    val_main_v15 (F := Ideal) x g1 w (ix3 b s j) = column (weightsOf g1 w qg kg) (tokensOf x b s) j := by
  pointwise [val_main_v15, val_main_v14, val_main_v13, val_main_v12, val_main_v11, val_main_v0, val_main_v10, val_main_v9,
    val_main_v8, val_main_v7, val_main_v6, val_main_cst_1, val_main_v5, val_main_v4, val_main_cst_0,
    val_main_v3, val_main_v2, val_main_cst, val_main_v1]
  rfl

/-- The queries, head by head. -/
theorem v41_apply (b : Fin 2) (s : Fin 8192) (h : Fin 8) (k : Fin 64) :
    val_main_v41 (F := Ideal) x g1 w qg (ix4 b s h k) = query (weightsOf g1 w qg kg) (tokensOf x b s) h k := by
  pointwise [val_main_v41, val_main_v40, val_main_cst_5, val_main_v39, val_main_v38, val_main_v37, val_main_v26,
    val_main_v36, val_main_v35, val_main_v34, val_main_v33, val_main_v32, val_main_cst_4, val_main_v31,
    val_main_v30, val_main_cst_3, val_main_v29, val_main_v28, val_main_cst_2, val_main_v27, val_main_v25,
    val_main_v16]
  simp only [v15_apply x g1 w qg kg]
  rfl

/-- The selection's keys, group by group. -/
theorem v57_apply (b : Fin 2) (s : Fin 8192) (h : Fin 2) (k : Fin 64) :
    val_main_v57 (F := Ideal) x g1 w kg (ix4 b s h k) = selectKey (weightsOf g1 w qg kg) (tokensOf x b s) h k := by
  pointwise [val_main_v57, val_main_v56, val_main_v55, val_main_v44, val_main_v43, val_main_v54, val_main_v53,
    val_main_v52, val_main_v51, val_main_v50, val_main_cst_8, val_main_v49, val_main_v48, val_main_cst_7,
    val_main_v47, val_main_v46, val_main_cst_6, val_main_v45, val_main_v42, val_main_v19]
  simp only [v15_apply x g1 w qg kg]
  rfl

/-- The window's keys, group by group. -/
theorem v73_apply (b : Fin 2) (s : Fin 8192) (h : Fin 2) (k : Fin 64) :
    val_main_v73 (F := Ideal) x g1 w kg (ix4 b s h k) = windowKey (weightsOf g1 w qg kg) (tokensOf x b s) h k := by
  pointwise [val_main_v73, val_main_v72, val_main_v71, val_main_v60, val_main_v59, val_main_v70, val_main_v69,
    val_main_v68, val_main_v67, val_main_v66, val_main_cst_11, val_main_v65, val_main_v64, val_main_cst_10,
    val_main_v63, val_main_v62, val_main_cst_9, val_main_v61, val_main_v58, val_main_v21]
  simp only [v15_apply x g1 w qg kg]
  rfl

/-- The first result, the queries. -/
theorem v93_apply (b : Fin 2) (d : Fin 512) (s : Fin 8192) :
    val_main_v93 (F := Ideal) x g1 w qg (ix3 b d s) = queries (weightsOf g1 w qg kg) (tokensOf x) b d s := by
  pointwise [val_main_v93, val_main_v92, val_main_v91]
  simp only [v41_apply x g1 w qg kg]
  rfl

/-- The second result. -/
theorem v17_apply (b : Fin 2) (s : Fin 8192) (j : Fin 128) :
    val_main_v17 (F := Ideal) x g1 w (ix3 b s j) = columns (weightsOf g1 w qg kg) (tokensOf x) 512 128 (by omega) b s j := by
  pointwise [val_main_v17]
  simp only [v15_apply x g1 w qg kg]
  rfl

/-- The third result. -/
theorem v18_apply (b : Fin 2) (s : Fin 8192) (j : Fin 128) :
    val_main_v18 (F := Ideal) x g1 w (ix3 b s j) = columns (weightsOf g1 w qg kg) (tokensOf x) 640 128 (by omega) b s j := by
  pointwise [val_main_v18]
  simp only [v15_apply x g1 w qg kg]
  rfl

/-- The last result, the recurrence's inputs. -/
theorem v24_apply (b : Fin 2) (s : Fin 8192) (j : Fin 1792) :
    val_main_v24 (F := Ideal) x g1 w (ix3 b s j) = columns (weightsOf g1 w qg kg) (tokensOf x) 1304 1792 (by omega) b s j := by
  pointwise [val_main_v24]
  simp only [v15_apply x g1 w qg kg]
  rfl

/-- The fourth result, the selection's keys with their marks and block lanes. -/
theorem v104_apply (b g : Fin 2) (n : Fin 8704) (l : Fin 256) :
    val_main_v104 (F := Ideal) x g1 w kg (ix4 b g n l) = selectKeys (weightsOf g1 w qg kg) (tokensOf x) b g n l := by
  pointwise [val_main_v104, val_main_v103, val_main_v97, val_main_v96, val_main_v90, val_main_v89, val_main_v88,
    val_main_v86, val_main_v85, val_main_v87, val_main_v84, val_main_call1_v2, val_main_call1_v1,
    val_main_call1_v0, val_main_c_14, val_main_v83, val_main_v82, val_main_call1_v13, val_main_call1_v12,
    val_main_call1_c_0, val_main_call1_v11, val_main_call1_v10, val_main_call1_v9, val_main_call1_c,
    val_main_call1_v8, val_main_call1_v7, val_main_call1_v6, val_main_call1_v5, val_main_call1_v4,
    val_main_call1_v3, val_main_v95, val_main_cst_15, val_main_v94, val_main_v102, val_main_v101,
    val_main_v100, val_main_v99, val_main_c_16, val_main_v98]
  simp only [v57_apply x g1 w qg kg]
  have hc : id (constantI S_ 32 64#32) ix0 = 64#32 := rfl
  simp only [hc]
  unfold selectKeys marked selectRow selectLane
  by_cases h1 : n.val < 512
  · simp only [h1, dite_true]
    rw [cmp_mark, uitofp_ite]
  · simp only [h1, dite_false]
    by_cases h2 : l.val < 64
    · simp only [h2, dite_true]
    · simp only [h2, dite_false]
      by_cases h3 : l.val < 128
      · simp only [h3, show l.val - 64 < 64 by omega, if_true, dite_true]
      · simp only [h3, show ¬ l.val - 64 < 64 by omega, if_false, dite_false]
        rw [floorDiv64 ⟨n.val - 512, by omega⟩]
        have hb := cmp_block ⟨(n.val - 512) / 64, by omega⟩ ⟨l.val - 64 - 64, by omega⟩
        simp only at hb
        rw [hb, uitofp_ite]
        simp only [show l.val - 64 - 64 = l.val - 128 by omega]

/-- The fifth result, the window's keys with their marks. -/
theorem v116_apply (b g : Fin 2) (n : Fin 8704) (l : Fin 128) :
    val_main_v116 (F := Ideal) x g1 w kg (ix4 b g n l) = windowKeys (weightsOf g1 w qg kg) (tokensOf x) b g n l := by
  pointwise [val_main_v116, val_main_v115, val_main_v109, val_main_v108, val_main_v105, val_main_cst_17, val_main_v107,
    val_main_cst_18, val_main_v106, val_main_v114, val_main_v113, val_main_v112, val_main_v111, val_main_c_19,
    val_main_v110]
  simp only [v73_apply x g1 w qg kg]
  unfold windowKeys marked windowRow windowLane
  by_cases h1 : n.val < 512
  · simp only [h1, dite_true]
    rw [cmp_mark ⟨l.val, by omega⟩, uitofp_ite]
  · simp only [h1, dite_false, ite_self, dite_eq_ite]

/-- The values' columns, head by head. -/
theorem v118_apply (b : Fin 2) (j : Fin 32) (q : Fin 256) (a : Fin 4) (r : Fin 64) :
    val_main_v118 (F := Ideal) x g1 w (ix5 b j q a r)
      = column (weightsOf g1 w qg kg) (tokensOf x b ⟨j.val * 256 + q.val, by omega⟩) (valueCol a r) := by
  pointwise [val_main_v118, val_main_v117, val_main_v22, val_main_v20]
  simp only [v15_apply x g1 w qg kg]
  unfold valueCol
  by_cases h : a.val < 2
  · simp only [h, show a.val * 64 + r.val < 128 by omega, if_true, dite_true]
  · simp only [h, show ¬ a.val * 64 + r.val < 128 by omega, if_false, dite_false]
    congr 2
    omega

/-- The values' columns turned so that the tokens of a block lie along the lanes. -/
theorem v119_apply (b : Fin 2) (j : Fin 32) (q : Fin 256) (a : Fin 4) (r : Fin 64) :
    val_main_v119 (F := Ideal) x g1 w (ix5 b a j r q) = val_main_v118 (F := Ideal) x g1 w (ix5 b j q a r) := by
  rw [val_main_v119_apply]
  congr 1
  funext i
  match i with
  | ⟨0, _⟩ => rfl
  | ⟨1, _⟩ => rfl
  | ⟨2, _⟩ => rfl
  | ⟨3, _⟩ => rfl
  | ⟨4, _⟩ => rfl

/-- The values' columns with their row of ones. -/
theorem v122_apply (b : Fin 2) (j : Fin 32) (q : Fin 256) (a : Fin 4) (r : Fin 80) :
    val_main_v122 (F := Ideal) x g1 w (ix5 b a j r q)
      = valueRow (weightsOf g1 w qg kg) (tokensOf x b ⟨j.val * 256 + q.val, by omega⟩) a r := by
  pointwise [val_main_v122, val_main_v121, val_main_cst_21, val_main_v120, val_main_cst_20]
  simp only [v119_apply, v118_apply x g1 w qg kg]
  unfold valueRow
  by_cases h : r.val < 64
  · simp only [h, dite_true]
  · simp only [h, dite_false, show (r.val - 64 < 1) = (r.val = 64) from propext (by omega), dite_eq_ite]

/-- The sixth result, the values. -/
theorem v124_apply (b : Fin 2) (a : Fin 4) (j : Fin 34) (r : Fin 80) (q : Fin 256) :
    val_main_v124 (F := Ideal) x g1 w (ix5 b a j r q) = values (weightsOf g1 w qg kg) (tokensOf x) b a j r q := by
  pointwise [val_main_v124, val_main_v123, val_main_call2_v0, val_main_c_22]
  unfold values
  by_cases h : j.val < 2
  · rw [dif_neg (by omega), dif_pos h, sitofp_zero]
  · rw [dif_pos (by omega), dif_neg h, v122_apply x g1 w qg kg]

/-- The seventh result, the gates. -/
theorem v126_apply (b : Fin 2) (r : Fin 32) (s : Fin 8192) :
    val_main_v126 (F := Ideal) x g1 w (ix3 b r s) = gates (weightsOf g1 w qg kg) (tokensOf x) b r s := by
  pointwise [val_main_v126, val_main_v125, val_main_v81, val_main_v79, val_main_v77, val_main_v76, val_main_v75,
    val_main_call0_v0, val_main_c, val_main_v74, val_main_v23, val_main_v78, val_main_cst_12, val_main_v80,
    val_main_cst_13]
  simp only [v15_apply x g1 w qg kg]
  unfold gates logit Ideal.logistic
  by_cases h : r.val % 16 < 12
  · rw [dif_pos ⟨by omega, h⟩, dif_pos h]
  · rw [dif_neg (fun h' => h h'.2), dif_neg h, sitofp_zero]

end Cert.Proof.ProjReference

end
-- ==== Proof.ProjPayload.lean ====
/-
  The values that the `ProjIdeal` body computes from its staged blocks, entry by entry: the normed rows, their products
  with the plain columns and with the columns taken as rows, the heads' norms, and the constant parts of the key and value
  rows.
-/
module

public import proofs.«01_k».proof.Proof.ProjHost
public import proofs.«01_k».proof.Proof.ProjReference
public import proofs.«01_k».proof.Proof.FfnReference
public import proofs.«01_k».proof.Proof.FfnBlock
public import Idealize.ShloMosaic.Lib.Pipeline.ReadBack
public import Idealize.ShloMosaic.Lib.Pipeline.ValueKit.Stack

@[expose] public section

set_option maxRecDepth 65536
set_option maxHeartbeats 4000000

noncomputable section

namespace Cert.Proof.ProjPayload

open Idealize.ShloMosaic Idealize.ShloMosaic.TcCoe Idealize.SL.Sem
open Cert.ProjIdeal Cert.ProjIdeal.Gen
open Cert.Proof.ProjSpec Cert.Proof.ProjHost
open scoped BigOperators

/-- The staged weight blocks hold the weights. -/
structure Holds (W : Weights) (x1 : Vec Ideal S1x1024 .f32) (x2 : Vec Ideal S1024x2304 .bf16)
    (x3 : Vec Ideal S800x1024 .bf16) (x4 : Vec Ideal S64x1 .f32) (x5 : Vec Ideal S2x128 .f32) : Prop where
  g1 : ∀ k, x1 (ix2 0 k) = W.g1 k
  plain : ∀ k j, x2 (ix2 k j) = W.w k (plainCol j)
  q : ∀ (d : Fin 512) k, x3 (ix2 ⟨d.val, by omega⟩ k) = W.w k ⟨d.val, by omega⟩
  v : ∀ (a : Fin 4) (r : Fin 64) k, x3 (ix2 ⟨512 + (a.val * 64 + r.val), by omega⟩ k) = W.w k (valueCol a r)
  gate : ∀ (r : Fin 32) k, x3 (ix2 ⟨768 + r.val, by omega⟩ k)
    = if h : r.val % 16 < 12 then W.w k ⟨1280 + (r.val / 16 * 12 + r.val % 16), by omega⟩ else 0
  qg : ∀ k, x4 (ix2 k 0) = W.qg k
  kg : ∀ (i : Fin 2) (l : Fin 128), x5 (ix2 i l) = W.kg ⟨i.val + 1, by omega⟩ ⟨l.val % 64, by omega⟩

/-- Row `r` of the staged tokens. -/
def rowOf (x0 : Vec Ideal S1x512x1024 .f32) (r : Fin 512) : Row := fun k => x0 (ix3 0 r k)

/-- Which lanes belong to the first head. -/
theorem cmp_lane : ∀ l : Fin 128, IntOp.cmpi CmpIPredicate.slt (BitVec.ofNat 32 l.val) 64#32
    = if l.val < 64 then 1#1 else 0#1 := by
  decide +kernel

/-- A head's lanes: half of the 128 lanes. -/
theorem sum_half (f : Fin 128 → EReal) (g : Fin 2) :
    (∑ l : Fin 128, if l.val / 64 = g.val then f l else 0) = ∑ k : Fin 64, f ⟨g.val * 64 + k.val, by omega⟩ := by
  rw [Fin.sum_univ_add (a := 64) (b := 64)]
  match g with
  | 0 =>
    rw [Finset.sum_eq_zero (s := Finset.univ) (f := fun i : Fin 64 => if (Fin.natAdd 64 i).val / 64 = (0 : Fin 2).val then f (Fin.natAdd 64 i) else 0), add_zero]
    · refine Finset.sum_congr rfl fun i _ => ?_
      rw [if_pos (by show i.val / 64 = 0; omega)]
      congr 1; apply Fin.ext; show i.val = 0 * 64 + i.val; omega
    · intro i _
      exact if_neg (by show ¬ (64 + i.val) / 64 = 0; omega)
  | 1 =>
    rw [Finset.sum_eq_zero (s := Finset.univ) (f := fun i : Fin 64 => if (Fin.castAdd 64 i).val / 64 = (1 : Fin 2).val then f (Fin.castAdd 64 i) else 0), zero_add]
    · refine Finset.sum_congr rfl fun i _ => ?_
      rw [if_pos (by show (64 + i.val) / 64 = 1; omega)]
      congr 1
    · intro i _
      exact if_neg (by show ¬ i.val / 64 = 1; omega)

/-- The sum over the lanes of a lane's own head, as the body forms it: one sum per head, the other head's lanes masked. -/
theorem head_sum (f : Fin 128 → EReal) (l : Fin 128) :
    Scalar.select (IntOp.cmpi CmpIPredicate.slt (BitVec.ofNat 32 l.val) 64#32)
        (∑ x : Fin 128, Scalar.select (IntOp.cmpi CmpIPredicate.slt (BitVec.ofNat 32 x.val) 64#32) (f x) 0)
        (∑ x : Fin 128, Scalar.select (IntOp.cmpi CmpIPredicate.slt (BitVec.ofNat 32 x.val) 64#32) 0 (f x))
      = ∑ k : Fin 64, f ⟨l.val / 64 * 64 + k.val, by omega⟩ := by
  have h0 : ∀ x : Fin 128, Scalar.select (IntOp.cmpi CmpIPredicate.slt (BitVec.ofNat 32 x.val) 64#32) (f x) 0
      = if x.val / 64 = (0 : Fin 2).val then f x else 0 := by
    intro x
    rw [cmp_lane]
    by_cases h : x.val < 64
    · rw [if_pos h, if_pos (by show x.val / 64 = 0; omega)]; rfl
    · rw [if_neg h, if_neg (by show ¬ x.val / 64 = 0; omega)]; rfl
  have h1 : ∀ x : Fin 128, Scalar.select (IntOp.cmpi CmpIPredicate.slt (BitVec.ofNat 32 x.val) 64#32) 0 (f x)
      = if x.val / 64 = (1 : Fin 2).val then f x else 0 := by
    intro x
    rw [cmp_lane]
    by_cases h : x.val < 64
    · rw [if_pos h, if_neg (by show ¬ x.val / 64 = 1; omega)]; rfl
    · rw [if_neg h, if_pos (by show x.val / 64 = 1; omega)]; rfl
  simp only [h0, h1, sum_half]
  rw [cmp_lane]
  by_cases h : l.val < 64
  · rw [if_pos h]
    show (∑ k : Fin 64, f ⟨(0 : Fin 2).val * 64 + k.val, by omega⟩) = _
    refine Finset.sum_congr rfl fun k _ => congrArg f (Fin.ext ?_)
    show 0 * 64 + k.val = l.val / 64 * 64 + k.val
    omega
  · rw [if_neg h]
    show (∑ k : Fin 64, f ⟨(1 : Fin 2).val * 64 + k.val, by omega⟩) = _
    refine Finset.sum_congr rfl fun k _ => congrArg f (Fin.ext ?_)
    show 1 * 64 + k.val = l.val / 64 * 64 + k.val
    omega

/-- A head's norm as the body forms it, from sums over both heads and a factor of 1/64. -/
theorem head_norm (f : Fin 128 → EReal) (gain : Fin 64 → EReal) (l : Fin 128) :
    f l * Ideal.rsqrt
        (Scalar.select (IntOp.cmpi CmpIPredicate.slt (BitVec.ofNat 32 l.val) 64#32)
          (∑ x : Fin 128, Scalar.select (IntOp.cmpi CmpIPredicate.slt (BitVec.ofNat 32 x.val) 64#32) (f x * f x) 0)
          (∑ x : Fin 128, Scalar.select (IntOp.cmpi CmpIPredicate.slt (BitVec.ofNat 32 x.val) 64#32) 0 (f x * f x))
          * Ideal.ofBits .f32 1015021568#32 + Ideal.ofBits .f32 897988541#32) * gain ⟨l.val % 64, by omega⟩
      = headNorm (fun k => f ⟨l.val / 64 * 64 + k.val, by omega⟩) gain ⟨l.val % 64, by omega⟩ := by
  rw [head_sum (fun x => f x * f x), FfnBlock.ofBits_sixtyfourth]
  unfold headNorm
  rw [FfnReference.div_64]
  have e : (⟨l.val / 64 * 64 + l.val % 64, by omega⟩ : Fin 128) = l := Fin.ext (by show l.val / 64 * 64 + l.val % 64 = l.val; omega)
  simp only [e]

/-- A token number divided by 64 the way the body computes it: the truncated quotient, less one where signs differ and a
    remainder is left. -/
theorem floorDiv64 : ∀ k : Fin 8192,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  decide +kernel

/-- The token number of row `r` of tile `i - 1`. -/
theorem token_word : ∀ (i : Fin 17) (r : Fin 512), 1 ≤ i.val →
    IntOp.addi (Scalar.muli (Scalar.subi (BitVec.ofNat 32 i.val) 1#32) 512#32) (BitVec.ofNat 32 r.val)
      = BitVec.ofNat 32 ((i.val - 1) * 512 + r.val) := by
  decide +kernel

/-- Block numbers as words are equal exactly where the blocks are. -/
theorem cmp_block : ∀ a b : Fin 128, IntOp.cmpi CmpIPredicate.eq (BitVec.ofNat 32 a.val) (BitVec.ofNat 32 b.val)
    = if a.val = b.val then 1#1 else 0#1 := by
  decide +kernel

/-- A choice between one and zero. -/
theorem select_ite (p : Prop) [Decidable p] :
    Scalar.select (if p then 1#1 else 0#1) (1 : EReal) 0 = if p then 1 else 0 := by
  split <;> rfl

section
variable (x0 : Vec Ideal S1x512x1024 .f32) (x1 : Vec Ideal S1x1024 .f32) (x2 : Vec Ideal S1024x2304 .bf16)
  (x3 : Vec Ideal S800x1024 .bf16) (x4 : Vec Ideal S64x1 .f32) (x5 : Vec Ideal S2x128 .f32)
  (W : Weights) (hW : Holds W x1 x2 x3 x4 x5)
include hW

/-- The normed rows. -/
theorem pay14_apply (r : Fin 512) (k : Fin 1024) : k0_pay14 x0 x1 (ix2 r k) = normed W (rowOf x0 r) k := by
  pointwise [k0_pay14]
  rw [hW.g1]
  rfl

/-- The plain columns. -/
theorem pay15_apply (r : Fin 512) (j : Fin 2304) : k0_pay15 x0 x1 x2 (ix2 r j) = column W (rowOf x0 r) (plainCol j) := by
  pointwise [k0_pay15]
  simp only [pay14_apply x0 x1 x2 x3 x4 x5 W hW, hW.plain]
  rfl

/-- A column taken as a row. -/
theorem pay40_apply (d : Fin 800) (r : Fin 512) :
    k0_pay40 (k0_pay14 x0 x1) x3 (ix2 d r) = ∑ k, normed W (rowOf x0 r) k * x3 (ix2 d k) := by
  pointwise [k0_pay40]
  simp only [pay14_apply x0 x1 x2 x3 x4 x5 W hW, mul_comm]

/-- The query columns. -/
theorem turned_q (d : Fin 512) (r : Fin 512) :
    k0_pay40 (k0_pay14 x0 x1) x3 (ix2 ⟨d.val, by omega⟩ r) = column W (rowOf x0 r) ⟨d.val, by omega⟩ := by
  rw [pay40_apply x0 x1 x2 x3 x4 x5 W hW]
  simp only [hW.q]
  rfl

/-- The value columns. -/
theorem turned_v (a : Fin 4) (k : Fin 64) (r : Fin 512) :
    k0_pay40 (k0_pay14 x0 x1) x3 (ix2 ⟨512 + (a.val * 64 + k.val), by omega⟩ r) = column W (rowOf x0 r) (valueCol a k) := by
  rw [pay40_apply x0 x1 x2 x3 x4 x5 W hW]
  simp only [hW.v]
  rfl

/-- The gates' logits. -/
theorem turned_g (d : Fin 32) (r : Fin 512) :
    k0_pay40 (k0_pay14 x0 x1) x3 (ix2 ⟨768 + d.val, by omega⟩ r) = logit W (rowOf x0 r) d := by
  rw [pay40_apply x0 x1 x2 x3 x4 x5 W hW]
  simp only [hW.gate]
  unfold logit column
  split
  · rfl
  · simp only [mul_zero, Finset.sum_const_zero]

/-- The first block: the queries. -/
theorem pay41_apply (d : Fin 512) (r : Fin 512) : k0_pay41 (k0_pay14 x0 x1) x3 x4 (ix3 0 d r)
    = query W (rowOf x0 r) ⟨d.val / 64, by omega⟩ ⟨d.val % 64, by omega⟩ := by
  pointwise [k0_pay41]
  have hs : ∀ x : Fin 64, k0_pay40 (k0_pay14 x0 x1) x3 (ix2 ⟨d.val / 64 * 64 + x.val, by omega⟩ r)
      = column W (rowOf x0 r) ⟨d.val / 64 * 64 + x.val, by omega⟩ := fun x =>
    turned_q x0 x1 x2 x3 x4 x5 W hW ⟨d.val / 64 * 64 + x.val, by omega⟩ r
  simp only [hs, turned_q x0 x1 x2 x3 x4 x5 W hW d r, hW.qg]
  unfold query headNorm
  have e : (⟨d.val / 64 * 64 + d.val % 64, by omega⟩ : Fin 3096) = ⟨d.val, by omega⟩ :=
    Fin.ext (by show d.val / 64 * 64 + d.val % 64 = d.val; omega)
  simp only [e]

/-- The gates. -/
theorem pay6_apply (d : Fin 32) (r : Fin 512) : k0_pay6 (k0_pay40 (k0_pay14 x0 x1) x3) (ix3 0 d r)
    = Ideal.logistic (logit W (rowOf x0 r) d) := by
  pointwise [k0_pay6]
  rw [turned_g x0 x1 x2 x3 x4 x5 W hW]

/-- The selection's keys. -/
theorem pay21_apply (g : Vec Ideal S1x128 .f32) (hg : ∀ l, g (ix2 0 l) = x5 (ix2 0 l)) (r : Fin 512) (l : Fin 128) :
    k0_pay21 (k0_pay15 x0 x1 x2) kernelRun0_B.sl.v39 k0_pay19 g (ix2 r l)
    = selectKey W (rowOf x0 r) ⟨l.val / 64, by omega⟩ ⟨l.val % 64, by omega⟩ := by
  pointwise [k0_pay21, kernelRun0_B.sl.v39, k0_pay19, k0_pay20]
  have hc : ∀ x : Fin 128, k0_pay15 x0 x1 x2 (ix2 r ⟨256 + x.val, by omega⟩) = column W (rowOf x0 r) ⟨768 + x.val, by omega⟩ := by
    intro x
    rw [pay15_apply x0 x1 x2 x3 x4 x5 W hW]
    congr 1
    unfold plainCol
    simp only [show 256 + x.val < 384 by omega, if_true]
    apply Fin.ext
    show 512 + (256 + x.val) = 768 + x.val
    omega
  simp only [hc, hg, hW.kg]
  rw [head_norm (fun x => column W (rowOf x0 r) ⟨768 + x.val, by omega⟩)]
  rfl

/-- The window's keys. -/
theorem pay26_apply (g : Vec Ideal S1x128 .f32) (hg : ∀ l, g (ix2 0 l) = x5 (ix2 1 l)) (r : Fin 512) (l : Fin 128) :
    k0_pay26 (k0_pay22 (k0_pay15 x0 x1 x2)) (k0_pay23 g) (k0_pay24 (k0_pay15 x0 x1 x2) kernelRun0_B.sl.v39 k0_pay19)
        k0_pay25 (ix2 r l)
    = windowKey W (rowOf x0 r) ⟨l.val / 64, by omega⟩ ⟨l.val % 64, by omega⟩ := by
  pointwise [k0_pay26, k0_pay22, k0_pay23, k0_pay24, k0_pay25, kernelRun0_B.sl.v39, k0_pay19, k0_pay20]
  have hc : ∀ x : Fin 128, k0_pay15 x0 x1 x2 (ix2 r ⟨384 + x.val, by omega⟩) = column W (rowOf x0 r) ⟨1024 + x.val, by omega⟩ := by
    intro x
    rw [pay15_apply x0 x1 x2 x3 x4 x5 W hW]
    congr 1
    unfold plainCol
    simp only [show ¬ 384 + x.val < 384 by omega, show 384 + x.val < 512 by omega, if_true, if_false]
    apply Fin.ext
    show 1024 + (384 + x.val - 384) = 1024 + x.val
    omega
  simp only [hc, hg, hW.kg]
  rw [head_norm (fun x => column W (rowOf x0 r) ⟨1024 + x.val, by omega⟩)]
  rfl
end

/-- The block lanes: a one in the lane of the token's block of 64. -/
theorem pay27_apply (i : grid0.Coords) (hi : 1 ≤ (i 1).val) (r : Fin 512) (l : Fin 128) :
    k0_pay27 (F := Ideal) (kernelRun0_B.sl.v6 i) (ix2 r l)
      = if (((i 1).val - 1) * 512 + r.val) / 64 = l.val then (1 : EReal) else 0 := by
  pointwise [k0_pay27]
  unfold kernelRun0_B.sl.v6
  have h17 : (i 1).val < 17 := (i 1).isLt
  have hw := token_word (i 1) r hi
  rw [hw, floorDiv64 ⟨((i 1).val - 1) * 512 + r.val, by omega⟩]
  have hb := cmp_block ⟨(((i 1).val - 1) * 512 + r.val) / 64, by omega⟩ l
  simp only at hb
  rw [hb, select_ite]

/-- The row of ones and the rows of zeros below the values. -/
theorem pay44_apply (e : Fin 16) (q : Fin 256) : k0_pay44 (F := Ideal) (ix2 e q) = if e.val = 0 then (1 : EReal) else 0 := by
  pointwise [k0_pay44]
  have h : ∀ e : Fin 16, IntOp.cmpi CmpIPredicate.eq (BitVec.ofNat 32 e.val) 0#32 = if e.val = 0 then 1#1 else 0#1 := by
    decide +kernel
  rw [h, select_ite]

/-- The mark rows of the selection's keys. -/
theorem pay7_apply (r : Fin 512) (l : Fin 256) : k0_pay7 (F := Ideal) (ix2 r l) = if l.val = 64 then (1 : EReal) else 0 := by
  pointwise [k0_pay7]
  rw [ProjReference.cmp_mark, select_ite]

/-- The mark rows of the window's keys. -/
theorem pay10_apply (r : Fin 512) (l : Fin 128) : k0_pay10 (F := Ideal) (ix2 r l) = if l.val = 64 then (1 : EReal) else 0 := by
  pointwise [k0_pay10]
  rw [ProjReference.cmp_mark ⟨l.val, by omega⟩, select_ite]

end Cert.Proof.ProjPayload

end
-- ==== Proof.ProjBlock.lean ====
/-
  What one grid point of the `ProjIdeal` body leaves in its eight output blocks, entry by entry: at a sequence's first point
  the mark rows and the zero blocks in front of the keys and values, at every other point the results of the tile's tokens.
-/
module

public import proofs.«01_k».proof.Proof.ProjPayload

@[expose] public section

set_option maxRecDepth 65536
set_option maxHeartbeats 4000000

noncomputable section

namespace Cert.Proof.ProjBlock

open Idealize.ShloMosaic Idealize.ShloMosaic.TcCoe Idealize.SL.Sem
open Cert.ProjIdeal Cert.ProjIdeal.Gen
open Cert.Proof.ProjSpec Cert.Proof.ProjHost Cert.Proof.ProjPayload
open scoped BigOperators

/-- A stored piece whose leading axes have length one is a block of an array where its entries are the array's. -/
theorem piece4 {d1 d2 d3 d4 n m : ℕ} {e : EltTy} (G : (⟨4, ![d1, d2, d3, d4]⟩ : Shape).Idx → Elt Ideal e) (g w : ℕ)
    (inb : ∀ a, (![0, g, 0, w] : Fin 4 → ℕ) a + (![1, 1, n, m] : Fin 4 → ℕ) a ≤ (⟨4, ![d1, d2, d3, d4]⟩ : Shape).size a)
    (P : (⟨4, ![1, 1, n, m]⟩ : Shape).Idx → Elt Ideal e)
    (h : ∀ (r : Fin n) (l : Fin m) (y : (⟨4, ![d1, d2, d3, d4]⟩ : Shape).Idx), (y 1).val = g → (y 2).val = r.val →
      (y 3).val = w + l.val → P (ix4 0 0 r l) = G y)
    (x : (⟨4, ![1, 1, n, m]⟩ : Shape).Idx) :
    P x = G ((Rect.unit (s := ⟨4, ![d1, d2, d3, d4]⟩) ![0, g, 0, w] ![1, 1, n, m] inb).emb x) := by
  have h1 : (x 1).val < 1 := (x 1).isLt
  have e : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg P e).trans (h (x 2) (x 3) _ ?_ ?_ ?_)
  · show g + 1 * (x 1).val = g
    omega
  · show 0 + 1 * (x 2).val = (x 2).val
    omega
  · show w + 1 * (x 3).val = w + (x 3).val
    omega

/-- The same of an array with five axes. -/
theorem piece5 {d1 d2 d3 d4 d5 n m : ℕ} {e : EltTy} (G : (⟨5, ![d1, d2, d3, d4, d5]⟩ : Shape).Idx → Elt Ideal e) (a j w : ℕ)
    (inb : ∀ k, (![0, a, j, w, 0] : Fin 5 → ℕ) k + (![1, 1, 1, n, m] : Fin 5 → ℕ) k ≤ (⟨5, ![d1, d2, d3, d4, d5]⟩ : Shape).size k)
    (P : (⟨5, ![1, 1, 1, n, m]⟩ : Shape).Idx → Elt Ideal e)
    (h : ∀ (r : Fin n) (q : Fin m) (y : (⟨5, ![d1, d2, d3, d4, d5]⟩ : Shape).Idx), (y 1).val = a → (y 2).val = j →
      (y 3).val = w + r.val → (y 4).val = q.val → P (ix5 0 0 0 r q) = G y)
    (x : (⟨5, ![1, 1, 1, n, m]⟩ : Shape).Idx) :
    P x = G ((Rect.unit (s := ⟨5, ![d1, d2, d3, d4, d5]⟩) ![0, a, j, w, 0] ![1, 1, 1, n, m] inb).emb x) := by
  have h1 : (x 1).val < 1 := (x 1).isLt
  have h2 : (x 2).val < 1 := (x 2).isLt
  have e : x = ix5 0 0 0 (x 3) (x 4) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl
  refine (congrArg P e).trans (h (x 3) (x 4) _ ?_ ?_ ?_ ?_)
  · show a + 1 * (x 1).val = a
    omega
  · show j + 1 * (x 2).val = j
    omega
  · show w + 1 * (x 3).val = w + (x 3).val
    omega
  · show 0 + 1 * (x 4).val = (x 4).val
    omega

/-- The block of the selection's keys that holds the marks. -/
def markBlock {n : ℕ} (y : (⟨4, ![1, 2, 512, n]⟩ : Shape).Idx) : EReal := if (y 3).val = 64 then 1 else 0

/-- The block of the selection's keys of a tile whose first token is token `512 p` of its sequence. -/
def selectBlock (W : Weights) (R : Fin 512 → Row) (p : ℕ) (y : S1x2x512x256.Idx) : EReal :=
  selectLane W (R (y 2)) (y 1) ((p * 512 + (y 2).val) / 64) (y 3).val

/-- The block of the window's keys of a tile. -/
def windowBlock (W : Weights) (R : Fin 512 → Row) (y : S1x2x512x128.Idx) : EReal := windowLane W (R (y 2)) (y 1) (y 3).val

/-- The block of the values of a tile, two columns of 256 tokens. -/
def valueBlock (W : Weights) (R : Fin 512 → Row) (y : S1x4x2x80x256.Idx) : EReal :=
  valueRow W (R ⟨(y 2).val * 256 + (y 4).val, by
    have h2 : (y 2).val < 2 := (y 2).isLt
    have h4 : (y 4).val < 256 := (y 4).isLt
    omega⟩) (y 1) (y 3)

/-- A block entry among the first 64 lanes is a key's. -/
theorem selectBlock_key (W : Weights) (R : Fin 512 → Row) (p : ℕ) (g : Fin 2) (r : Fin 512) (l : Fin 64) (y : S1x2x512x256.Idx)
    (h1 : (y 1).val = g.val) (h2 : (y 2).val = r.val) (h3 : (y 3).val = 0 + l.val) :
    selectKey W (R r) g l = selectBlock W R p y := by
  have e1 : y 1 = g := Fin.ext h1
  have e2 : y 2 = r := Fin.ext h2
  unfold selectBlock selectLane
  rw [e1, e2, dif_pos (by omega)]
  exact congrArg _ (Fin.ext (by show l.val = (y 3).val; omega))

/-- A block entry among the next 64 lanes is zero. -/
theorem selectBlock_zero (W : Weights) (R : Fin 512 → Row) (p : ℕ) (l : Fin 64) (y : S1x2x512x256.Idx)
    (h3 : (y 3).val = 64 + l.val) : (0 : EReal) = selectBlock W R p y := by
  unfold selectBlock selectLane
  rw [dif_neg (by omega), if_pos (by omega)]

/-- A block entry among the last 128 lanes marks the token's block of 64. -/
theorem selectBlock_mark (W : Weights) (R : Fin 512 → Row) (p : ℕ) (r : Fin 512) (l : Fin 128) (y : S1x2x512x256.Idx)
    (h2 : (y 2).val = r.val) (h3 : (y 3).val = 128 + l.val) :
    (if (p * 512 + r.val) / 64 = l.val then (1 : EReal) else 0) = selectBlock W R p y := by
  unfold selectBlock selectLane
  rw [dif_neg (by omega), if_neg (c := (y 3).val < 128) (by omega), h2, show (y 3).val - 128 = l.val by omega]

/-- A block entry of the window's keys among the first 64 lanes is a key's. -/
theorem windowBlock_key (W : Weights) (R : Fin 512 → Row) (g : Fin 2) (r : Fin 512) (l : Fin 64) (y : S1x2x512x128.Idx)
    (h1 : (y 1).val = g.val) (h2 : (y 2).val = r.val) (h3 : (y 3).val = 0 + l.val) :
    windowKey W (R r) g l = windowBlock W R y := by
  have e1 : y 1 = g := Fin.ext h1
  have e2 : y 2 = r := Fin.ext h2
  unfold windowBlock windowLane
  rw [e1, e2, dif_pos (by omega)]
  exact congrArg _ (Fin.ext (by show l.val = (y 3).val; omega))

/-- A block entry of the window's keys among the last 64 lanes is zero. -/
theorem windowBlock_zero (W : Weights) (R : Fin 512 → Row) (l : Fin 64) (y : S1x2x512x128.Idx)
    (h3 : (y 3).val = 64 + l.val) : (0 : EReal) = windowBlock W R y := by
  unfold windowBlock windowLane
  rw [dif_neg (by omega)]

/-- A block entry of the values among the first 64 rows is a value. -/
theorem valueBlock_value (W : Weights) (R : Fin 512 → Row) (a : Fin 4) (j : Fin 2) (k : Fin 64) (q : Fin 256) (s : Fin 512)
    (hs : s.val = j.val * 256 + q.val) (y : S1x4x2x80x256.Idx)
    (h1 : (y 1).val = a.val) (h2 : (y 2).val = j.val) (h3 : (y 3).val = 0 + k.val) (h4 : (y 4).val = q.val) :
    column W (R s) (valueCol a k) = valueBlock W R y := by
  have e1 : y 1 = a := Fin.ext h1
  unfold valueBlock valueRow
  rw [e1, dif_pos (by omega)]
  congr 2
  · exact Fin.ext (by show s.val = (y 2).val * 256 + (y 4).val; omega)
  · exact Fin.ext (by show k.val = (y 3).val; omega)

/-- A block entry of the values among the last 16 rows is one in the first of them and zero in the others. -/
theorem valueBlock_one (W : Weights) (R : Fin 512 → Row) (k : Fin 16) (y : S1x4x2x80x256.Idx) (h3 : (y 3).val = 64 + k.val) :
    (if k.val = 0 then (1 : EReal) else 0) = valueBlock W R y := by
  unfold valueBlock valueRow
  rw [dif_neg (by omega)]
  congr 1
  exact propext ⟨fun h => by omega, fun h => by omega⟩

section
variable (c : Dev nD) (i : grid0.Coords) (arg2 : Memref sig .tc .vmem S1x512x1024 .f32) (harg2 : arg2.IsWhole) (arg3 : Memref
  sig .tc .vmem S1x1024 .f32) (harg3 : arg3.IsWhole) (arg4 : Memref sig .tc .vmem S1024x2304 .bf16) (harg4 :
  arg4.IsWhole) (arg5 : Memref sig .tc .vmem S800x1024 .bf16) (harg5 : arg5.IsWhole) (arg6 : Memref sig .tc .vmem
  S64x1 .f32) (harg6 : arg6.IsWhole) (arg7 : Memref sig .tc .vmem S2x128 .f32) (harg7 : arg7.IsWhole) (arg8 : Memref
  sig .tc .vmem S1x512x512 .bf16) (harg8 : arg8.IsWhole) (arg9 : Memref sig .tc .vmem S1x512x128 .f32) (harg9 :
  arg9.IsWhole) (arg10 : Memref sig .tc .vmem S1x512x128 .f32) (harg10 : arg10.IsWhole) (arg11 : Memref sig .tc
  .vmem S1x2x512x256 .bf16) (harg11 : arg11.IsWhole) (arg12 : Memref sig .tc .vmem S1x2x512x128 .bf16) (harg12 :
  arg12.IsWhole) (arg13 : Memref sig .tc .vmem S1x4x2x80x256 .bf16) (harg13 : arg13.IsWhole) (arg14 : Memref sig .tc
  .vmem S1x32x512 .f32) (harg14 : arg14.IsWhole) (arg15 : Memref sig .tc .vmem S1x512x1792 .f32) (harg15 :
  arg15.IsWhole) (hc0 : ¬cond0_0 i) (hc1 : cond0_1 i) (x0 : Vec Ideal S1x512x1024 .f32) (x1 : Vec Ideal S1x1024
  .f32) (x2 : Vec Ideal S1024x2304 .bf16) (x3 : Vec Ideal S800x1024 .bf16) (x4 : Vec Ideal S64x1 .f32) (x5 : Vec
  Ideal S2x128 .f32)
  (W : Weights) (hW : Holds W x1 x2 x3 x4 x5)
include hW

/-- The queries' block. -/
theorem block6 (d r : Fin 512) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 0 d r)
      = query W (rowOf x0 r) ⟨d.val / 64, by omega⟩ ⟨d.val % 64, by omega⟩ := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_B
  dsimp only
  rw [View.canon_cons_unit_lit' _ _ _ (by decide)]
  simp only [kernelRun0_B.sl.r, View.readAt_eq_ld, Memref.IsWhole.read_unread]
  rw [View.ld_unit_lit _ _ (by decide), View.ld_unit_lit _ _ (by decide), View.ld_unit_lit _ _ (by decide), View.ld_unit_lit _ _ (by decide)]
  exact pay41_apply x0 x1 x2 x3 x4 x5 W hW d r

/-- The block of the compression's keys. -/
theorem block7 (r : Fin 512) (j : Fin 128) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 0 r j)
      = column W (rowOf x0 r) (plainCol ⟨0 + j.val, by omega⟩) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_B
  dsimp only
  rw [View.canon_cons_unit_lit' _ _ _ (by decide)]
  simp only [View.readAt_eq_ld, Memref.IsWhole.read_unread]
  rw [View.ld_unit_lit _ _ (by decide), View.ld_unit_lit _ _ (by decide), View.ld_unit_lit _ _ (by decide)]
  pointwise [k0_pay16]
  rw [pay15_apply x0 x1 x2 x3 x4 x5 W hW]

/-- The block of the compression's values. -/
theorem block8 (r : Fin 512) (j : Fin 128) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 0 r j)
      = column W (rowOf x0 r) (plainCol ⟨128 + j.val, by omega⟩) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_B
  dsimp only
  rw [View.canon_cons_unit_lit' _ _ _ (by decide)]
  simp only [View.readAt_eq_ld, Memref.IsWhole.read_unread]
  rw [View.ld_unit_lit _ _ (by decide), View.ld_unit_lit _ _ (by decide), View.ld_unit_lit _ _ (by decide)]
  pointwise [k0_pay17]
  rw [pay15_apply x0 x1 x2 x3 x4 x5 W hW]

/-- The block of the recurrence's inputs. -/
theorem block13 (r : Fin 512) (j : Fin 1792) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 0 r j)
      = column W (rowOf x0 r) (plainCol ⟨512 + j.val, by omega⟩) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_B
  dsimp only
  rw [View.canon_cons_unit_lit' _ _ _ (by decide)]
  simp only [View.readAt_eq_ld, Memref.IsWhole.read_unread]
  rw [View.ld_unit_lit _ _ (by decide), View.ld_unit_lit _ _ (by decide), View.ld_unit_lit _ _ (by decide)]
  pointwise [k0_pay18]
  rw [pay15_apply x0 x1 x2 x3 x4 x5 W hW]

/-- The gates' block. -/
theorem block12 (d : Fin 32) (r : Fin 512) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 0 d r)
      = Ideal.logistic (logit W (rowOf x0 r) d) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_B
  dsimp only
  rw [View.canon_cons_unit_lit' _ _ _ (by decide)]
  simp only [kernelRun0_B.sl.r_9, kernelRun0_B.sl.r, View.readAt_eq_ld, Memref.IsWhole.read_unread]
  rw [View.ld_unit_lit _ _ (by decide), View.ld_unit_lit _ _ (by decide), View.ld_unit_lit _ _ (by decide)]
  exact pay6_apply x0 x1 x2 x3 x4 x5 W hW d r

/-- The normed selection keys of a tile. -/
theorem keys_apply (r : Fin 512) (l : Fin 128) :
    kernelRun0_B.sl.r_2 (F := Ideal) c arg2 harg2 arg3 harg3 arg4 harg4 arg7 harg7 x0 x1 x2 x5 (ix2 r l)
      = selectKey W (rowOf x0 r) ⟨l.val / 64, by omega⟩ ⟨l.val % 64, by omega⟩ := by
  simp only [kernelRun0_B.sl.r_1, kernelRun0_B.sl.r_2, View.readAt_eq_ld, Memref.IsWhole.read_unread]
  rw [View.ld_unit_lit _ x0 (by decide), View.ld_unit_lit _ x1 (by decide), View.ld_unit_lit _ x2 (by decide)]
  exact pay21_apply x0 x1 x2 x3 x4 x5 W hW _ (fun l => by pointwise) r l

/-- The normed window keys of a tile. -/
theorem windows_apply (r : Fin 512) (l : Fin 128) :
    kernelRun0_B.sl.r_6 (F := Ideal) c arg2 harg2 arg3 harg3 arg4 harg4 arg7 harg7 x0 x1 x2 x5 (ix2 r l)
      = windowKey W (rowOf x0 r) ⟨l.val / 64, by omega⟩ ⟨l.val % 64, by omega⟩ := by
  simp only [kernelRun0_B.sl.r_1, kernelRun0_B.sl.r_3, kernelRun0_B.sl.r_4, kernelRun0_B.sl.r_5, kernelRun0_B.sl.r_6, View.readAt_eq_ld, Memref.IsWhole.read_unread]
  rw [View.ld_unit_lit _ x0 (by decide), View.ld_unit_lit _ x1 (by decide), View.ld_unit_lit _ x2 (by decide)]
  exact pay26_apply x0 x1 x2 x3 x4 x5 W hW _ (fun l => by pointwise) r l

/-- The value columns of a tile, taken as rows. -/
theorem turned_apply (z : Fin 256) (r : Fin 512) :
    kernelRun0_B.sl.r_11 (F := Ideal) c arg2 harg2 arg3 harg3 arg5 harg5 x0 x1 x3 (ix2 z r)
      = column W (rowOf x0 r) (valueCol ⟨z.val / 64, by omega⟩ ⟨z.val % 64, by omega⟩) := by
  simp only [kernelRun0_B.sl.r, kernelRun0_B.sl.r_9, kernelRun0_B.sl.r_10, kernelRun0_B.sl.r_11, View.readAt_eq_ld, Memref.IsWhole.read_unread]
  rw [View.ld_unit_lit _ x0 (by decide), View.ld_unit_lit _ x1 (by decide), View.ld_unit_lit _ x3 (by decide)]
  pointwise [k0_pay43, k0_pay42]
  refine Eq.trans (congrArg _ ?_) (turned_v x0 x1 x2 x3 x4 x5 W hW ⟨z.val / 64, by omega⟩ ⟨z.val % 64, by omega⟩ r)
  congr 1
  exact Fin.ext (by simp <;> omega)

/-- The block of the selection's keys. -/
theorem block9 (hi : 1 ≤ (i 1).val) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = selectBlock W (rowOf x0) ((i 1).val - 1) := by
  funext y
  have hc := cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
  unfold out0_B_9
  rw [View.read_writes_eq_canon _ _ _ hc]
  have h := View.canon_append_of_piecesOf (selectBlock W (rowOf x0) ((i 1).val - 1)) [] _ ?_ y (hc y)
  · rw [List.append_nil] at h
    exact h
  unfold kernelRun0_B
  dsimp only
  refine ⟨?_, ?_, ?_, ?_, ?_, ?_, trivial⟩
  · refine piece4 _ 1 128 (by decide) _ fun r l y h1 h2 h3 => ?_
    pointwise [k0_pay37]
    simp only [kernelRun0_B.sl.r_7]
    rw [pay27_apply i hi r l]
    exact selectBlock_mark W _ _ r l y h2 h3
  · refine piece4 _ 1 64 (by decide) _ fun r l y h1 h2 h3 => ?_
    pointwise [k0_pay36, k0_pay28]
    exact selectBlock_zero W _ _ l y h3
  · refine piece4 _ 1 0 (by decide) _ fun r l y h1 h2 h3 => ?_
    pointwise [k0_pay35, k0_pay29]
    rw [keys_apply c arg2 harg2 arg3 harg3 arg4 harg4 arg7 harg7 x0 x1 x2 x3 x4 x5 W hW]
    refine Eq.trans ?_ (selectBlock_key W _ _ 1 r l y h1 h2 h3)
    congr 1
    · exact Fin.ext (by simp <;> omega)
    · exact Fin.ext (by simp <;> omega)
  · refine piece4 _ 0 128 (by decide) _ fun r l y h1 h2 h3 => ?_
    pointwise [k0_pay32]
    simp only [kernelRun0_B.sl.r_7]
    rw [pay27_apply i hi r l]
    exact selectBlock_mark W _ _ r l y h2 h3
  · refine piece4 _ 0 64 (by decide) _ fun r l y h1 h2 h3 => ?_
    pointwise [k0_pay31, k0_pay28]
    exact selectBlock_zero W _ _ l y h3
  · refine piece4 _ 0 0 (by decide) _ fun r l y h1 h2 h3 => ?_
    simp only [kernelRun0_B.sl.r_8]
    pointwise [k0_pay30, k0_pay29]
    rw [keys_apply c arg2 harg2 arg3 harg3 arg4 harg4 arg7 harg7 x0 x1 x2 x3 x4 x5 W hW]
    refine Eq.trans ?_ (selectBlock_key W _ _ 0 r l y h1 h2 h3)
    congr 1
    · exact Fin.ext (by simp <;> omega)
    · exact Fin.ext (by simp <;> omega)

/-- The block of the window's keys. -/
theorem block10 :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = windowBlock W (rowOf x0) := by
  funext y
  have hc := cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
  unfold out0_B_10
  rw [View.read_writes_eq_canon _ _ _ hc]
  have h := View.canon_append_of_piecesOf (windowBlock W (rowOf x0)) [] _ ?_ y (hc y)
  · rw [List.append_nil] at h
    exact h
  unfold kernelRun0_B
  dsimp only
  refine ⟨?_, ?_, ?_, ?_, trivial⟩
  · refine piece4 _ 1 64 (by decide) _ fun r l y h1 h2 h3 => ?_
    pointwise [k0_pay39, k0_pay28]
    exact windowBlock_zero W _ l y h3
  · refine piece4 _ 1 0 (by decide) _ fun r l y h1 h2 h3 => ?_
    pointwise [k0_pay38]
    rw [windows_apply c arg2 harg2 arg3 harg3 arg4 harg4 arg7 harg7 x0 x1 x2 x3 x4 x5 W hW]
    refine Eq.trans ?_ (windowBlock_key W _ 1 r l y h1 h2 h3)
    congr 1
    · exact Fin.ext (by simp <;> omega)
    · exact Fin.ext (by simp <;> omega)
  · refine piece4 _ 0 64 (by decide) _ fun r l y h1 h2 h3 => ?_
    pointwise [k0_pay34, k0_pay28]
    exact windowBlock_zero W _ l y h3
  · refine piece4 _ 0 0 (by decide) _ fun r l y h1 h2 h3 => ?_
    pointwise [k0_pay33]
    rw [windows_apply c arg2 harg2 arg3 harg3 arg4 harg4 arg7 harg7 x0 x1 x2 x3 x4 x5 W hW]
    refine Eq.trans ?_ (windowBlock_key W _ 0 r l y h1 h2 h3)
    congr 1
    · exact Fin.ext (by simp <;> omega)
    · exact Fin.ext (by simp <;> omega)

/-- The block of the values. -/
theorem block11 :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = valueBlock W (rowOf x0) := by
  funext y
  have hc := cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
  unfold out0_B_11
  rw [View.read_writes_eq_canon _ _ _ hc]
  have h := View.canon_append_of_piecesOf (valueBlock W (rowOf x0)) [] _ ?_ y (hc y)
  · rw [List.append_nil] at h
    exact h
  unfold kernelRun0_B
  dsimp only
  refine ⟨?_, ?_, ?_, ?_, ?_, ?_, ?_, ?_, ?_, ?_, ?_, ?_, ?_, ?_, ?_, ?_, trivial⟩
  · refine piece5 _ 3 1 64 (by decide) _ fun r q y h1 h2 h3 h4 => ?_
    pointwise [k0_pay5]
    rw [pay44_apply]
    exact valueBlock_one W _ r y h3
  · refine piece5 _ 3 1 0 (by decide) _ fun r q y h1 h2 h3 h4 => ?_
    pointwise [k0_pay4]
    rw [turned_apply c arg2 harg2 arg3 harg3 arg5 harg5 x0 x1 x2 x3 x4 x5 W hW]
    refine Eq.trans ?_ (valueBlock_value W _ 3 1 r q ⟨256 + q.val, by omega⟩ (by simp) y h1 h2 h3 h4)
    congr 2
    all_goals exact Fin.ext (by simp <;> omega)
  · refine piece5 _ 3 0 64 (by decide) _ fun r q y h1 h2 h3 h4 => ?_
    pointwise [k0_pay3]
    rw [pay44_apply]
    exact valueBlock_one W _ r y h3
  · refine piece5 _ 3 0 0 (by decide) _ fun r q y h1 h2 h3 h4 => ?_
    pointwise [k0_pay2]
    rw [turned_apply c arg2 harg2 arg3 harg3 arg5 harg5 x0 x1 x2 x3 x4 x5 W hW]
    refine Eq.trans ?_ (valueBlock_value W _ 3 0 r q ⟨0 + q.val, by omega⟩ (by simp) y h1 h2 h3 h4)
    congr 2
    all_goals exact Fin.ext (by simp <;> omega)
  · refine piece5 _ 2 1 64 (by decide) _ fun r q y h1 h2 h3 h4 => ?_
    pointwise [k0_pay1]
    rw [pay44_apply]
    exact valueBlock_one W _ r y h3
  · refine piece5 _ 2 1 0 (by decide) _ fun r q y h1 h2 h3 h4 => ?_
    pointwise [k0_pay55]
    rw [turned_apply c arg2 harg2 arg3 harg3 arg5 harg5 x0 x1 x2 x3 x4 x5 W hW]
    refine Eq.trans ?_ (valueBlock_value W _ 2 1 r q ⟨256 + q.val, by omega⟩ (by simp) y h1 h2 h3 h4)
    congr 2
    all_goals exact Fin.ext (by simp <;> omega)
  · refine piece5 _ 2 0 64 (by decide) _ fun r q y h1 h2 h3 h4 => ?_
    pointwise [k0_pay54]
    rw [pay44_apply]
    exact valueBlock_one W _ r y h3
  · refine piece5 _ 2 0 0 (by decide) _ fun r q y h1 h2 h3 h4 => ?_
    pointwise [k0_pay53]
    rw [turned_apply c arg2 harg2 arg3 harg3 arg5 harg5 x0 x1 x2 x3 x4 x5 W hW]
    refine Eq.trans ?_ (valueBlock_value W _ 2 0 r q ⟨0 + q.val, by omega⟩ (by simp) y h1 h2 h3 h4)
    congr 2
    all_goals exact Fin.ext (by simp <;> omega)
  · refine piece5 _ 1 1 64 (by decide) _ fun r q y h1 h2 h3 h4 => ?_
    pointwise [k0_pay52]
    rw [pay44_apply]
    exact valueBlock_one W _ r y h3
  · refine piece5 _ 1 1 0 (by decide) _ fun r q y h1 h2 h3 h4 => ?_
    pointwise [k0_pay51]
    rw [turned_apply c arg2 harg2 arg3 harg3 arg5 harg5 x0 x1 x2 x3 x4 x5 W hW]
    refine Eq.trans ?_ (valueBlock_value W _ 1 1 r q ⟨256 + q.val, by omega⟩ (by simp) y h1 h2 h3 h4)
    congr 2
    all_goals exact Fin.ext (by simp <;> omega)
  · refine piece5 _ 1 0 64 (by decide) _ fun r q y h1 h2 h3 h4 => ?_
    pointwise [k0_pay50]
    rw [pay44_apply]
    exact valueBlock_one W _ r y h3
  · refine piece5 _ 1 0 0 (by decide) _ fun r q y h1 h2 h3 h4 => ?_
    pointwise [k0_pay49]
    change kernelRun0_B.sl.r_11 (F := Ideal) c arg2 harg2 arg3 harg3 arg5 harg5 x0 x1 x3 _ = _
    rw [turned_apply c arg2 harg2 arg3 harg3 arg5 harg5 x0 x1 x2 x3 x4 x5 W hW]
    refine Eq.trans ?_ (valueBlock_value W _ 1 0 r q ⟨0 + q.val, by omega⟩ (by simp) y h1 h2 h3 h4)
    congr 2
    all_goals exact Fin.ext (by simp <;> omega)
  · refine piece5 _ 0 1 64 (by decide) _ fun r q y h1 h2 h3 h4 => ?_
    pointwise [k0_pay48]
    rw [pay44_apply]
    exact valueBlock_one W _ r y h3
  · refine piece5 _ 0 1 0 (by decide) _ fun r q y h1 h2 h3 h4 => ?_
    pointwise [k0_pay47]
    change kernelRun0_B.sl.r_11 (F := Ideal) c arg2 harg2 arg3 harg3 arg5 harg5 x0 x1 x3 _ = _
    rw [turned_apply c arg2 harg2 arg3 harg3 arg5 harg5 x0 x1 x2 x3 x4 x5 W hW]
    refine Eq.trans ?_ (valueBlock_value W _ 0 1 r q ⟨256 + q.val, by omega⟩ (by simp) y h1 h2 h3 h4)
    congr 2
    all_goals exact Fin.ext (by simp <;> omega)
  · refine piece5 _ 0 0 64 (by decide) _ fun r q y h1 h2 h3 h4 => ?_
    pointwise [k0_pay46]
    rw [pay44_apply]
    exact valueBlock_one W _ r y h3
  · refine piece5 _ 0 0 0 (by decide) _ fun r q y h1 h2 h3 h4 => ?_
    pointwise [k0_pay45]
    change kernelRun0_B.sl.r_11 (F := Ideal) c arg2 harg2 arg3 harg3 arg5 harg5 x0 x1 x3 _ = _
    rw [turned_apply c arg2 harg2 arg3 harg3 arg5 harg5 x0 x1 x2 x3 x4 x5 W hW]
    refine Eq.trans ?_ (valueBlock_value W _ 0 0 r q ⟨0 + q.val, by omega⟩ (by simp) y h1 h2 h3 h4)
    congr 2
    all_goals exact Fin.ext (by simp <;> omega)

end

section
variable (c : Dev nD) (i : grid0.Coords) (arg2 : Memref sig .tc .vmem S1x512x1024 .f32) (harg2 : arg2.IsWhole) (arg3 : Memref
  sig .tc .vmem S1x1024 .f32) (harg3 : arg3.IsWhole) (arg4 : Memref sig .tc .vmem S1024x2304 .bf16) (harg4 :
  arg4.IsWhole) (arg5 : Memref sig .tc .vmem S800x1024 .bf16) (harg5 : arg5.IsWhole) (arg6 : Memref sig .tc .vmem
  S64x1 .f32) (harg6 : arg6.IsWhole) (arg7 : Memref sig .tc .vmem S2x128 .f32) (harg7 : arg7.IsWhole) (arg8 : Memref
  sig .tc .vmem S1x512x512 .bf16) (harg8 : arg8.IsWhole) (arg9 : Memref sig .tc .vmem S1x512x128 .f32) (harg9 :
  arg9.IsWhole) (arg10 : Memref sig .tc .vmem S1x512x128 .f32) (harg10 : arg10.IsWhole) (arg11 : Memref sig .tc
  .vmem S1x2x512x256 .bf16) (harg11 : arg11.IsWhole) (arg12 : Memref sig .tc .vmem S1x2x512x128 .bf16) (harg12 :
  arg12.IsWhole) (arg13 : Memref sig .tc .vmem S1x4x2x80x256 .bf16) (harg13 : arg13.IsWhole) (arg14 : Memref sig .tc
  .vmem S1x32x512 .f32) (harg14 : arg14.IsWhole) (arg15 : Memref sig .tc .vmem S1x512x1792 .f32) (harg15 :
  arg15.IsWhole) (hc0 : cond0_0 i) (hc1 : ¬cond0_1 i) (x0 : Vec Ideal S1x512x1024 .f32) (x1 : Vec Ideal S1x1024
  .f32) (x2 : Vec Ideal S1024x2304 .bf16) (x3 : Vec Ideal S800x1024 .bf16) (x4 : Vec Ideal S64x1 .f32) (x5 : Vec
  Ideal S2x128 .f32)

/-- The mark rows of the selection's keys. -/
theorem mark9 : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = markBlock := by
  funext y
  have hc := cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
  unfold out0_A_9
  rw [View.read_writes_eq_canon _ _ _ hc]
  have h := View.canon_append_of_piecesOf markBlock [] _ ?_ y (hc y)
  · rw [List.append_nil] at h
    exact h
  unfold kernelRun0_A
  dsimp only
  refine ⟨?_, ?_, trivial⟩
  · refine piece4 _ 1 0 (by decide) _ fun r l y h1 h2 h3 => ?_
    pointwise [k0_pay9]
    rw [pay7_apply]
    unfold markBlock
    rw [h3, Nat.zero_add]
  · refine piece4 _ 0 0 (by decide) _ fun r l y h1 h2 h3 => ?_
    pointwise [k0_pay8]
    rw [pay7_apply]
    unfold markBlock
    rw [h3, Nat.zero_add]

/-- The mark rows of the window's keys. -/
theorem mark10 : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = markBlock := by
  funext y
  have hc := cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
  unfold out0_A_10
  rw [View.read_writes_eq_canon _ _ _ hc]
  have h := View.canon_append_of_piecesOf markBlock [] _ ?_ y (hc y)
  · rw [List.append_nil] at h
    exact h
  unfold kernelRun0_A
  dsimp only
  refine ⟨?_, ?_, trivial⟩
  · refine piece4 _ 1 0 (by decide) _ fun r l y h1 h2 h3 => ?_
    pointwise [k0_pay12]
    rw [pay10_apply]
    unfold markBlock
    rw [h3, Nat.zero_add]
  · refine piece4 _ 0 0 (by decide) _ fun r l y h1 h2 h3 => ?_
    pointwise [k0_pay11]
    rw [pay10_apply]
    unfold markBlock
    rw [h3, Nat.zero_add]

/-- The zero blocks in front of the values. -/
theorem zero11 (a : Fin 4) (j : Fin 2) (r : Fin 80) (q : Fin 256) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix5 0 a j r q) = 0 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  rw [View.canon_cons_unit_lit' _ _ _ (by decide)]
  pointwise [k0_pay13]

end

end Cert.Proof.ProjBlock

end
-- ==== Proof.ProjTile.lean ====
/-
  Where the `ProjIdeal` kernel's blocks stand: the staged tokens of a grid point, the staged weights, and which points write
  a block back.
-/
module

public import proofs.«01_k».proof.Proof.ProjBlock

@[expose] public section

set_option maxRecDepth 65536
set_option maxHeartbeats 4000000

noncomputable section

namespace Cert.Proof.ProjTile

open Idealize.ShloMosaic Idealize.ShloMosaic.TcCoe Idealize.SL.Sem
open Cert.ProjIdeal Cert.ProjIdeal.Gen
open Cert.Proof.ProjSpec Cert.Proof.ProjHost Cert.Proof.ProjPayload Cert.Proof.ProjBlock

/-- Window 0 stands at the grid point's tile. -/
theorem index0 : ∀ t : Fin cfg0.N, win0_0.index t = ![t.val / 17, t.val % 17 - 1, 0] := by decide +kernel
/-- Window 1 is its whole array. -/
theorem index1 : ∀ t : Fin cfg0.N, win0_1.index t = ![0, 0] := by decide +kernel
/-- Window 2 is its whole array. -/
theorem index2 : ∀ t : Fin cfg0.N, win0_2.index t = ![0, 0] := by decide +kernel
/-- Window 3 is its whole array. -/
theorem index3 : ∀ t : Fin cfg0.N, win0_3.index t = ![0, 0] := by decide +kernel
/-- Window 4 is its whole array. -/
theorem index4 : ∀ t : Fin cfg0.N, win0_4.index t = ![0, 0] := by decide +kernel
/-- Window 5 is its whole array. -/
theorem index5 : ∀ t : Fin cfg0.N, win0_5.index t = ![0, 0] := by decide +kernel
/-- Window 6 stands at the grid point's tile. -/
theorem index6 : ∀ t : Fin cfg0.N, win0_6.index t = ![t.val / 17, 0, t.val % 17 - 1] := by decide +kernel
/-- Window 7 stands at the grid point's tile. -/
theorem index7 : ∀ t : Fin cfg0.N, win0_7.index t = ![t.val / 17, t.val % 17 - 1, 0] := by decide +kernel
/-- Window 8 stands at the grid point's tile. -/
theorem index8 : ∀ t : Fin cfg0.N, win0_8.index t = ![t.val / 17, t.val % 17 - 1, 0] := by decide +kernel
/-- Window 9 stands at the grid point, its sequence's front included. -/
theorem index9 : ∀ t : Fin cfg0.N, win0_9.index t = ![t.val / 17, 0, t.val % 17, 0] := by decide +kernel
/-- Window 10 stands at the grid point, its sequence's front included. -/
theorem index10 : ∀ t : Fin cfg0.N, win0_10.index t = ![t.val / 17, 0, t.val % 17, 0] := by decide +kernel
/-- Window 11 stands at the grid point, its sequence's front included. -/
theorem index11 : ∀ t : Fin cfg0.N, win0_11.index t = ![t.val / 17, 0, t.val % 17, 0, 0] := by decide +kernel
/-- Window 12 stands at the grid point's tile. -/
theorem index12 : ∀ t : Fin cfg0.N, win0_12.index t = ![t.val / 17, 0, t.val % 17 - 1] := by decide +kernel
/-- Window 13 stands at the grid point's tile. -/
theorem index13 : ∀ t : Fin cfg0.N, win0_13.index t = ![t.val / 17, t.val % 17 - 1, 0] := by decide +kernel
/-- The second grid axis counts a sequence's points. -/
theorem coord : ∀ t : Fin cfg0.N, (grid0.coords t 1).val = t.val % 17 := by decide +kernel
/-- Window 6 is written back at the tiles only. -/
theorem flush6 : ∀ t : Fin cfg0.N, (cfg0.win 6).flush t = true → 1 ≤ t.val % 17 := by decide +kernel
/-- Window 7 is written back at the tiles only. -/
theorem flush7 : ∀ t : Fin cfg0.N, (cfg0.win 7).flush t = true → 1 ≤ t.val % 17 := by decide +kernel
/-- Window 8 is written back at the tiles only. -/
theorem flush8 : ∀ t : Fin cfg0.N, (cfg0.win 8).flush t = true → 1 ≤ t.val % 17 := by decide +kernel
/-- Window 12 is written back at the tiles only. -/
theorem flush12 : ∀ t : Fin cfg0.N, (cfg0.win 12).flush t = true → 1 ≤ t.val % 17 := by decide +kernel
/-- Window 13 is written back at the tiles only. -/
theorem flush13 : ∀ t : Fin cfg0.N, (cfg0.win 13).flush t = true → 1 ≤ t.val % 17 := by decide +kernel

/-- An index whose first axis has length one. -/
theorem flat3 {n m : ℕ} (y : (⟨3, ![1, n, m]⟩ : Shape).Idx) : y = ix3 0 (y 1) (y 2) := by
  funext a
  match a with
  | ⟨0, _⟩ => exact Subsingleton.elim (α := Fin 1) _ _
  | ⟨1, _⟩ => rfl
  | ⟨2, _⟩ => rfl

/-- An index whose first axis has length one. -/
theorem flat4 {k n m : ℕ} (y : (⟨4, ![1, k, n, m]⟩ : Shape).Idx) : y = ix4 0 (y 1) (y 2) (y 3) := by
  funext a
  match a with
  | ⟨0, _⟩ => exact Subsingleton.elim (α := Fin 1) _ _
  | ⟨1, _⟩ => rfl
  | ⟨2, _⟩ => rfl
  | ⟨3, _⟩ => rfl

/-- An index whose first axis has length one. -/
theorem flat5 {l k n m : ℕ} (y : (⟨5, ![1, l, k, n, m]⟩ : Shape).Idx) : y = ix5 0 (y 1) (y 2) (y 3) (y 4) := by
  funext a
  match a with
  | ⟨0, _⟩ => exact Subsingleton.elim (α := Fin 1) _ _
  | ⟨1, _⟩ => rfl
  | ⟨2, _⟩ => rfl
  | ⟨3, _⟩ => rfl
  | ⟨4, _⟩ => rfl

variable (m : (ℓ : Loc nD τ sig) → Buf (Elt Ideal) ℓ) (c : Dev nD)

/-- A tile's entry. -/
theorem iblk_0 (t : Fin cfg0.N) (r : Fin 512) (j : Fin 1024) (b : Fin 2) (s : Fin 8192) (hb : b.val = t.val / 17)
    (hs : s.val = 512 * (t.val % 17 - 1) + r.val) : iblk m c 0 t (ix3 0 r j) = V m c main_arg0 (ix3 b s j) := by
  blk_simp [iblk, index0]
  refine congrArg (V m c main_arg0) ?_
  blk_ext [index0]
/-- A weight's entry. -/
theorem iblk_1 (t : Fin cfg0.N) (r : Fin 1) (j : Fin 1024) : iblk m c 1 t (ix2 r j) = V m c main_v37 (ix2 r j) := by
  blk_simp [iblk, index1]
  refine congrArg (V m c main_v37) ?_
  blk_ext [index1]
/-- A weight's entry. -/
theorem iblk_2 (t : Fin cfg0.N) (r : Fin 1024) (j : Fin 2304) : iblk m c 2 t (ix2 r j) = V m c main_v11 (ix2 r j) := by
  blk_simp [iblk, index2]
  refine congrArg (V m c main_v11) ?_
  blk_ext [index2]
/-- A weight's entry. -/
theorem iblk_3 (t : Fin cfg0.N) (r : Fin 800) (j : Fin 1024) : iblk m c 3 t (ix2 r j) = V m c main_v20 (ix2 r j) := by
  blk_simp [iblk, index3]
  refine congrArg (V m c main_v20) ?_
  blk_ext [index3]
/-- A weight's entry. -/
theorem iblk_4 (t : Fin cfg0.N) (r : Fin 64) (j : Fin 1) : iblk m c 4 t (ix2 r j) = V m c main_v22 (ix2 r j) := by
  blk_simp [iblk, index4]
  refine congrArg (V m c main_v22) ?_
  blk_ext [index4]
/-- A weight's entry. -/
theorem iblk_5 (t : Fin cfg0.N) (r : Fin 2) (j : Fin 128) : iblk m c 5 t (ix2 r j) = V m c main_v35 (ix2 r j) := by
  blk_simp [iblk, index5]
  refine congrArg (V m c main_v35) ?_
  blk_ext [index5]

/-- The staged weight blocks hold the weights at every grid point. -/
theorem holds (t : Fin cfg0.N) :
    Holds (weights m c) (iblk m c 1 t) (iblk m c 2 t) (iblk m c 3 t) (iblk m c 4 t) (iblk m c 5 t) where
  g1 k := by rw [iblk_1, V_g1]
  plain k j := by rw [iblk_2, V_plain]
  q d k := by rw [iblk_3, V_turned, dif_pos d.isLt]
  v a r k := by
    rw [iblk_3, V_turned, dif_neg (by simp only; omega)]
    unfold valueCol
    have ha : a.val < 4 := a.isLt
    by_cases h : a.val < 2
    · rw [dif_pos (by simp only; omega), if_pos h]
      exact congrArg _ (Fin.ext (by simp only; omega))
    · rw [dif_neg (by simp only; omega), dif_pos (by simp only; omega), if_neg h]
      exact congrArg _ (Fin.ext (by simp only; omega))
  gate r k := by
    rw [iblk_3, V_turned, dif_neg (by simp only; omega), dif_neg (by simp only; omega), dif_neg (by simp only; omega)]
    simp only [show 768 + r.val - 768 = r.val by omega]
  qg k := by rw [iblk_4, V_qg]
  kg i l := by rw [iblk_5, V_kg]

/-- The staged rows of a tile are its tokens. -/
theorem row_eq (t : Fin cfg0.N) (r : Fin 512) (b : Fin 2) (s : Fin 8192) (hb : b.val = t.val / 17)
    (hs : s.val = 512 * (t.val % 17 - 1) + r.val) : rowOf (iblk m c 0 t) r = tokens m c b s := by
  funext j
  unfold rowOf
  rw [iblk_0 m c t r j b s hb hs]
  rfl

end Cert.Proof.ProjTile

end
-- ==== Proof.ProjArray.lean ====
/-
  The eight arrays that the `ProjIdeal` kernel leaves: the queries, the compression's keys and values, the selection's and
  the window's keys, the values, the gates and the recurrence's inputs, token by token.
-/
module

public import proofs.«01_k».proof.Proof.ProjTile

@[expose] public section

set_option maxRecDepth 65536
set_option maxHeartbeats 4000000

noncomputable section

namespace Cert.Proof.ProjArray

open Idealize.ShloMosaic Idealize.ShloMosaic.TcCoe Idealize.SL.Sem
open Cert.ProjIdeal Cert.ProjIdeal.Gen
open Cert.Proof.ProjSpec Cert.Proof.ProjHost Cert.Proof.ProjPayload Cert.Proof.ProjBlock Cert.Proof.ProjTile

variable (m : (ℓ : Loc nD τ sig) → Buf (Elt Ideal) ℓ) (c : Dev nD)

/-- The queries as an array. -/
def array6 : S2x512x8192.Idx → EReal := fun i => queries (weights m c) (tokens m c) (i 0) (i 1) (i 2)

/-- A block's entry stands at its tile's place. -/
theorem emb6 (t : Fin cfg0.N) (r : Fin 512) (j : Fin 512) (b : Fin 2) (s : Fin 8192) (hb : b.val = t.val / 17)
    (hs : s.val = 512 * (t.val % 17 - 1) + r.val) : (win0_6.blk t).view.emb (ix3 0 j r) = (ix3 b j s) := by
  blk_ext [index6]

/-- The queries after the run. -/
theorem array6_eq : (dats m 0 c).arrAt 6 cfg0.N = array6 m c := by
  refine (dats m 0 c).arrAt_eq_of_covers 6 _ (by decide +kernel) fun t hf y => ?_
  obtain ⟨j, r, rfl⟩ : ∃ (j : Fin 512) (r : Fin 512), y = ix3 0 j r := ⟨y 1, y 2, flat3 y⟩
  have ht : t.val < 34 := t.isLt
  have h1 := flush6 t hf
  blk_simp [index6]
  rw [after0_6, outsAt0_B m c t (by omega) h1]
  rw [emb6 t r j ⟨t.val / 17, by omega⟩ ⟨512 * (t.val % 17 - 1) + r.val, by omega⟩ rfl rfl]
  dsimp only
  rw [block6 (W := weights m c) (hW := holds m c t), row_eq m c t r ⟨t.val / 17, by omega⟩ ⟨512 * (t.val % 17 - 1) + r.val, by omega⟩ rfl rfl]
  rfl

/-- The compression's keys as an array. -/
def array7 : S2x8192x128.Idx → EReal := fun i => columns (weights m c) (tokens m c) 512 128 (by omega) (i 0) (i 1) (i 2)

/-- A block's entry stands at its tile's place. -/
theorem emb7 (t : Fin cfg0.N) (r : Fin 512) (j : Fin 128) (b : Fin 2) (s : Fin 8192) (hb : b.val = t.val / 17)
    (hs : s.val = 512 * (t.val % 17 - 1) + r.val) : (win0_7.blk t).view.emb (ix3 0 r j) = (ix3 b s j) := by
  blk_ext [index7]

/-- The compression's keys after the run. -/
theorem array7_eq : (dats m 0 c).arrAt 7 cfg0.N = array7 m c := by
  refine (dats m 0 c).arrAt_eq_of_covers 7 _ (by decide +kernel) fun t hf y => ?_
  obtain ⟨r, j, rfl⟩ : ∃ (r : Fin 512) (j : Fin 128), y = ix3 0 r j := ⟨y 1, y 2, flat3 y⟩
  have ht : t.val < 34 := t.isLt
  have h1 := flush7 t hf
  blk_simp [index7]
  rw [after0_7, outsAt0_B m c t (by omega) h1]
  rw [emb7 t r j ⟨t.val / 17, by omega⟩ ⟨512 * (t.val % 17 - 1) + r.val, by omega⟩ rfl rfl]
  dsimp only
  rw [block7 (W := weights m c) (hW := holds m c t), row_eq m c t r ⟨t.val / 17, by omega⟩ ⟨512 * (t.val % 17 - 1) + r.val, by omega⟩ rfl rfl]
  unfold plainCol
  rw [if_pos (by simp only; omega)]
  exact congrArg _ (Fin.ext (by show 512 + (0 + j.val) = 512 + j.val; omega))

/-- The compression's values as an array. -/
def array8 : S2x8192x128.Idx → EReal := fun i => columns (weights m c) (tokens m c) 640 128 (by omega) (i 0) (i 1) (i 2)

/-- A block's entry stands at its tile's place. -/
theorem emb8 (t : Fin cfg0.N) (r : Fin 512) (j : Fin 128) (b : Fin 2) (s : Fin 8192) (hb : b.val = t.val / 17)
    (hs : s.val = 512 * (t.val % 17 - 1) + r.val) : (win0_8.blk t).view.emb (ix3 0 r j) = (ix3 b s j) := by
  blk_ext [index8]

/-- The compression's values after the run. -/
theorem array8_eq : (dats m 0 c).arrAt 8 cfg0.N = array8 m c := by
  refine (dats m 0 c).arrAt_eq_of_covers 8 _ (by decide +kernel) fun t hf y => ?_
  obtain ⟨r, j, rfl⟩ : ∃ (r : Fin 512) (j : Fin 128), y = ix3 0 r j := ⟨y 1, y 2, flat3 y⟩
  have ht : t.val < 34 := t.isLt
  have h1 := flush8 t hf
  blk_simp [index8]
  rw [after0_8, outsAt0_B m c t (by omega) h1]
  rw [emb8 t r j ⟨t.val / 17, by omega⟩ ⟨512 * (t.val % 17 - 1) + r.val, by omega⟩ rfl rfl]
  dsimp only
  rw [block8 (W := weights m c) (hW := holds m c t), row_eq m c t r ⟨t.val / 17, by omega⟩ ⟨512 * (t.val % 17 - 1) + r.val, by omega⟩ rfl rfl]
  unfold plainCol
  rw [if_pos (by simp only; omega)]
  exact congrArg _ (Fin.ext (by show 512 + (128 + j.val) = 640 + j.val; omega))

/-- The gates as an array. -/
def array12 : S2x32x8192.Idx → EReal := fun i => gates (weights m c) (tokens m c) (i 0) (i 1) (i 2)

/-- A block's entry stands at its tile's place. -/
theorem emb12 (t : Fin cfg0.N) (r : Fin 512) (j : Fin 32) (b : Fin 2) (s : Fin 8192) (hb : b.val = t.val / 17)
    (hs : s.val = 512 * (t.val % 17 - 1) + r.val) : (win0_12.blk t).view.emb (ix3 0 j r) = (ix3 b j s) := by
  blk_ext [index12]

/-- The gates after the run. -/
theorem array12_eq : (dats m 0 c).arrAt 12 cfg0.N = array12 m c := by
  refine (dats m 0 c).arrAt_eq_of_covers 12 _ (by decide +kernel) fun t hf y => ?_
  obtain ⟨j, r, rfl⟩ : ∃ (j : Fin 32) (r : Fin 512), y = ix3 0 j r := ⟨y 1, y 2, flat3 y⟩
  have ht : t.val < 34 := t.isLt
  have h1 := flush12 t hf
  blk_simp [index12]
  rw [after0_12, outsAt0_B m c t (by omega) h1]
  rw [emb12 t r j ⟨t.val / 17, by omega⟩ ⟨512 * (t.val % 17 - 1) + r.val, by omega⟩ rfl rfl]
  dsimp only
  rw [block12 (W := weights m c) (hW := holds m c t), row_eq m c t r ⟨t.val / 17, by omega⟩ ⟨512 * (t.val % 17 - 1) + r.val, by omega⟩ rfl rfl]
  rfl

/-- The recurrence's inputs as an array. -/
def array13 : S2x8192x1792.Idx → EReal := fun i => columns (weights m c) (tokens m c) 1304 1792 (by omega) (i 0) (i 1) (i 2)

/-- A block's entry stands at its tile's place. -/
theorem emb13 (t : Fin cfg0.N) (r : Fin 512) (j : Fin 1792) (b : Fin 2) (s : Fin 8192) (hb : b.val = t.val / 17)
    (hs : s.val = 512 * (t.val % 17 - 1) + r.val) : (win0_13.blk t).view.emb (ix3 0 r j) = (ix3 b s j) := by
  blk_ext [index13]

/-- The recurrence's inputs after the run. -/
theorem array13_eq : (dats m 0 c).arrAt 13 cfg0.N = array13 m c := by
  refine (dats m 0 c).arrAt_eq_of_covers 13 _ (by decide +kernel) fun t hf y => ?_
  obtain ⟨r, j, rfl⟩ : ∃ (r : Fin 512) (j : Fin 1792), y = ix3 0 r j := ⟨y 1, y 2, flat3 y⟩
  have ht : t.val < 34 := t.isLt
  have h1 := flush13 t hf
  blk_simp [index13]
  rw [after0_13, outsAt0_B m c t (by omega) h1]
  rw [emb13 t r j ⟨t.val / 17, by omega⟩ ⟨512 * (t.val % 17 - 1) + r.val, by omega⟩ rfl rfl]
  dsimp only
  rw [block13 (W := weights m c) (hW := holds m c t), row_eq m c t r ⟨t.val / 17, by omega⟩ ⟨512 * (t.val % 17 - 1) + r.val, by omega⟩ rfl rfl]
  unfold plainCol
  rw [if_neg (by simp only; omega), if_neg (by simp only; omega)]
  exact congrArg _ (Fin.ext (by show 1304 + (512 + j.val - 512) = 1304 + j.val; omega))

/-- The selection's keys as an array. -/
def array9 : S2x2x8704x256.Idx → EReal := fun i => selectKeys (weights m c) (tokens m c) (i 0) (i 1) (i 2) (i 3)

/-- A block's entry stands at its grid point's place. -/
theorem emb9 (t : Fin cfg0.N) (g : Fin 2) (r : Fin 512) (l : Fin 256) (b : Fin 2) (s : Fin 8704) (hb : b.val = t.val / 17)
    (hs : s.val = 512 * (t.val % 17) + r.val) : (win0_9.blk t).view.emb (ix4 0 g r l) = ix4 b g s l := by
  blk_ext [index9]

/-- The selection's keys after the run. -/
theorem array9_eq : (dats m 0 c).arrAt 9 cfg0.N = array9 m c := by
  refine (dats m 0 c).arrAt_eq_of_covers 9 _ (by decide +kernel) fun t hf y => ?_
  obtain ⟨g, r, l, rfl⟩ : ∃ (g : Fin 2) (r : Fin 512) (l : Fin 256), y = ix4 0 g r l := ⟨y 1, y 2, y 3, flat4 y⟩
  have ht : t.val < 34 := t.isLt
  blk_simp [index9]
  rw [after0_9, emb9 t g r l ⟨t.val / 17, by omega⟩ ⟨512 * (t.val % 17) + r.val, by omega⟩ rfl rfl]
  by_cases h0 : t.val % 17 = 0
  · rw [outsAt0_A m c t h0 (by omega)]
    dsimp only
    rw [mark9]
    unfold markBlock array9 selectKeys marked
    rw [dif_pos (by show 512 * (t.val % 17) + r.val < 512; omega)]
    rfl
  · rw [outsAt0_B m c t h0 (by omega)]
    dsimp only
    rw [block9 (W := weights m c) (hW := holds m c t) (hi := by rw [coord]; omega)]
    unfold selectBlock array9 selectKeys marked selectRow
    rw [dif_neg (by show ¬ 512 * (t.val % 17) + r.val < 512; omega)]
    show selectLane _ (rowOf (iblk m c 0 t) r) _ _ _ = _
    rw [row_eq m c t r ⟨t.val / 17, by omega⟩ ⟨512 * (t.val % 17) + r.val - 512, by omega⟩ rfl (by simp only; omega)]
    rw [coord]
    show selectLane _ _ g (((t.val % 17 - 1) * 512 + r.val) / 64) l.val = selectLane _ _ g ((512 * (t.val % 17) + r.val - 512) / 64) l.val
    rw [show (t.val % 17 - 1) * 512 + r.val = 512 * (t.val % 17) + r.val - 512 by omega]
    rfl

/-- The window's keys as an array. -/
def array10 : S2x2x8704x128.Idx → EReal := fun i => windowKeys (weights m c) (tokens m c) (i 0) (i 1) (i 2) (i 3)

/-- A block's entry stands at its grid point's place. -/
theorem emb10 (t : Fin cfg0.N) (g : Fin 2) (r : Fin 512) (l : Fin 128) (b : Fin 2) (s : Fin 8704) (hb : b.val = t.val / 17)
    (hs : s.val = 512 * (t.val % 17) + r.val) : (win0_10.blk t).view.emb (ix4 0 g r l) = ix4 b g s l := by
  blk_ext [index10]

/-- The window's keys after the run. -/
theorem array10_eq : (dats m 0 c).arrAt 10 cfg0.N = array10 m c := by
  refine (dats m 0 c).arrAt_eq_of_covers 10 _ (by decide +kernel) fun t hf y => ?_
  obtain ⟨g, r, l, rfl⟩ : ∃ (g : Fin 2) (r : Fin 512) (l : Fin 128), y = ix4 0 g r l := ⟨y 1, y 2, y 3, flat4 y⟩
  have ht : t.val < 34 := t.isLt
  blk_simp [index10]
  rw [after0_10, emb10 t g r l ⟨t.val / 17, by omega⟩ ⟨512 * (t.val % 17) + r.val, by omega⟩ rfl rfl]
  by_cases h0 : t.val % 17 = 0
  · rw [outsAt0_A m c t h0 (by omega)]
    dsimp only
    rw [mark10]
    unfold markBlock array10 windowKeys marked
    rw [dif_pos (by show 512 * (t.val % 17) + r.val < 512; omega)]
    rfl
  · rw [outsAt0_B m c t h0 (by omega)]
    dsimp only
    rw [block10 (W := weights m c) (hW := holds m c t)]
    unfold windowBlock array10 windowKeys marked windowRow
    rw [dif_neg (by show ¬ 512 * (t.val % 17) + r.val < 512; omega)]
    show windowLane _ (rowOf (iblk m c 0 t) r) _ _ = _
    rw [row_eq m c t r ⟨t.val / 17, by omega⟩ ⟨512 * (t.val % 17) + r.val - 512, by omega⟩ rfl (by simp only; omega)]
    rfl

/-- The values as an array. -/
def array11 : S2x4x34x80x256.Idx → EReal := fun i => values (weights m c) (tokens m c) (i 0) (i 1) (i 2) (i 3) (i 4)

/-- A block's entry stands at its grid point's place. -/
theorem emb11 (t : Fin cfg0.N) (a : Fin 4) (j : Fin 2) (r : Fin 80) (q : Fin 256) (b : Fin 2) (n : Fin 34)
    (hb : b.val = t.val / 17) (hn : n.val = 2 * (t.val % 17) + j.val) :
    (win0_11.blk t).view.emb (ix5 0 a j r q) = ix5 b a n r q := by
  blk_ext [index11]

/-- The values after the run. -/
theorem array11_eq : (dats m 0 c).arrAt 11 cfg0.N = array11 m c := by
  refine (dats m 0 c).arrAt_eq_of_covers 11 _ (by decide +kernel) fun t hf y => ?_
  obtain ⟨a, j, r, q, rfl⟩ : ∃ (a : Fin 4) (j : Fin 2) (r : Fin 80) (q : Fin 256), y = ix5 0 a j r q :=
    ⟨y 1, y 2, y 3, y 4, flat5 y⟩
  have ht : t.val < 34 := t.isLt
  blk_simp [index11]
  rw [after0_11, emb11 t a j r q ⟨t.val / 17, by omega⟩ ⟨2 * (t.val % 17) + j.val, by omega⟩ rfl rfl]
  by_cases h0 : t.val % 17 = 0
  · rw [outsAt0_A m c t h0 (by omega)]
    dsimp only
    rw [zero11]
    unfold array11 values
    rw [dif_pos (by show 2 * (t.val % 17) + j.val < 2; omega)]
  · rw [outsAt0_B m c t h0 (by omega)]
    dsimp only
    rw [block11 (W := weights m c) (hW := holds m c t)]
    unfold valueBlock array11 values
    rw [dif_neg (by show ¬ 2 * (t.val % 17) + j.val < 2; omega)]
    show valueRow _ (rowOf (iblk m c 0 t) ⟨j.val * 256 + q.val, by omega⟩) a r = _
    rw [row_eq m c t _ ⟨t.val / 17, by omega⟩ ⟨(2 * (t.val % 17) + j.val - 2) * 256 + q.val, by omega⟩ rfl
      (by simp only; omega)]
    rfl

end Cert.Proof.ProjArray

end
-- ==== Proof.ProjEquation.lean ====
/-
  The projection kernel and its reference leave the same eight arrays: queries, keys, values, gates and the recurrence's
  inputs, token by token.
-/
module

public import proofs.«01_k».proof.Defs
public import proofs.«01_k».proof.Proof.ProjArray
public import proofs.«01_k».proof.Proof.ProjReference
public import Idealize.ShloMosaic.Lib.Claim

@[expose] public section

set_option maxRecDepth 65536
set_option maxHeartbeats 4000000

noncomputable section

namespace Cert.Proof

open Idealize.ShloMosaic Idealize.ShloMosaic.TcCoe Idealize.SL.Sem
open Cert.Proof.ProjSpec
open Cert.Proof.FfnSpec (Mat Box)

section
variable (x : Box 2 8192 1024) (g1 : Mat 1 1024) (w : Box 1 1024 3096) (qg : Mat 1 64) (kg : Box 1 3 64)

/-- The reference's queries as an array. -/
theorem reference93 : Cert.ProjRefIdeal.Read.val_main_v93 (F := Ideal) x g1 w qg = fun i => queries (weightsOf g1 w qg kg) (tokensOf x) (i 0) (i 1) (i 2) := by
  funext i
  have e : i = ix3 (i 0) (i 1) (i 2) := by
    funext a
    match a with
    | ⟨0, _⟩ => rfl
    | ⟨1, _⟩ => rfl
    | ⟨2, _⟩ => rfl
  exact (congrArg _ e).trans (ProjReference.v93_apply x g1 w qg kg (i 0) (i 1) (i 2))

/-- The reference's compression's keys as an array. -/
theorem reference17 : Cert.ProjRefIdeal.Read.val_main_v17 (F := Ideal) x g1 w = fun i => columns (weightsOf g1 w qg kg) (tokensOf x) 512 128 (by omega) (i 0) (i 1) (i 2) := by
  funext i
  have e : i = ix3 (i 0) (i 1) (i 2) := by
    funext a
    match a with
    | ⟨0, _⟩ => rfl
    | ⟨1, _⟩ => rfl
    | ⟨2, _⟩ => rfl
  exact (congrArg _ e).trans (ProjReference.v17_apply x g1 w qg kg (i 0) (i 1) (i 2))

/-- The reference's compression's values as an array. -/
theorem reference18 : Cert.ProjRefIdeal.Read.val_main_v18 (F := Ideal) x g1 w = fun i => columns (weightsOf g1 w qg kg) (tokensOf x) 640 128 (by omega) (i 0) (i 1) (i 2) := by
  funext i
  have e : i = ix3 (i 0) (i 1) (i 2) := by
    funext a
    match a with
    | ⟨0, _⟩ => rfl
    | ⟨1, _⟩ => rfl
    | ⟨2, _⟩ => rfl
  exact (congrArg _ e).trans (ProjReference.v18_apply x g1 w qg kg (i 0) (i 1) (i 2))

/-- The reference's selection's keys as an array. -/
theorem reference104 : Cert.ProjRefIdeal.Read.val_main_v104 (F := Ideal) x g1 w kg = fun i => selectKeys (weightsOf g1 w qg kg) (tokensOf x) (i 0) (i 1) (i 2) (i 3) := by
  funext i
  have e : i = ix4 (i 0) (i 1) (i 2) (i 3) := by
    funext a
    match a with
    | ⟨0, _⟩ => rfl
    | ⟨1, _⟩ => rfl
    | ⟨2, _⟩ => rfl
    | ⟨3, _⟩ => rfl
  exact (congrArg _ e).trans (ProjReference.v104_apply x g1 w qg kg (i 0) (i 1) (i 2) (i 3))

/-- The reference's window's keys as an array. -/
theorem reference116 : Cert.ProjRefIdeal.Read.val_main_v116 (F := Ideal) x g1 w kg = fun i => windowKeys (weightsOf g1 w qg kg) (tokensOf x) (i 0) (i 1) (i 2) (i 3) := by
  funext i
  have e : i = ix4 (i 0) (i 1) (i 2) (i 3) := by
    funext a
    match a with
    | ⟨0, _⟩ => rfl
    | ⟨1, _⟩ => rfl
    | ⟨2, _⟩ => rfl
    | ⟨3, _⟩ => rfl
  exact (congrArg _ e).trans (ProjReference.v116_apply x g1 w qg kg (i 0) (i 1) (i 2) (i 3))

/-- The reference's values as an array. -/
theorem reference124 : Cert.ProjRefIdeal.Read.val_main_v124 (F := Ideal) x g1 w = fun i => values (weightsOf g1 w qg kg) (tokensOf x) (i 0) (i 1) (i 2) (i 3) (i 4) := by
  funext i
  have e : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  exact (congrArg _ e).trans (ProjReference.v124_apply x g1 w qg kg (i 0) (i 1) (i 2) (i 3) (i 4))

/-- The reference's gates as an array. -/
theorem reference126 : Cert.ProjRefIdeal.Read.val_main_v126 (F := Ideal) x g1 w = fun i => gates (weightsOf g1 w qg kg) (tokensOf x) (i 0) (i 1) (i 2) := by
  funext i
  have e : i = ix3 (i 0) (i 1) (i 2) := by
    funext a
    match a with
    | ⟨0, _⟩ => rfl
    | ⟨1, _⟩ => rfl
    | ⟨2, _⟩ => rfl
  exact (congrArg _ e).trans (ProjReference.v126_apply x g1 w qg kg (i 0) (i 1) (i 2))

/-- The reference's recurrence's inputs as an array. -/
theorem reference24 : Cert.ProjRefIdeal.Read.val_main_v24 (F := Ideal) x g1 w = fun i => columns (weightsOf g1 w qg kg) (tokensOf x) 1304 1792 (by omega) (i 0) (i 1) (i 2) := by
  funext i
  have e : i = ix3 (i 0) (i 1) (i 2) := by
    funext a
    match a with
    | ⟨0, _⟩ => rfl
    | ⟨1, _⟩ => rfl
    | ⟨2, _⟩ => rfl
  exact (congrArg _ e).trans (ProjReference.v24_apply x g1 w qg kg (i 0) (i 1) (i 2))

end

/-- Over the extended reals the kernel's eight result arrays and the reference's agree. -/
theorem algebraic_Proj : Cert.algebraic_ProjIdeal_ProjRefIdeal := by
  pair_intro
  · run_from Cert.ProjIdeal.Value.run_blocks m g
  · run_from Cert.ProjRefIdeal.Value.run m' g'
    · rw [ProjArray.array6_eq, Cert.ProjRefIdeal.Read.val_main_v93_eq]
      obtain ⟨h0, h1, h2, h3, h4⟩ := hagree c
      rw [h0, h1, h2, h3]
      exact reference93 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))
    · rw [ProjArray.array7_eq]
      refine (Cert.ProjRefIdeal.Read.val_main_v17_eq _ _ _).trans ?_
      exact reference17 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))
    · rw [ProjArray.array8_eq]
      refine (Cert.ProjRefIdeal.Read.val_main_v18_eq _ _ _).trans ?_
      exact reference18 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))
    · rw [ProjArray.array9_eq, Cert.ProjRefIdeal.Read.val_main_v104_eq]
      obtain ⟨h0, h1, h2, h3, h4⟩ := hagree c
      rw [h0, h1, h2, h4]
      exact reference104 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))
    · rw [ProjArray.array10_eq, Cert.ProjRefIdeal.Read.val_main_v116_eq]
      obtain ⟨h0, h1, h2, h3, h4⟩ := hagree c
      rw [h0, h1, h2, h4]
      exact reference116 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))
    · rw [ProjArray.array11_eq]
      refine (Cert.ProjRefIdeal.Read.val_main_v124_eq _ _ _).trans ?_
      exact reference124 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))
    · rw [ProjArray.array12_eq]
      refine (Cert.ProjRefIdeal.Read.val_main_v126_eq _ _ _).trans ?_
      exact reference126 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))
    · rw [ProjArray.array13_eq]
      refine (Cert.ProjRefIdeal.Read.val_main_v24_eq _ _ _).trans ?_
      exact reference24 (m (c.tc.loc Cert.ProjIdeal.main_arg0)) (m (c.tc.loc Cert.ProjIdeal.main_arg1)) (m (c.tc.loc Cert.ProjIdeal.main_arg2)) (m (c.tc.loc Cert.ProjIdeal.main_arg3)) (m (c.tc.loc Cert.ProjIdeal.main_arg4))

end Cert.Proof

end
-- ==== Proof.WkvSpec.lean ====
/-
  The gate and the bonus of the recurrence's call, token by token over the extended reals: plain functions of two
  consecutive rows of inputs and of weights, with no program in them. Both the kernel's blocks and the reference's arrays
  are shown to be these functions.
-/
module

public import proofs.«01_k».proof.Proof.FfnInputs

@[expose] public section

noncomputable section

namespace Cert.Proof.WkvSpec

open Idealize.ShloMosaic
open Cert.Proof.FfnSpec (Mat Box headSum)
open scoped BigOperators

/-- The weights that the gate and the bonus read, as functions of their coordinates. -/
structure Weights where
  mu : Fin 1792 → EReal
  a0 : Fin 512 → EReal
  a2 : Fin 64 → Fin 512 → EReal
  g2 : Fin 128 → Fin 512 → EReal
  ka : Fin 512 → EReal
  rk : Fin 512 → EReal

/-- The weights held by the six weight arrays. -/
def weightsOf (mu : Mat 1 1792) (a0 : Mat 1 512) (a2 : Box 1 64 512) (g2 : Box 1 128 512) (ka : Mat 1 512)
    (rk : Box 1 8 64) : Weights where
  mu c := mu (ix2 0 c)
  a0 j := a0 (ix2 0 j)
  a2 k j := a2 (ix3 0 k j)
  g2 k j := g2 (ix3 0 k j)
  ka j := ka (ix2 0 j)
  rk j := rk (ix3 0 ⟨j.val / 64, by omega⟩ ⟨j.val % 64, by omega⟩)

/-- A token's row mixed with the row before it. -/
def mixed (W : Weights) (cur prev : Fin 1792 → EReal) (c : Fin 1792) : EReal := cur c + (prev c - cur c) * W.mu c

/-- The gate of a mixed row. -/
def gate (W : Weights) (u : Fin 1792 → EReal) (j : Fin 512) : EReal :=
  ∑ k : Fin 128, Ideal.logistic (u ⟨1664 + k.val, by omega⟩) * W.g2 k j

/-- The in-context learning rate of a mixed row. -/
def rate (W : Weights) (u : Fin 1792 → EReal) (j : Fin 512) : EReal :=
  Ideal.logistic (W.a0 j + ∑ k : Fin 64, u ⟨1600 + k.val, by omega⟩ * W.a2 k j)

/-- The key of a mixed row. -/
def key (W : Weights) (u : Fin 1792 → EReal) (j : Fin 512) : EReal :=
  u ⟨512 + j.val, by omega⟩ * (1 + (rate W u j - 1) * W.ka j)

/-- The receptance times the key, lane by lane. -/
def pairing (W : Weights) (u : Fin 1792 → EReal) (j : Fin 512) : EReal :=
  u ⟨j.val, by omega⟩ * key W u j * W.rk j

/-- The bonus of a mixed row: the head's sum of the pairings, times the value. -/
def bonus (W : Weights) (u : Fin 1792 → EReal) (j : Fin 512) : EReal :=
  headSum (pairing W u) j * u ⟨1024 + j.val, by omega⟩

/-- The row before token `s` of sequence `b`, zero at the sequence's start. -/
def before (x : Box 2 8192 1792) (b : Fin 2) (s : Fin 8192) (c : Fin 1792) : EReal :=
  if 1 ≤ s.val then x (ix3 b ⟨s.val - 1, by omega⟩ c) else 0

/-- The mixed row of token `s` of sequence `b`. -/
def row (W : Weights) (x : Box 2 8192 1792) (b : Fin 2) (s : Fin 8192) : Fin 1792 → EReal :=
  mixed W (fun c => x (ix3 b s c)) (before x b s)

end Cert.Proof.WkvSpec

end
-- ==== Proof.WkvPayload.lean ====
/-
  The stages of the recurrence kernel's body that make its gate and its bonus, entry by entry over the extended reals:
  a row of the tile is mixed with the row before it, and the gate and the bonus are those of the mixed row.
-/
module

public import proofs.«01_k».proof.Proof.WkvSpec
public import proofs.«01_k».proof.Proof.Gen.WkvIdeal.Skeleton
public import Idealize.ShloMosaic.Lib.Pointwise

@[expose] public section

set_option maxRecDepth 65536
set_option maxHeartbeats 4000000

noncomputable section

namespace Cert.Proof.WkvPayload

open Idealize.ShloMosaic Idealize.ShloMosaic.TcCoe Idealize.SL.Sem
open Cert.WkvIdeal Cert.WkvIdeal.Gen
open Cert.Proof.WkvSpec
open Cert.Proof.FfnSpec (headSum headLane sameHead sum_sameHead)
open scoped BigOperators

/-- The staged weight blocks hold the weights. -/
structure Holds (W : Weights) (x2 : Vec Ideal S1x1792 .f32) (x5 : Vec Ideal S1x512 .f32) (x6 : Vec Ideal S64x512 .bf16)
    (x7 : Vec Ideal S128x512 .bf16) (x9 x10 : Vec Ideal S1x512 .f32) (x11 : Vec Ideal S512x512 .bf16) : Prop where
  mu : ∀ j, x2 (ix2 0 j) = W.mu j
  a0 : ∀ j, x5 (ix2 0 j) = W.a0 j
  a2 : ∀ k j, x6 (ix2 k j) = W.a2 k j
  g2 : ∀ k j, x7 (ix2 k j) = W.g2 k j
  ka : ∀ j, x9 (ix2 0 j) = W.ka j
  rk : ∀ j, x10 (ix2 0 j) = W.rk j
  bd : ∀ k j, x11 (ix2 k j) = sameHead k j

variable {W : Weights} {x2 : Vec Ideal S1x1792 .f32} {x5 : Vec Ideal S1x512 .f32} {x6 : Vec Ideal S64x512 .bf16}
  {x7 : Vec Ideal S128x512 .bf16} {x9 x10 : Vec Ideal S1x512 .f32} {x11 : Vec Ideal S512x512 .bf16}
  (hW : Holds W x2 x5 x6 x7 x9 x10 x11) (x0 : Vec Ideal S1x512x1792 .f32) (v : Vec Ideal S512x1792 .f32)
include hW

/-- Row `r` of the mixed tile. -/
theorem pay3_apply (r : Fin 512) (j : Fin 1792) :
    k0_pay3 x0 v x2 (ix2 r j) = mixed W (fun j => x0 (ix3 0 r j)) (fun j => v (ix2 r j)) j := by
  pointwise [k0_pay3, hW.mu, mixed]

/-- The gate's block. -/
theorem pay21_apply (r j : Fin 512) :
    k0_pay21 (k0_pay14 (k0_pay8 x0 v x2) x7) (ix3 0 r j)
      = gate W (mixed W (fun j => x0 (ix3 0 r j)) (fun j => v (ix2 r j))) j := by
  have h := pay3_apply hW x0 v r
  pointwise [k0_pay21, k0_pay14, k0_pay8, hW.g2, h, gate]

/-- The in-context learning rates. -/
theorem pay13_apply (r j : Fin 512) :
    k0_pay13 (k0_pay7 x0 v x2) x5 x6 (ix2 r j)
      = rate W (mixed W (fun j => x0 (ix3 0 r j)) (fun j => v (ix2 r j))) j := by
  have h := pay3_apply hW x0 v r
  pointwise [k0_pay13, k0_pay7, hW.a0, hW.a2, h, rate]

/-- The keys. -/
theorem pay18_apply (r j : Fin 512) :
    k0_pay18 (k0_pay5 x0 v x2) (k0_pay13 (k0_pay7 x0 v x2) x5 x6) x9 (ix2 r j)
      = key W (mixed W (fun j => x0 (ix3 0 r j)) (fun j => v (ix2 r j))) j := by
  have h := pay3_apply hW x0 v r
  have h' := pay13_apply hW x0 v r
  pointwise [k0_pay18, k0_pay5, hW.ka, h, h', key]

/-- The bonus's block. -/
theorem pay22_apply (r j : Fin 512) :
    k0_pay22 (k0_pay4 x0 v x2) (k0_pay5 x0 v x2) (k0_pay6 x0 v x2) (k0_pay13 (k0_pay7 x0 v x2) x5 x6) x9 x10 x11 (ix3 0 r j)
      = bonus W (mixed W (fun j => x0 (ix3 0 r j)) (fun j => v (ix2 r j))) j := by
  have h := pay3_apply hW x0 v r
  have h' := pay18_apply hW x0 v r
  have hs := sum_sameHead (pairing W (mixed W (fun j => x0 (ix3 0 r j)) (fun j => v (ix2 r j)))) j
  unfold bonus
  rw [← hs]
  pointwise [k0_pay22, k0_pay4, k0_pay6, hW.rk, hW.bd, h, h', pairing]

end Cert.Proof.WkvPayload

end
-- ==== Proof.WkvBlock.lean ====
/-
  What one grid point of the recurrence kernel's body leaves in its gate block and its bonus block: row `r` of each is that
  of the mixed row `r` of the tile, the row before the tile's first coming from the halo, zero at a sequence's start.
-/
module

public import proofs.«01_k».proof.Proof.WkvPayload
public import proofs.«01_k».proof.Proof.Gen.WkvIdeal.Value
public import Idealize.ShloMosaic.Lib.Pipeline.ReadBack

@[expose] public section

set_option maxRecDepth 65536
set_option maxHeartbeats 4000000

noncomputable section

namespace Cert.Proof.WkvBlock

open Idealize.ShloMosaic Idealize.ShloMosaic.TcCoe Idealize.SL.Sem
open Cert.WkvIdeal Cert.WkvIdeal.Gen
open Cert.Proof.WkvSpec Cert.Proof.WkvPayload

/-- The staged rows: the halo's eight, zero where a sequence starts, then the tile's. -/
def staged (n : ℕ) (x0 : Vec Ideal S1x512x1792 .f32) (x1 : Vec Ideal S1x8x1792 .f32) : S520x1792.Idx → EReal := fun z =>
  if h : (z 0).val < 8 then (if n = 0 then 0 else x1 (ix3 0 ⟨(z 0).val, h⟩ (z 1)))
  else x0 (ix3 0 ⟨(z 0).val - 8, by have h0 : (z 0).val < 520 := (z 0).isLt; omega⟩ (z 1))

/-- The row before row `r` of the tile. -/
def above (n : ℕ) (x0 : Vec Ideal S1x512x1792 .f32) (x1 : Vec Ideal S1x8x1792 .f32) (r : Fin 512) (j : Fin 1792) : EReal :=
  if r.val = 0 then (if n = 0 then 0 else x1 (ix3 0 7 j)) else x0 (ix3 0 ⟨r.val - 1, by omega⟩ j)

/-- The grid coordinate as a word is zero exactly where it is. -/
theorem cmp_zero : ∀ n : Fin 16, Scalar.cmpi CmpIPredicate.eq (BitVec.ofNat 32 n.val) 0#32 = if n.val = 0 then 1#1 else 0#1 := by
  decide +kernel

/-- The halo's store. -/
theorem pay1_apply (i : grid0.Coords) (x1 : Vec Ideal S1x8x1792 .f32) (r : Fin 8) (j : Fin 1792) :
    k0_pay1 i x1 (ix2 r j) = if (i 1).val = 0 then 0 else x1 (ix3 0 r j) := by
  have h : ∀ n : Fin 16, Scalar.cmpi CmpIPredicate.eq (BitVec.ofNat 32 n.val) 0#32 = if n.val = 0 then 1#1 else 0#1 := cmp_zero
  have h' := h (i 1)
  unfold k0_pay1
  dsimp only
  rw [h']
  by_cases h0 : (i 1).val = 0
  · simp only [h0, if_true]
    pointwise
  · simp only [h0, if_false]
    pointwise

/-- The tile's store. -/
theorem pay2_apply (x0 : Vec Ideal S1x512x1792 .f32) (r : Fin 512) (j : Fin 1792) :
    k0_pay2 x0 (ix2 r j) = x0 (ix3 0 r j) := by
  pointwise [k0_pay2]

/-- An index of two coordinates by its coordinates. -/
theorem flat2 {a b : ℕ} (x : (⟨2, ![a, b]⟩ : Shape).Idx) : x = ix2 (x 0) (x 1) := by
  funext d; match d with
  | 0 => rfl
  | 1 => rfl

section
variable (c : Dev nD) (i : grid0.Coords) (arg2 : Memref sig .tc .vmem S1x512x1792 .f32) (harg2 : arg2.IsWhole) (arg3 : Memref sig .tc .vmem S1x8x1792 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S64x512 .bf16) (harg6 : arg6.IsWhole) (arg7 : Memref sig .tc .vmem S1x512 .f32) (harg7 : arg7.IsWhole) (arg8 : Memref sig .tc .vmem S64x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S64x512 .f32) (harg17 : arg17.IsWhole) (arg18 : Memref sig .tc .vmem S520x1792 .f32) (harg18 : arg18.IsWhole) (hc0 : cond0_0 i)
  (x0 : Vec Ideal S1x512x1792 .f32) (x1 : Vec Ideal S1x8x1792 .f32) (x2 : Vec Ideal S1x1792 .f32) (x3 : Vec Ideal S1x512 .f32) (x4 : Vec Ideal S64x512 .bf16) (x5 : Vec Ideal S1x512 .f32) (x6 : Vec Ideal S64x512 .bf16) (x7 : Vec Ideal S128x512 .bf16) (x8 : Vec Ideal S1x512 .f32) (x9 : Vec Ideal S1x512 .f32) (x10 : Vec Ideal S1x512 .f32) (x11 : Vec Ideal S512x512 .bf16)

/-- The rows read one above the tile's, at a first tile. -/
theorem prevA (r : Fin 512) (j : Fin 1792) :
    kernelRun0_A.sl.v15 (F := Ideal) c i arg2 harg2 arg3 harg3 arg18 x0 x1 (ix2 r j) = above (i 1).val x0 x1 r j := by
  have hp : View.PiecesOf (staged (i 1).val x0 x1) (kernelRun0_A.sl.HS1_2 (F := Ideal) c i arg2 harg2 arg3 harg3 x0 x1) := by
    unfold kernelRun0_A.sl.HS1_2
    try unfold kernelRun0_A.sl.HS1_1
    simp only [View.readAt_eq_ld, Memref.IsWhole.read_unread]
    rw [View.ld_unit_lit _ _ (by decide), View.ld_unit_lit _ _ (by decide)]
    refine ⟨fun x => ?_, fun x => ?_, trivial⟩
    · obtain ⟨r, j, rfl⟩ : ∃ (r : Fin 512) (j : Fin 1792), x = ix2 r j := ⟨x 0, x 1, flat2 x⟩
      show k0_pay2 x0 (ix2 r j) = _
      rw [pay2_apply]
      have e : (Rect.unit (s := S520x1792) ![8, 0] S512x1792.size inb_S520x1792_S512x1792_8_0).emb (ix2 r j) = ix2 (⟨8 + r.val, by omega⟩ : Fin 520) j := by
        blk_ext
      rw [e, staged, dif_neg (by show ¬ 8 + r.val < 8; omega)]
      congr 2
      exact Fin.ext (by show r.val = 8 + r.val - 8; omega)
    · obtain ⟨r, j, rfl⟩ : ∃ (r : Fin 8) (j : Fin 1792), x = ix2 r j := ⟨x 0, x 1, flat2 x⟩
      show k0_pay1 i x1 (ix2 r j) = _
      rw [pay1_apply]
      have e : (Rect.unit (s := S520x1792) ![0, 0] S8x1792.size inb_S520x1792_S8x1792_0_0).emb (ix2 r j) = ix2 (⟨r.val, by omega⟩ : Fin 520) j := by
        blk_ext
      rw [e, staged, dif_pos (by show r.val < 8; omega)]
      rfl
  have hc : ∀ y, ∃ p ∈ kernelRun0_A.sl.HS1_2 (F := Ideal) c i arg2 harg2 arg3 harg3 x0 x1, y ∈ p.1.set := by
    intro y
    unfold kernelRun0_A.sl.HS1_2
    try unfold kernelRun0_A.sl.HS1_1
    have y0 : (y 0).val < 520 := (y 0).isLt
    have y1 : (y 1).val < 1792 := (y 1).isLt
    by_cases h : (y 0).val < 8
    · refine ⟨_, List.mem_cons_of_mem _ List.mem_cons_self, ?_⟩
      show y ∈ (Rect.unit (s := S520x1792) ![0, 0] S8x1792.size inb_S520x1792_S8x1792_0_0).set
      rw [Rect.mem_set_unit]
      intro a
      match a with
      | 0 => exact ⟨Nat.zero_le _, by show (y 0).val < 0 + 8; omega⟩
      | 1 => exact ⟨Nat.zero_le _, by show (y 1).val < 0 + 1792; omega⟩
    · refine ⟨_, List.mem_cons_self, ?_⟩
      show y ∈ (Rect.unit (s := S520x1792) ![8, 0] S512x1792.size inb_S520x1792_S512x1792_8_0).set
      rw [Rect.mem_set_unit]
      intro a
      match a with
      | 0 => exact ⟨by show 8 ≤ (y 0).val; omega, by show (y 0).val < 8 + 512; omega⟩
      | 1 => exact ⟨Nat.zero_le _, by show (y 1).val < 0 + 1792; omega⟩
  unfold kernelRun0_A.sl.v15
  rw [View.readCov_eq_canon_ld _ _ _ hc]
  refine (View.ld_unit_apply_of _ _ _ _ _ (ix2 ⟨7 + r.val, by omega⟩ j) (by intro a; match a with
    | 0 => rfl
    | 1 => exact (Nat.zero_add _).symm)).trans ?_
  have h0 := View.canon_append_of_piecesOf _ [] _ hp (ix2 ⟨7 + r.val, by omega⟩ j) (hc _)
  rw [List.append_nil] at h0
  rw [h0]
  unfold staged above
  by_cases h : r.val = 0
  · rw [dif_pos (by show 7 + r.val < 8; omega), if_pos h]
    congr 3
    exact Fin.ext (by show 7 + r.val = 7; omega)
  · rw [dif_neg (by show ¬ 7 + r.val < 8; omega), if_neg h]
    congr 2
    exact Fin.ext (by show 7 + r.val - 8 = r.val - 1; omega)

/-- The rows read one above the tile's, row by row. -/
theorem prevRowA (r : Fin 512) : (fun j => kernelRun0_A.sl.v15 (F := Ideal) c i arg2 harg2 arg3 harg3 arg18 x0 x1 (ix2 r j))
    = above (i 1).val x0 x1 r := funext fun j => prevA c i arg2 harg2 arg3 harg3 arg18 x0 x1 r j

variable (W : Weights) (hW : Holds W x2 x5 x6 x7 x9 x10 x11)
include hW

/-- The gate's block after a first tile. -/
theorem gateA (r j : Fin 512) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 0 r j)
    = gate W (mixed W (fun j => x0 (ix3 0 r j)) (above (i 1).val x0 x1 r)) j := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  rw [View.canon_cons_unit_lit' _ _ _ (by decide)]
  unfold kernelRun0_A.sl.r_10 kernelRun0_A.sl.r_4
  simp only [View.readAt_eq_ld, Memref.IsWhole.read_unread]
  rw [View.ld_unit_lit _ _ (by decide), View.ld_unit_lit _ _ (by decide), View.ld_unit_lit _ _ (by decide)]
  rw [pay21_apply hW, prevRowA c i arg2 harg2 arg3 harg3 arg18 x0 x1 r]

/-- The bonus's block after a first tile. -/
theorem bonusA (r j : Fin 512) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 0 r j)
    = bonus W (mixed W (fun j => x0 (ix3 0 r j)) (above (i 1).val x0 x1 r)) j := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  rw [View.canon_cons_unit_lit' _ _ _ (by decide)]
  unfold kernelRun0_A.sl.r kernelRun0_A.sl.r_1 kernelRun0_A.sl.r_2 kernelRun0_A.sl.r_9 kernelRun0_A.sl.r_3
  simp only [View.readAt_eq_ld, Memref.IsWhole.read_unread]
  rw [View.ld_unit_lit _ x9 (by decide), View.ld_unit_lit _ x10 (by decide), View.ld_unit_lit _ x11 (by decide),
    View.ld_unit_lit _ x0 (by decide), View.ld_unit_lit _ x2 (by decide), View.ld_unit_lit _ x5 (by decide),
    View.ld_unit_lit _ x6 (by decide)]
  rw [pay22_apply hW, prevRowA c i arg2 harg2 arg3 harg3 arg18 x0 x1 r]

end

section
variable (c : Dev nD) (i : grid0.Coords) (arg2 : Memref sig .tc .vmem S1x512x1792 .f32) (harg2 : arg2.IsWhole) (arg3 : Memref sig .tc .vmem S1x8x1792 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S64x512 .bf16) (harg6 : arg6.IsWhole) (arg7 : Memref sig .tc .vmem S1x512 .f32) (harg7 : arg7.IsWhole) (arg8 : Memref sig .tc .vmem S64x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S64x512 .f32) (harg17 : arg17.IsWhole) (arg18 : Memref sig .tc .vmem S520x1792 .f32) (harg18 : arg18.IsWhole) (hc0 : ¬cond0_0 i)
  (x0 : Vec Ideal S1x512x1792 .f32) (x1 : Vec Ideal S1x8x1792 .f32) (x2 : Vec Ideal S1x1792 .f32) (x3 : Vec Ideal S1x512 .f32) (x4 : Vec Ideal S64x512 .bf16) (x5 : Vec Ideal S1x512 .f32) (x6 : Vec Ideal S64x512 .bf16) (x7 : Vec Ideal S128x512 .bf16) (x8 : Vec Ideal S1x512 .f32) (x9 : Vec Ideal S1x512 .f32) (x10 : Vec Ideal S1x512 .f32) (x11 : Vec Ideal S512x512 .bf16) (xs0 : Vec Ideal S64x512 .f32)

/-- The rows read one above the tile's, at a later tile. -/
theorem prevB (r : Fin 512) (j : Fin 1792) :
    kernelRun0_B.sl.v15 (F := Ideal) c i arg2 harg2 arg3 harg3 arg18 x0 x1 (ix2 r j) = above (i 1).val x0 x1 r j := by
  have hp : View.PiecesOf (staged (i 1).val x0 x1) (kernelRun0_B.sl.HS1_2 (F := Ideal) c i arg2 harg2 arg3 harg3 x0 x1) := by
    unfold kernelRun0_B.sl.HS1_2
    try unfold kernelRun0_B.sl.HS1_1
    simp only [View.readAt_eq_ld, Memref.IsWhole.read_unread]
    rw [View.ld_unit_lit _ _ (by decide), View.ld_unit_lit _ _ (by decide)]
    refine ⟨fun x => ?_, fun x => ?_, trivial⟩
    · obtain ⟨r, j, rfl⟩ : ∃ (r : Fin 512) (j : Fin 1792), x = ix2 r j := ⟨x 0, x 1, flat2 x⟩
      show k0_pay2 x0 (ix2 r j) = _
      rw [pay2_apply]
      have e : (Rect.unit (s := S520x1792) ![8, 0] S512x1792.size inb_S520x1792_S512x1792_8_0).emb (ix2 r j) = ix2 (⟨8 + r.val, by omega⟩ : Fin 520) j := by
        blk_ext
      rw [e, staged, dif_neg (by show ¬ 8 + r.val < 8; omega)]
      congr 2
      exact Fin.ext (by show r.val = 8 + r.val - 8; omega)
    · obtain ⟨r, j, rfl⟩ : ∃ (r : Fin 8) (j : Fin 1792), x = ix2 r j := ⟨x 0, x 1, flat2 x⟩
      show k0_pay1 i x1 (ix2 r j) = _
      rw [pay1_apply]
      have e : (Rect.unit (s := S520x1792) ![0, 0] S8x1792.size inb_S520x1792_S8x1792_0_0).emb (ix2 r j) = ix2 (⟨r.val, by omega⟩ : Fin 520) j := by
        blk_ext
      rw [e, staged, dif_pos (by show r.val < 8; omega)]
      rfl
  have hc : ∀ y, ∃ p ∈ kernelRun0_B.sl.HS1_2 (F := Ideal) c i arg2 harg2 arg3 harg3 x0 x1, y ∈ p.1.set := by
    intro y
    unfold kernelRun0_B.sl.HS1_2
    try unfold kernelRun0_B.sl.HS1_1
    have y0 : (y 0).val < 520 := (y 0).isLt
    have y1 : (y 1).val < 1792 := (y 1).isLt
    by_cases h : (y 0).val < 8
    · refine ⟨_, List.mem_cons_of_mem _ List.mem_cons_self, ?_⟩
      show y ∈ (Rect.unit (s := S520x1792) ![0, 0] S8x1792.size inb_S520x1792_S8x1792_0_0).set
      rw [Rect.mem_set_unit]
      intro a
      match a with
      | 0 => exact ⟨Nat.zero_le _, by show (y 0).val < 0 + 8; omega⟩
      | 1 => exact ⟨Nat.zero_le _, by show (y 1).val < 0 + 1792; omega⟩
    · refine ⟨_, List.mem_cons_self, ?_⟩
      show y ∈ (Rect.unit (s := S520x1792) ![8, 0] S512x1792.size inb_S520x1792_S512x1792_8_0).set
      rw [Rect.mem_set_unit]
      intro a
      match a with
      | 0 => exact ⟨by show 8 ≤ (y 0).val; omega, by show (y 0).val < 8 + 512; omega⟩
      | 1 => exact ⟨Nat.zero_le _, by show (y 1).val < 0 + 1792; omega⟩
  unfold kernelRun0_B.sl.v15
  rw [View.readCov_eq_canon_ld _ _ _ hc]
  refine (View.ld_unit_apply_of _ _ _ _ _ (ix2 ⟨7 + r.val, by omega⟩ j) (by intro a; match a with
    | 0 => rfl
    | 1 => exact (Nat.zero_add _).symm)).trans ?_
  have h0 := View.canon_append_of_piecesOf _ [] _ hp (ix2 ⟨7 + r.val, by omega⟩ j) (hc _)
  rw [List.append_nil] at h0
  rw [h0]
  unfold staged above
  by_cases h : r.val = 0
  · rw [dif_pos (by show 7 + r.val < 8; omega), if_pos h]
    congr 3
    exact Fin.ext (by show 7 + r.val = 7; omega)
  · rw [dif_neg (by show ¬ 7 + r.val < 8; omega), if_neg h]
    congr 2
    exact Fin.ext (by show 7 + r.val - 8 = r.val - 1; omega)

/-- The rows read one above the tile's, row by row. -/
theorem prevRowB (r : Fin 512) : (fun j => kernelRun0_B.sl.v15 (F := Ideal) c i arg2 harg2 arg3 harg3 arg18 x0 x1 (ix2 r j))
    = above (i 1).val x0 x1 r := funext fun j => prevB c i arg2 harg2 arg3 harg3 arg18 x0 x1 r j

variable (W : Weights) (hW : Holds W x2 x5 x6 x7 x9 x10 x11)
include hW

/-- The gate's block after a later tile. -/
theorem gateB (r j : Fin 512) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 (ix3 0 r j)
    = gate W (mixed W (fun j => x0 (ix3 0 r j)) (above (i 1).val x0 x1 r)) j := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  rw [View.canon_cons_unit_lit' _ _ _ (by decide)]
  unfold kernelRun0_B.sl.r_10 kernelRun0_B.sl.r_4
  simp only [View.readAt_eq_ld, Memref.IsWhole.read_unread]
  rw [View.ld_unit_lit _ _ (by decide), View.ld_unit_lit _ _ (by decide), View.ld_unit_lit _ _ (by decide)]
  rw [pay21_apply hW, prevRowB c i arg2 harg2 arg3 harg3 arg18 x0 x1 r]

/-- The bonus's block after a later tile. -/
theorem bonusB (r j : Fin 512) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 (ix3 0 r j)
    = bonus W (mixed W (fun j => x0 (ix3 0 r j)) (above (i 1).val x0 x1 r)) j := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  rw [View.canon_cons_unit_lit' _ _ _ (by decide)]
  unfold kernelRun0_B.sl.r kernelRun0_B.sl.r_1 kernelRun0_B.sl.r_2 kernelRun0_B.sl.r_9 kernelRun0_B.sl.r_3
  simp only [View.readAt_eq_ld, Memref.IsWhole.read_unread]
  rw [View.ld_unit_lit _ x9 (by decide), View.ld_unit_lit _ x10 (by decide), View.ld_unit_lit _ x11 (by decide),
    View.ld_unit_lit _ x0 (by decide), View.ld_unit_lit _ x2 (by decide), View.ld_unit_lit _ x5 (by decide),
    View.ld_unit_lit _ x6 (by decide)]
  rw [pay22_apply hW, prevRowB c i arg2 harg2 arg3 harg3 arg18 x0 x1 r]

end

end Cert.Proof.WkvBlock

end
-- ==== Proof.WkvHost.lean ====
/-
  The arrays that the `WkvIdeal` program's host part lays out for the kernel: the weights and the head mask.
-/
module

public import proofs.«01_k».proof.Proof.WkvPayload
public import proofs.«01_k».proof.Proof.FfnHost
public import proofs.«01_k».proof.Proof.Gen.WkvIdeal.Value
public import Idealize.ShloMosaic.Lib.Pointwise
public import Idealize.ShloMosaic.Lib.StableHlo.RunRead
public import Idealize.ShloMosaic.Lib.Pipeline.ValueKit

@[expose] public section

set_option maxRecDepth 65536
set_option maxHeartbeats 4000000

noncomputable section

namespace Cert.Proof.WkvHost

open Idealize.ShloMosaic Idealize.ShloMosaic.TcCoe Idealize.SL.Sem
open Cert.WkvIdeal Cert.WkvIdeal.Gen
open Cert.Proof.WkvSpec
open Cert.Proof.FfnSpec (sameHead)
open Cert.Proof.FfnHost (floorDiv64 cmp_head)

variable (m : (ℓ : Loc nD τ sig) → Buf (Elt Ideal) ℓ) (c : Dev nD)

/-- The weights held by the program's arguments. -/
abbrev weights : Weights := weightsOf (m ((c : Thread nD τ).loc main_arg1)) (m ((c : Thread nD τ).loc main_arg4))
  (m ((c : Thread nD τ).loc main_arg5)) (m ((c : Thread nD τ).loc main_arg6)) (m ((c : Thread nD τ).loc main_arg8))
  (m ((c : Thread nD τ).loc main_arg9))

/-- The mixing weights. -/
theorem V_mu (j : Fin 1792) : V m c main_v10 (ix2 0 j) = (weights m c).mu j := by
  unfold_abbrev_sides
  simp only [List.flatten_cons, List.flatten_nil, List.append_nil, List.cons_append, List.nil_append]
  after_reads_simp
  pointwise [weightsOf]

/-- The learning rate's offset. -/
theorem V_a0 (j : Fin 512) : V m c main_v16 (ix2 0 j) = (weights m c).a0 j := by
  unfold_abbrev_sides
  simp only [List.flatten_cons, List.flatten_nil, List.append_nil, List.cons_append, List.nil_append]
  after_reads_simp
  pointwise [weightsOf]

/-- The learning rate's matrix. -/
theorem V_a2 (k : Fin 64) (j : Fin 512) : V m c main_v18 (ix2 k j) = (weights m c).a2 k j := by
  unfold_abbrev_sides
  simp only [List.flatten_cons, List.flatten_nil, List.append_nil, List.cons_append, List.nil_append]
  after_reads_simp
  pointwise [weightsOf]

/-- The gate's matrix. -/
theorem V_g2 (k : Fin 128) (j : Fin 512) : V m c main_v20 (ix2 k j) = (weights m c).g2 k j := by
  unfold_abbrev_sides
  simp only [List.flatten_cons, List.flatten_nil, List.append_nil, List.cons_append, List.nil_append]
  after_reads_simp
  pointwise [weightsOf]

/-- The key's weights on the learning rate. -/
theorem V_ka (j : Fin 512) : V m c main_v24 (ix2 0 j) = (weights m c).ka j := by
  unfold_abbrev_sides
  simp only [List.flatten_cons, List.flatten_nil, List.append_nil, List.cons_append, List.nil_append]
  after_reads_simp
  pointwise [weightsOf]

/-- The bonus's weights, the heads in a row. -/
theorem V_rk (j : Fin 512) : V m c main_v26 (ix2 0 j) = (weights m c).rk j := by
  unfold_abbrev_sides
  simp only [List.flatten_cons, List.flatten_nil, List.append_nil, List.cons_append, List.nil_append]
  after_reads_simp
  pointwise [weightsOf]

/-- The head mask: one where two lanes belong to the same head. -/
theorem V_bd (k j : Fin 512) : V m c main_v8 (ix2 k j) = sameHead k j := by
  unfold_abbrev_sides
  simp only [List.flatten_cons, List.flatten_nil, List.append_nil, List.cons_append, List.nil_append]
  after_reads_simp
  simp only [StableHlo.TRef.ofBuf, StableHlo.TRef.toBuf, cast_eq]
  pointwise
  have hc : id (constantI S_ 32 64#32) ix0 = 64#32 := rfl
  simp only [hc]
  rw [floorDiv64 k, floorDiv64 j]
  have hh := cmp_head ⟨k.val / 64, by omega⟩ ⟨j.val / 64, by omega⟩
  simp only at hh
  rw [hh, sameHead]
  by_cases h : k.val / 64 = j.val / 64 <;> simp only [h, if_true, if_false] <;>
    simp [FloatOps.uitofp]

end Cert.Proof.WkvHost

end
-- ==== Proof.WkvArray.lean ====
/-
  The gate and the bonus arrays that the `WkvIdeal` kernel leaves, token by token: the staged blocks are read off the
  arguments, the halo being the eight rows before the tile.
-/
module

public import proofs.«01_k».proof.Proof.WkvBlock
public import proofs.«01_k».proof.Proof.WkvHost
public import proofs.«01_k».proof.Proof.ProjTile

@[expose] public section

set_option maxRecDepth 65536
set_option maxHeartbeats 4000000

noncomputable section

namespace Cert.Proof.WkvArray

open Idealize.ShloMosaic Idealize.ShloMosaic.TcCoe Idealize.SL.Sem
open Cert.WkvIdeal Cert.WkvIdeal.Gen
open Cert.Proof.WkvSpec Cert.Proof.WkvPayload Cert.Proof.WkvHost Cert.Proof.WkvBlock
open Cert.Proof.FfnSpec (Box)
open Cert.Proof.ProjTile (flat3)

/-- Window 0 stands at the grid point's tile. -/
theorem index0 : ∀ t : Fin cfg0.N, win0_0.index t = ![t.val / 16, t.val % 16, 0] := by decide +kernel
/-- Window 1 is the eight rows before the tile, or the sequence's first eight. -/
theorem index1 : ∀ t : Fin cfg0.N, win0_1.index t = ![t.val / 16, 64 * (t.val % 16) - 1, 0] := by decide +kernel
/-- Window 2 is its whole array. -/
theorem index2 : ∀ t : Fin cfg0.N, win0_2.index t = ![0, 0] := by decide +kernel
/-- Window 5 is its whole array. -/
theorem index5 : ∀ t : Fin cfg0.N, win0_5.index t = ![0, 0] := by decide +kernel
/-- Window 6 is its whole array. -/
theorem index6 : ∀ t : Fin cfg0.N, win0_6.index t = ![0, 0] := by decide +kernel
/-- Window 7 is its whole array. -/
theorem index7 : ∀ t : Fin cfg0.N, win0_7.index t = ![0, 0] := by decide +kernel
/-- Window 9 is its whole array. -/
theorem index9 : ∀ t : Fin cfg0.N, win0_9.index t = ![0, 0] := by decide +kernel
/-- Window 10 is its whole array. -/
theorem index10 : ∀ t : Fin cfg0.N, win0_10.index t = ![0, 0] := by decide +kernel
/-- Window 11 is its whole array. -/
theorem index11 : ∀ t : Fin cfg0.N, win0_11.index t = ![0, 0] := by decide +kernel
/-- Window 13 stands at the grid point's tile. -/
theorem index13 : ∀ t : Fin cfg0.N, win0_13.index t = ![t.val / 16, t.val % 16, 0] := by decide +kernel
/-- Window 14 stands at the grid point's tile. -/
theorem index14 : ∀ t : Fin cfg0.N, win0_14.index t = ![t.val / 16, t.val % 16, 0] := by decide +kernel
/-- The second grid axis counts a sequence's tiles. -/
theorem coord : ∀ t : Fin cfg0.N, (grid0.coords t 1).val = t.val % 16 := by decide +kernel

variable (m : (ℓ : Loc nD τ sig) → Buf (Elt Ideal) ℓ) (c : Dev nD)

/-- The input rows held by the program's first argument. -/
abbrev input : Box 2 8192 1792 := m ((c : Thread nD τ).loc main_arg0)

/-- A tile's entry. -/
theorem iblk_0 (t : Fin cfg0.N) (r : Fin 512) (j : Fin 1792) (b : Fin 2) (s : Fin 8192) (hb : b.val = t.val / 16)
    (hs : s.val = 512 * (t.val % 16) + r.val) : iblk m c 0 t (ix3 0 r j) = input m c (ix3 b s j) := by
  show iblk m c 0 t (ix3 0 r j) = V m c main_arg0 (ix3 b s j)
  blk_simp [iblk, index0]
  refine congrArg (V m c main_arg0) ?_
  blk_ext [index0]

/-- The halo's last row is the row before the tile, where the tile is not a sequence's first. -/
theorem iblk_1 (t : Fin cfg0.N) (j : Fin 1792) (b : Fin 2) (s : Fin 8192) (hb : b.val = t.val / 16)
    (h : ¬ t.val % 16 = 0) (hs : s.val = 512 * (t.val % 16) - 1) : iblk m c 1 t (ix3 0 7 j) = input m c (ix3 b s j) := by
  show iblk m c 1 t (ix3 0 7 j) = V m c main_arg0 (ix3 b s j)
  blk_simp [iblk, index1]
  refine congrArg (V m c main_arg0) ?_
  blk_ext [index1]
/-- A weight's entry. -/
theorem iblk_2 (t : Fin cfg0.N) (r : Fin 1) (j : Fin 1792) : iblk m c 2 t (ix2 r j) = V m c main_v10 (ix2 r j) := by
  blk_simp [iblk, index2]
  refine congrArg (V m c main_v10) ?_
  blk_ext [index2]
/-- A weight's entry. -/
theorem iblk_5 (t : Fin cfg0.N) (r : Fin 1) (j : Fin 512) : iblk m c 5 t (ix2 r j) = V m c main_v16 (ix2 r j) := by
  blk_simp [iblk, index5]
  refine congrArg (V m c main_v16) ?_
  blk_ext [index5]
/-- A weight's entry. -/
theorem iblk_6 (t : Fin cfg0.N) (r : Fin 64) (j : Fin 512) : iblk m c 6 t (ix2 r j) = V m c main_v18 (ix2 r j) := by
  blk_simp [iblk, index6]
  refine congrArg (V m c main_v18) ?_
  blk_ext [index6]
/-- A weight's entry. -/
theorem iblk_7 (t : Fin cfg0.N) (r : Fin 128) (j : Fin 512) : iblk m c 7 t (ix2 r j) = V m c main_v20 (ix2 r j) := by
  blk_simp [iblk, index7]
  refine congrArg (V m c main_v20) ?_
  blk_ext [index7]
/-- A weight's entry. -/
theorem iblk_9 (t : Fin cfg0.N) (r : Fin 1) (j : Fin 512) : iblk m c 9 t (ix2 r j) = V m c main_v24 (ix2 r j) := by
  blk_simp [iblk, index9]
  refine congrArg (V m c main_v24) ?_
  blk_ext [index9]
/-- A weight's entry. -/
theorem iblk_10 (t : Fin cfg0.N) (r : Fin 1) (j : Fin 512) : iblk m c 10 t (ix2 r j) = V m c main_v26 (ix2 r j) := by
  blk_simp [iblk, index10]
  refine congrArg (V m c main_v26) ?_
  blk_ext [index10]
/-- A weight's entry. -/
theorem iblk_11 (t : Fin cfg0.N) (r : Fin 512) (j : Fin 512) : iblk m c 11 t (ix2 r j) = V m c main_v8 (ix2 r j) := by
  blk_simp [iblk, index11]
  refine congrArg (V m c main_v8) ?_
  blk_ext [index11]

/-- The staged weight blocks hold the weights at every grid point. -/
theorem holds (t : Fin cfg0.N) : Holds (weights m c) (iblk m c 2 t) (iblk m c 5 t) (iblk m c 6 t) (iblk m c 7 t)
    (iblk m c 9 t) (iblk m c 10 t) (iblk m c 11 t) where
  mu j := by rw [iblk_2, V_mu]
  a0 j := by rw [iblk_5, V_a0]
  a2 k j := by rw [iblk_6, V_a2]
  g2 k j := by rw [iblk_7, V_g2]
  ka j := by rw [iblk_9, V_ka]
  rk j := by rw [iblk_10, V_rk]
  bd k j := by rw [iblk_11, V_bd]

/-- The mixed rows of a tile are its tokens'. -/
theorem row_eq (t : Fin cfg0.N) (r : Fin 512) (b : Fin 2) (s : Fin 8192) (hb : b.val = t.val / 16)
    (hs : s.val = 512 * (t.val % 16) + r.val) :
    mixed (weights m c) (fun j => iblk m c 0 t (ix3 0 r j)) (above (grid0.coords t 1).val (iblk m c 0 t) (iblk m c 1 t) r)
      = row (weights m c) (input m c) b s := by
  have h0 : (fun j => iblk m c 0 t (ix3 0 r j)) = fun j => input m c (ix3 b s j) :=
    funext fun j => iblk_0 m c t r j b s hb hs
  have h1 : above (grid0.coords t 1).val (iblk m c 0 t) (iblk m c 1 t) r = before (input m c) b s := by
    funext j
    unfold above before
    rw [coord]
    by_cases hr : r.val = 0
    · rw [if_pos hr]
      by_cases ht : t.val % 16 = 0
      · rw [if_pos ht, if_neg (by omega)]
      · rw [if_neg ht, if_pos (by omega)]
        exact iblk_1 m c t j b ⟨s.val - 1, by omega⟩ hb ht (by show s.val - 1 = _; omega)
    · rw [if_neg hr, if_pos (by omega)]
      exact iblk_0 m c t ⟨r.val - 1, by omega⟩ j b ⟨s.val - 1, by omega⟩ hb (by show s.val - 1 = _ + (r.val - 1); omega)
  rw [h0, h1]
  rfl

/-- The gate as an array. -/
def array13 : S2x8192x512.Idx → EReal := fun i => gate (weights m c) (row (weights m c) (input m c) (i 0) (i 1)) (i 2)

/-- A block's entry stands at its tile's place. -/
theorem emb13 (t : Fin cfg0.N) (r j : Fin 512) (b : Fin 2) (s : Fin 8192) (hb : b.val = t.val / 16)
    (hs : s.val = 512 * (t.val % 16) + r.val) : (win0_13.blk t).view.emb (ix3 0 r j) = (ix3 b s j) := by
  blk_ext [index13]

/-- The gate after the run. -/
theorem array13_eq : (dats m 0 c).arrAt 13 cfg0.N = array13 m c := by
  refine (dats m 0 c).arrAt_eq_of_covers 13 _ (by decide +kernel) fun t hf y => ?_
  obtain ⟨r, j, rfl⟩ : ∃ (r j : Fin 512), y = ix3 0 r j := ⟨y 1, y 2, flat3 y⟩
  have ht : t.val < 32 := t.isLt
  blk_simp [index13]
  rw [emb13 t r j ⟨t.val / 16, by omega⟩ ⟨512 * (t.val % 16) + r.val, by omega⟩ rfl rfl]
  by_cases h : t.val % 16 = 0
  · rw [after0_13, outsAt0_A m c t h]
    dsimp only
    rw [gateA (W := weights m c) (hW := holds m c t), row_eq m c t r ⟨t.val / 16, by omega⟩ ⟨512 * (t.val % 16) + r.val, by omega⟩ rfl rfl]
    rfl
  · rw [after0_13, outsAt0_B m c t h]
    dsimp only
    rw [gateB (W := weights m c) (hW := holds m c t), row_eq m c t r ⟨t.val / 16, by omega⟩ ⟨512 * (t.val % 16) + r.val, by omega⟩ rfl rfl]
    rfl

/-- The bonus as an array. -/
def array14 : S2x8192x512.Idx → EReal := fun i => bonus (weights m c) (row (weights m c) (input m c) (i 0) (i 1)) (i 2)

/-- A block's entry stands at its tile's place. -/
theorem emb14 (t : Fin cfg0.N) (r j : Fin 512) (b : Fin 2) (s : Fin 8192) (hb : b.val = t.val / 16)
    (hs : s.val = 512 * (t.val % 16) + r.val) : (win0_14.blk t).view.emb (ix3 0 r j) = (ix3 b s j) := by
  blk_ext [index14]

/-- The bonus after the run. -/
theorem array14_eq : (dats m 0 c).arrAt 14 cfg0.N = array14 m c := by
  refine (dats m 0 c).arrAt_eq_of_covers 14 _ (by decide +kernel) fun t hf y => ?_
  obtain ⟨r, j, rfl⟩ : ∃ (r j : Fin 512), y = ix3 0 r j := ⟨y 1, y 2, flat3 y⟩
  have ht : t.val < 32 := t.isLt
  blk_simp [index14]
  rw [emb14 t r j ⟨t.val / 16, by omega⟩ ⟨512 * (t.val % 16) + r.val, by omega⟩ rfl rfl]
  by_cases h : t.val % 16 = 0
  · rw [after0_14, outsAt0_A m c t h]
    dsimp only
    rw [bonusA (W := weights m c) (hW := holds m c t), row_eq m c t r ⟨t.val / 16, by omega⟩ ⟨512 * (t.val % 16) + r.val, by omega⟩ rfl rfl]
    rfl
  · rw [after0_14, outsAt0_B m c t h]
    dsimp only
    rw [bonusB (W := weights m c) (hW := holds m c t), row_eq m c t r ⟨t.val / 16, by omega⟩ ⟨512 * (t.val % 16) + r.val, by omega⟩ rfl rfl]
    rfl

end Cert.Proof.WkvArray

end
-- ==== Proof.WkvReference.lean ====
/-
  What the recurrence's reference leaves as its gate and its bonus: they are made after its scan, from the arguments
  alone, and are the gate and the bonus of every token's mixed row.
-/
module

public import proofs.«01_k».proof.Proof.WkvSpec
public import proofs.«01_k».proof.Proof.Gen.WkvRefIdeal.Run
public import Idealize.ShloMosaic.Lib.Pointwise

@[expose] public section

set_option maxRecDepth 65536
set_option maxHeartbeats 4000000

noncomputable section

namespace Cert.Proof.WkvReference

open Idealize.ShloMosaic Idealize.ShloMosaic.TcCoe Idealize.ShloMosaic.StableHlo Idealize.SL.Sem
open Cert.WkvRefIdeal Cert.WkvRefIdeal.Gen Cert.WkvRefIdeal.Value
open Cert.Proof.WkvSpec
open Cert.Proof.FfnSpec (Mat Box headSum headLane)
open scoped BigOperators

variable (x : Box 2 8192 1792) (mu : Mat 1 1792) (a0 : Mat 1 512) (a2 : Box 1 64 512) (g2 : Box 1 128 512) (ka : Mat 1 512)
  (rk : Box 1 8 64)

/-- The mixed rows as the reference makes them: the shifted rows less the rows, times the mixing weights. -/
def mixedArray : FVec Ideal S2x8192x1792 .f32 :=
  addf x (mulf (subf (extractStridedSlice S2x8192x1792 ![0, 0, 0] (pad S2x8193x1792 ![0, 1, 0] ![0, 0, 0] ![0, 0, 0] x (sitofp .f32 (constantI S_ 32 0#32)) pads_S2x8192x1792_S2x8193x1792_000_100_000 h_S_) slices_S2x8193x1792_S2x8192x1792_0_0_0) x) (broadcastInDim S2x8192x1792 ![0, 1, 2] bcast_S1x1x1792_S2x8192x1792_0_1_2 (broadcastInDim S1x1x1792 ![2] bcast_S1792_S1x1x1792_2 (shapeCast _ mu shapeCasts_S1x1792_S1792))))

/-- An entry of the mixed rows. -/
theorem mixedArray_apply (b : Fin 2) (s : Fin 8192) (c : Fin 1792) :
    mixedArray x mu (ix3 b s c) = row (weightsOf mu a0 a2 g2 ka rk) x b s c := by
  pointwise [mixedArray, row, mixed, before, weightsOf]
  by_cases h : 1 ≤ s.val
  · simp only [h, if_true, show s.val - 1 < 8192 by omega, and_self, dite_true]
  · simp only [h, if_false, false_and, dite_false]
    simp [FloatOps.sitofp]

/-- The learning rates as the reference makes them. -/
def rateArray (u : FVec Ideal S2x8192x1792 .f32) : FVec Ideal S2x8192x512 .f32 :=
  Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (addf (broadcastInDim S2x8192x512 ![0, 1, 2] bcast_S1x1x512_S2x8192x512_0_1_2 (broadcastInDim S1x1x512 ![2] bcast_S512_S1x1x512_2 (shapeCast _ a0 shapeCasts_S1x512_S512))) (Host.dotGeneral (φ₁ := .f32) (φ₂ := .f32) dot_S2x8192x64_S64x512_S2x8192x512_2_0_01_1_n_n none (extractStridedSlice S2x8192x64 ![0, 0, 1600] u slices_S2x8192x1792_S2x8192x64_0_0_1600) (shapeCast _ a2 shapeCasts_S1x64x512_S64x512 : FVec Ideal S64x512 .f32))))))

/-- The keys as the reference makes them. -/
def keyArray (u : FVec Ideal S2x8192x1792 .f32) (r : FVec Ideal S2x8192x512 .f32) : FVec Ideal S2x8192x512 .f32 :=
  mulf (extractStridedSlice S2x8192x512 ![0, 0, 512] u slices_S2x8192x1792_S2x8192x512_0_0_512) (addf (broadcastInDim S2x8192x512 ![] bcast_S_S2x8192x512 (constant S_ .f32 0x3F800000#32)) (mulf (subf r (broadcastInDim S2x8192x512 ![] bcast_S_S2x8192x512 (constant S_ .f32 0x3F800000#32))) (broadcastInDim S2x8192x512 ![0, 1, 2] bcast_S1x1x512_S2x8192x512_0_1_2 (broadcastInDim S1x1x512 ![2] bcast_S512_S1x1x512_2 (shapeCast _ ka shapeCasts_S1x512_S512)))))

/-- The gate as the reference makes it. -/
def gateArray (u : FVec Ideal S2x8192x1792 .f32) : FVec Ideal S2x8192x512 .f32 :=
  Host.dotGeneral (φ₁ := .f32) (φ₂ := .f32) dot_S2x8192x128_S128x512_S2x8192x512_2_0_01_1_n_n none (Host.divf (broadcastInDim S2x8192x128 ![] bcast_S_S2x8192x128 (constant S_ .f32 0x3F800000#32)) (addf (broadcastInDim S2x8192x128 ![] bcast_S_S2x8192x128 (constant S_ .f32 0x3F800000#32)) (Host.exp (Host.negf (extractStridedSlice S2x8192x128 ![0, 0, 1664] u slices_S2x8192x1792_S2x8192x128_0_0_1664))))) (shapeCast _ g2 shapeCasts_S1x128x512_S128x512 : FVec Ideal S128x512 .f32)

/-- The bonus as the reference makes it. -/
def bonusArray (u : FVec Ideal S2x8192x1792 .f32) (k : FVec Ideal S2x8192x512 .f32) : FVec Ideal S2x8192x512 .f32 :=
  shapeCast _ (mulf (broadcastInDim S2x8192x8x64 ![0, 1, 2, 3] bcast_S2x8192x8x1_S2x8192x8x64_0_1_2_3 (broadcastInDim S2x8192x8x1 ![0, 1, 2] bcast_S2x8192x8_S2x8192x8x1_0_1_2 (Host.reduceAdd (mulf (mulf (shapeCast _ (extractStridedSlice S2x8192x512 ![0, 0, 0] u slices_S2x8192x1792_S2x8192x512_0_0_0) shapeCasts_S2x8192x512_S2x8192x8x64) (shapeCast _ k shapeCasts_S2x8192x512_S2x8192x8x64)) (broadcastInDim S2x8192x8x64 ![0, 1, 2, 3] bcast_S1x1x8x64_S2x8192x8x64_0_1_2_3 (broadcastInDim S1x1x8x64 ![2, 3] bcast_S8x64_S1x1x8x64_2_3 (shapeCast _ rk shapeCasts_S1x8x64_S8x64)))) (constant S_ .f32 0x00000000#32) reducesTo_S2x8192x8x64_S2x8192x8_d3 h_S_))) (shapeCast _ (extractStridedSlice S2x8192x512 ![0, 0, 1024] u slices_S2x8192x1792_S2x8192x512_0_0_1024) shapeCasts_S2x8192x512_S2x8192x8x64)) shapeCasts_S2x8192x8x64_S2x8192x512

/-- An entry of the learning rates. -/
theorem rateArray_apply (u : FVec Ideal S2x8192x1792 .f32) (b : Fin 2) (s : Fin 8192) (j : Fin 512) :
    rateArray a0 a2 u (ix3 b s j) = rate (weightsOf mu a0 a2 g2 ka rk) (fun c => u (ix3 b s c)) j := by
  pointwise [rateArray, rate, weightsOf]
  rfl

/-- An entry of the keys. -/
theorem keyArray_apply (u : FVec Ideal S2x8192x1792 .f32) (b : Fin 2) (s : Fin 8192) (j : Fin 512) :
    keyArray ka u (rateArray a0 a2 u) (ix3 b s j) = key (weightsOf mu a0 a2 g2 ka rk) (fun c => u (ix3 b s c)) j := by
  have h := rateArray_apply mu a0 a2 g2 ka rk u b s j
  pointwise [keyArray]
  rw [h]
  rfl

/-- An entry of the gate. -/
theorem gateArray_apply (u : FVec Ideal S2x8192x1792 .f32) (b : Fin 2) (s : Fin 8192) (j : Fin 512) :
    gateArray g2 u (ix3 b s j) = gate (weightsOf mu a0 a2 g2 ka rk) (fun c => u (ix3 b s c)) j := by
  pointwise [gateArray, gate, weightsOf]
  rfl

/-- An entry of the bonus. -/
theorem bonusArray_apply (u : FVec Ideal S2x8192x1792 .f32) (b : Fin 2) (s : Fin 8192) (j : Fin 512) :
    bonusArray rk u (keyArray ka u (rateArray a0 a2 u)) (ix3 b s j)
      = bonus (weightsOf mu a0 a2 g2 ka rk) (fun c => u (ix3 b s c)) j := by
  have h := fun j => keyArray_apply mu a0 a2 g2 ka rk u b s j
  pointwise [bonusArray]
  simp only [h]
  unfold bonus headSum
  refine congrArg (fun z : EReal => z * u (ix3 b s ⟨1024 + j.val, by omega⟩)) (Finset.sum_congr rfl fun k _ => ?_)
  refine congrArg (fun z : EReal => u (ix3 b s ⟨(headLane j k).val, by omega⟩)
    * key (weightsOf mu a0 a2 g2 ka rk) (fun c => u (ix3 b s c)) (headLane j k) * z) ?_
  show rk (ix3 0 _ _) = rk (ix3 0 _ _)
  congr 2 <;> apply Fin.ext
  · show j.val / 64 = (j.val / 64 * 64 + k.val) / 64; omega
  · show k.val = (j.val / 64 * 64 + k.val) % 64; omega

/-- The gate that the reference leaves. -/
theorem out_gate (V0 : Valuation τ sig (Elt Ideal)) :
    out_main_v102 V0 = gateArray (V0 (Proc.devRef .tc main_arg6)) (mixedArray (V0 (Proc.devRef .tc main_arg0)) (V0 (Proc.devRef .tc main_arg1))) := rfl

/-- The bonus that the reference leaves. -/
theorem out_bonus (V0 : Valuation τ sig (Elt Ideal)) :
    out_main_v150 V0 = bonusArray (V0 (Proc.devRef .tc main_arg9)) (mixedArray (V0 (Proc.devRef .tc main_arg0)) (V0 (Proc.devRef .tc main_arg1)))
      (keyArray (V0 (Proc.devRef .tc main_arg8)) (mixedArray (V0 (Proc.devRef .tc main_arg0)) (V0 (Proc.devRef .tc main_arg1)))
        (rateArray (V0 (Proc.devRef .tc main_arg4)) (V0 (Proc.devRef .tc main_arg5)) (mixedArray (V0 (Proc.devRef .tc main_arg0)) (V0 (Proc.devRef .tc main_arg1))))) := rfl

end Cert.Proof.WkvReference

end
-- ==== Proof.WkvEquation.lean ====
/-
  The recurrence's kernel and its reference leave the same gate and the same bonus, token by token.
-/
module

public import proofs.«01_k».proof.Defs
public import proofs.«01_k».proof.Proof.WkvArray
public import proofs.«01_k».proof.Proof.WkvReference
public import Idealize.ShloMosaic.Lib.Claim

@[expose] public section

set_option maxRecDepth 65536
set_option maxHeartbeats 4000000

noncomputable section

namespace Cert.Proof

open Idealize.ShloMosaic Idealize.ShloMosaic.TcCoe Idealize.SL.Sem
open Cert.Proof.WkvSpec
open Cert.Proof.FfnSpec (Mat Box)

/-- The side condition of the mask's operations. -/
instance maskFacts : Cert.On_gate_and_bonus.Facts := ⟨by decide⟩

section
variable (x : Box 2 8192 1792) (mu : Mat 1 1792) (a0 : Mat 1 512) (a2 : Box 1 64 512) (g2 : Box 1 128 512) (ka : Mat 1 512)
  (rk : Box 1 8 64)

/-- The mixed rows of the reference. -/
theorem mixedRow (b : Fin 2) (s : Fin 8192) :
    (fun j => WkvReference.mixedArray x mu (ix3 b s j)) = row (weightsOf mu a0 a2 g2 ka rk) x b s :=
  funext fun j => WkvReference.mixedArray_apply x mu a0 a2 g2 ka rk b s j

/-- The reference's gate at an entry. -/
theorem referenceGate (b : Fin 2) (s : Fin 8192) (j : Fin 512) :
    WkvReference.gateArray g2 (WkvReference.mixedArray x mu) (ix3 b s j)
      = gate (weightsOf mu a0 a2 g2 ka rk) (row (weightsOf mu a0 a2 g2 ka rk) x b s) j := by
  rw [WkvReference.gateArray_apply mu a0 a2 g2 ka rk, mixedRow x mu a0 a2 g2 ka rk]

/-- The reference's bonus at an entry. -/
theorem referenceBonus (b : Fin 2) (s : Fin 8192) (j : Fin 512) :
    WkvReference.bonusArray rk (WkvReference.mixedArray x mu)
        (WkvReference.keyArray ka (WkvReference.mixedArray x mu) (WkvReference.rateArray a0 a2 (WkvReference.mixedArray x mu)))
        (ix3 b s j)
      = bonus (weightsOf mu a0 a2 g2 ka rk) (row (weightsOf mu a0 a2 g2 ka rk) x b s) j := by
  rw [WkvReference.bonusArray_apply mu a0 a2 g2 ka rk, mixedRow x mu a0 a2 g2 ka rk]

end

/-- Over the extended reals the kernel's gate and bonus and the reference's agree at every entry; of the kernel's first
    result nothing is asked, the mask selecting none of it. -/
theorem algebraic_Wkv : Cert.algebraic_WkvIdeal_WkvRefIdeal_on_gate_and_bonus := by
  intro m g m' g' _ hagree
  refine ⟨fun c => (Cert.WkvIdeal.Gen.dats m 0 c).arrAt 12 Cert.WkvIdeal.cfg0.N, fun c => WkvArray.array13 m c,
    fun c => WkvArray.array14 m c, ?_, ?_⟩
  · refine (θ_run Cert.WkvIdeal.defs _ _).mono (fun r h c => ?_) (Cert.WkvIdeal.Value.run_blocks (F := Ideal) m g)
    obtain ⟨hy, hg, hb, hk⟩ := h c
    exact ⟨fun i _ => congrFun hy i, fun i _ => congrFun (hg.trans (WkvArray.array13_eq m c)) i,
      fun i _ => congrFun (hb.trans (WkvArray.array14_eq m c)) i, hk⟩
  · refine (θ_run Cert.WkvRefIdeal.defs _ _).mono (fun r h c => ?_) (Cert.WkvRefIdeal.Value.run (F := Ideal) m' g')
    obtain ⟨hy, hg, hb, hk⟩ := h c
    obtain ⟨h0, h1, h2, h3, h4, h5, h6, h7, h8, h9⟩ := hagree c
    refine ⟨fun i hi => absurd (show (0#1 : BitVec 1) = 1#1 from hi) (by decide), fun i _ => ?_, fun i _ => ?_, hk⟩
    · refine (congrFun hg i).trans ?_
      rw [WkvReference.out_gate, Cert.WkvRefIdeal.Value.iter_main_arg0, Cert.WkvRefIdeal.Value.iter_main_arg1,
        Cert.WkvRefIdeal.Value.iter_main_arg6, h0, h1, h6]
      have e : i = ix3 (i 0) (i 1) (i 2) := by
        funext a
        match a with
        | ⟨0, _⟩ => rfl
        | ⟨1, _⟩ => rfl
        | ⟨2, _⟩ => rfl
      exact (congrArg _ e).trans (referenceGate (m (c.tc.loc Cert.WkvIdeal.main_arg0)) (m (c.tc.loc Cert.WkvIdeal.main_arg1)) (m (c.tc.loc Cert.WkvIdeal.main_arg4)) (m (c.tc.loc Cert.WkvIdeal.main_arg5)) (m (c.tc.loc Cert.WkvIdeal.main_arg6)) (m (c.tc.loc Cert.WkvIdeal.main_arg8)) (m (c.tc.loc Cert.WkvIdeal.main_arg9)) (i 0) (i 1) (i 2))
    · refine (congrFun hb i).trans ?_
      rw [WkvReference.out_bonus, Cert.WkvRefIdeal.Value.iter_main_arg0, Cert.WkvRefIdeal.Value.iter_main_arg1,
        Cert.WkvRefIdeal.Value.iter_main_arg4, Cert.WkvRefIdeal.Value.iter_main_arg5, Cert.WkvRefIdeal.Value.iter_main_arg8,
        Cert.WkvRefIdeal.Value.iter_main_arg9, h0, h1, h4, h5, h8, h9]
      have e : i = ix3 (i 0) (i 1) (i 2) := by
        funext a
        match a with
        | ⟨0, _⟩ => rfl
        | ⟨1, _⟩ => rfl
        | ⟨2, _⟩ => rfl
      exact (congrArg _ e).trans (referenceBonus (m (c.tc.loc Cert.WkvIdeal.main_arg0)) (m (c.tc.loc Cert.WkvIdeal.main_arg1)) (m (c.tc.loc Cert.WkvIdeal.main_arg4)) (m (c.tc.loc Cert.WkvIdeal.main_arg5)) (m (c.tc.loc Cert.WkvIdeal.main_arg6)) (m (c.tc.loc Cert.WkvIdeal.main_arg8)) (m (c.tc.loc Cert.WkvIdeal.main_arg9)) (i 0) (i 1) (i 2))

end Cert.Proof

end
-- ==== Proof.RefFrames.lean ====
/-
  The frames of the three references: a reference writes no argument array and no semaphore, so its generated run gives the
  claim. -/
module

public import proofs.«01_k».proof.Defs
public import proofs.«01_k».proof.Proof.Gen.FfnRefIdeal.Run
public import proofs.«01_k».proof.Proof.Gen.WkvRefIdeal.Run
public import proofs.«01_k».proof.Proof.Gen.ProjRefIdeal.Run
public import Idealize.ShloMosaic.Lib.Claim

@[expose] public section

noncomputable section

namespace Cert.Proof

open Idealize.ShloMosaic Idealize.ShloMosaic.TcCoe Idealize.SL.Sem Idealize.ShloMosaic.StableHlo

/-- The reference of the feed-forward call terminates and leaves its arguments as they were. -/
theorem frame_FfnRefIdeal : Cert.quiescent_FfnRefIdeal (hFfnRefIdeal := Cert.FfnRefIdeal.Gen.facts) := by
  intro m g _
  exact (θ_run Cert.FfnRefIdeal.defs _ _).mono
    (fun r h => ⟨fun c => (h c).2, sem_eq_zero_of_no_sems (by decide) r.2⟩) (Cert.FfnRefIdeal.Value.run m g)

/-- The reference of the recurrence terminates and leaves its arguments as they were. -/
theorem frame_WkvRefIdeal : Cert.quiescent_WkvRefIdeal (hWkvRefIdeal := Cert.WkvRefIdeal.Gen.facts) := by
  intro m g _
  exact (θ_run Cert.WkvRefIdeal.defs _ _).mono
    (fun r h => ⟨fun c => (h c).2.2.2, sem_eq_zero_of_no_sems (by decide) r.2⟩) (Cert.WkvRefIdeal.Value.run m g)

/-- The reference of the projections terminates and leaves its arguments as they were. -/
theorem frame_ProjRefIdeal : Cert.quiescent_ProjRefIdeal (hProjRefIdeal := Cert.ProjRefIdeal.Gen.facts) := by
  intro m g _
  exact (θ_run Cert.ProjRefIdeal.defs _ _).mono
    (fun r h => ⟨fun c => (h c).2.2.2.2.2.2.2.2, sem_eq_zero_of_no_sems (by decide) r.2⟩)
    (Cert.ProjRefIdeal.Value.run m g)

end Cert.Proof

end
-- ==== Proof.lean ====
module

public import proofs.«01_k».proof.Defs
public import proofs.«01_k».proof.Proof.Ffn.Frame
public import proofs.«01_k».proof.Proof.FfnIdeal.Value
public import proofs.«01_k».proof.Proof.FfnEquation
public import proofs.«01_k».proof.Proof.ProjEquation
public import proofs.«01_k».proof.Proof.WkvEquation
public import proofs.«01_k».proof.Proof.RefFrames
public import proofs.«01_k».proof.Proof.Gen.FfnRefIdeal.Read
public import proofs.«01_k».proof.Proof.Gen.Proj.Frame
public import proofs.«01_k».proof.Proof.Gen.ProjIdeal.Value
public import proofs.«01_k».proof.Proof.Gen.ProjRefIdeal.Read
public import proofs.«01_k».proof.Proof.Gen.Wkv.Frame
public import proofs.«01_k».proof.Proof.Gen.WkvIdeal.Value
public import proofs.«01_k».proof.Proof.Gen.WkvRefIdeal.Run
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts, Cert.Wkv.Gen.facts, Cert.WkvIdeal.Gen.facts, Cert.WkvRefIdeal.Gen.facts,
  Cert.Proj.Gen.facts, Cert.ProjIdeal.Gen.facts, Cert.ProjRefIdeal.Gen.facts, maskFacts,
  fun m ρ _ => Cert.Ffn.Gen.frame m ρ, fun m ρ _ => Cert.FfnIdeal.Gen.frame m ρ, frame_FfnRefIdeal,
  fun m ρ _ => Cert.Wkv.Gen.frame m ρ, fun m ρ _ => Cert.WkvIdeal.Gen.frame m ρ, frame_WkvRefIdeal,
  fun m ρ _ => Cert.Proj.Gen.frame m ρ, fun m ρ _ => Cert.ProjIdeal.Gen.frame m ρ, frame_ProjRefIdeal,
  trivial, algebraic_Ffn, trivial, algebraic_Wkv, trivial, algebraic_Proj⟩

end Cert.Proof

end
